-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_positive [hPre_weights_positive : Cert.Pre_weights_positive.Facts] (m : (ℓ : Loc Cert.KernelIdeal.nD Cert.KernelIdeal.τ Cert.KernelIdeal.sig) → Buf (Elt Ideal) ℓ) : Prop :=
  ∀ c : Dev Cert.KernelIdeal.nD,
    (Cert.Pre_weights_positive.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_positive [hPre_weights_positive : Cert.Pre_weights_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_positive.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_weights_positive [hKernelIdeal : Cert.KernelIdeal.Facts] [hPre_weights_positive : Cert.Pre_weights_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_weights_positive [hReferenceIdeal : Cert.ReferenceIdeal.Facts] [hPre_weights_positive : Cert.Pre_weights_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_quotient_defined [hKernelIdeal : Cert.KernelIdeal.Facts] [hReferenceIdeal : Cert.ReferenceIdeal.Facts] [hOn_quotient_defined : Cert.On_quotient_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 512, 512, 3]⟩ : Shape).Idx, (Cert.On_quotient_defined.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 512, 512, 3]⟩ : Shape).Idx, (Cert.On_quotient_defined.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v23) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_pre_weights_positive [hKernelIdeal : Cert.KernelIdeal.Facts] [hReferenceIdeal : Cert.ReferenceIdeal.Facts] [hPre_weights_positive : Cert.Pre_weights_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_weights_positive : Cert.Pre_weights_positive.Facts) (hOn_quotient_defined : Cert.On_quotient_defined.Facts),
    quiescent_Kernel (hKernel := hKernel)
    ∧ quiescent_KernelIdeal (hKernelIdeal := hKernelIdeal)
    ∧ quiescent_KernelIdeal_pre_weights_positive (hKernelIdeal := hKernelIdeal) (hPre_weights_positive := hPre_weights_positive)
    ∧ quiescent_ReferenceIdeal (hReferenceIdeal := hReferenceIdeal)
    ∧ quiescent_ReferenceIdeal_pre_weights_positive (hReferenceIdeal := hReferenceIdeal) (hPre_weights_positive := hPre_weights_positive)
    ∧ preserves_Kernel_KernelIdeal
    ∧ algebraic_KernelIdeal_ReferenceIdeal_on_quotient_defined (hKernelIdeal := hKernelIdeal) (hReferenceIdeal := hReferenceIdeal) (hOn_quotient_defined := hOn_quotient_defined)
    ∧ algebraic_KernelIdeal_ReferenceIdeal_pre_weights_positive (hKernelIdeal := hKernelIdeal) (hReferenceIdeal := hReferenceIdeal) (hPre_weights_positive := hPre_weights_positive)
-- ==== On_quotient_defined.lean ====
abbrev S8x35x35x4 : Shape := ⟨4, ![8, 35, 35, 4]⟩
abbrev S512x4 : Shape := ⟨2, ![512, 4]⟩
abbrev S_ : Shape := ⟨0, ![]⟩
abbrev S512x4x1 : Shape := ⟨3, ![512, 4, 1]⟩
abbrev S8x512x4x35x4 : Shape := ⟨5, ![8, 512, 4, 35, 4]⟩
abbrev S512x4x1x1 : Shape := ⟨4, ![512, 4, 1, 1]⟩
abbrev S1x512x4x1x1 : Shape := ⟨5, ![1, 512, 4, 1, 1]⟩
abbrev S8x512x35x4 : Shape := ⟨4, ![8, 512, 35, 4]⟩
abbrev S8x512x512x4x4 : Shape := ⟨5, ![8, 512, 512, 4, 4]⟩
abbrev S1x1x512x4x1 : Shape := ⟨5, ![1, 1, 512, 4, 1]⟩
abbrev S8x512x512x4 : Shape := ⟨4, ![8, 512, 512, 4]⟩
abbrev S8x512x512x3 : Shape := ⟨4, ![8, 512, 512, 3]⟩
abbrev S8x512x512x1 : Shape := ⟨4, ![8, 512, 512, 1]⟩
abbrev S8x512x512 : Shape := ⟨3, ![8, 512, 512]⟩

class Facts : Prop where
  bcast_S_S512x4 : S_.BroadcastsInDim S512x4 (![] : Fin 0 → Fin S512x4.rank)
  bcast_S512x4_S512x4x1_0_1 : S512x4.BroadcastsInDim S512x4x1 (![0, 1] : Fin 2 → Fin S512x4x1.rank)
  bcast_S512x4_S512x4x1x1_0_1 : S512x4.BroadcastsInDim S512x4x1x1 (![0, 1] : Fin 2 → Fin S512x4x1x1.rank)
  bcast_S512x4x1x1_S1x512x4x1x1_1_2_3_4 : S512x4x1x1.BroadcastsInDim S1x512x4x1x1 (![1, 2, 3, 4] : Fin 4 → Fin S1x512x4x1x1.rank)
  bcast_S1x512x4x1x1_S8x512x4x35x4_0_1_2_3_4 : S1x512x4x1x1.BroadcastsInDim S8x512x4x35x4 (![0, 1, 2, 3, 4] : Fin 5 → Fin S8x512x4x35x4.rank)
  reducesTo_S8x512x4x35x4_S8x512x35x4_d2 : S8x512x4x35x4.ReducesTo [2] S8x512x35x4
  h_S_ : 0 < S_.numel
  bcast_S512x4x1_S1x1x512x4x1_2_3_4 : S512x4x1.BroadcastsInDim S1x1x512x4x1 (![2, 3, 4] : Fin 3 → Fin S1x1x512x4x1.rank)
  bcast_S1x1x512x4x1_S8x512x512x4x4_0_1_2_3_4 : S1x1x512x4x1.BroadcastsInDim S8x512x512x4x4 (![0, 1, 2, 3, 4] : Fin 5 → Fin S8x512x512x4x4.rank)
  reducesTo_S8x512x512x4x4_S8x512x512x4_d3 : S8x512x512x4x4.ReducesTo [3] S8x512x512x4
  slices_S8x512x512x4_S8x512x512x3_0_0_0_0 : S8x512x512x4.Slices ![0, 0, 0, 0] S8x512x512x3
  bcast_S_S8x512x512x3 : S_.BroadcastsInDim S8x512x512x3 (![] : Fin 0 → Fin S8x512x512x3.rank)
  slices_S8x512x512x4_S8x512x512x1_0_0_0_3 : S8x512x512x4.Slices ![0, 0, 0, 3] S8x512x512x1
  shapeCasts_S8x512x512x1_S8x512x512 : S8x512x512x1.ShapeCasts S8x512x512
  bcast_S8x512x512_S8x512x512x1_0_1_2 : S8x512x512.BroadcastsInDim S8x512x512x1 (![0, 1, 2] : Fin 3 → Fin S8x512x512x1.rank)
  bcast_S_S8x512x512x1 : S_.BroadcastsInDim S8x512x512x1 (![] : Fin 0 → Fin S8x512x512x1.rank)
  bcast_S8x512x512x1_S8x512x512x3_0_1_2_3 : S8x512x512x1.BroadcastsInDim S8x512x512x3 (![0, 1, 2, 3] : Fin 4 → Fin S8x512x512x3.rank)
  gather_S8x35x35x4_S512x4x1_S8x512x4x35x4_034_1_n_n_1_2_81354_wf : GatherDims.WF S8x35x35x4 S512x4x1 S8x512x4x35x4 [0, 3, 4] [1] [] [1] [] 2 ![8, 1, 35, 4]
  gather_S8x512x35x4_S512x4x1_S8x512x512x4x4_014_2_n_n_2_2_851214_wf : GatherDims.WF S8x512x35x4 S512x4x1 S8x512x512x4x4 [0, 1, 4] [2] [] [2] [] 2 ![8, 512, 1, 4]

variable [Facts]

def gather_S8x35x35x4_S512x4x1_S8x512x4x35x4_034_1_n_n_1_2_81354 : GatherDims S8x35x35x4 S512x4x1 S8x512x4x35x4 where
  offsetDims := [0, 3, 4]
  collapsedSliceDims := [1]
  operandBatchingDims := []
  startIndicesBatchingDims := []
  startIndexMap := [1]
  indexVectorDim := 2
  sliceSizes := ![8, 1, 35, 4]
  wf := gather_S8x35x35x4_S512x4x1_S8x512x4x35x4_034_1_n_n_1_2_81354_wf
def gather_S8x512x35x4_S512x4x1_S8x512x512x4x4_014_2_n_n_2_2_851214 : GatherDims S8x512x35x4 S512x4x1 S8x512x512x4x4 where
  offsetDims := [0, 1, 4]
  collapsedSliceDims := [2]
  operandBatchingDims := []
  startIndicesBatchingDims := []
  startIndexMap := [2]
  indexVectorDim := 2
  sliceSizes := ![8, 512, 1, 4]
  wf := gather_S8x512x35x4_S512x4x1_S8x512x512x4x4_014_2_n_n_2_2_851214_wf

noncomputable abbrev lit0t0_0 (i : Nat) : BitVec 32 := match i % 128 with
  | 0 => 0#32
  | 1 => 1#32
  | 2 => 2#32
  | 3 => 3#32
  | 4 => 0#32
  | 5 => 1#32
  | 6 => 2#32
  | 7 => 3#32
  | 8 => 0#32
  | 9 => 1#32
  | 10 => 2#32
  | 11 => 3#32
  | 12 => 0#32
  | 13 => 1#32
  | 14 => 2#32
  | 15 => 3#32
  | 16 => 0#32
  | 17 => 1#32
  | 18 => 2#32
  | 19 => 3#32
  | 20 => 0#32
  | 21 => 1#32
  | 22 => 2#32
  | 23 => 3#32
  | 24 => 0#32
  | 25 => 1#32
  | 26 => 2#32
  | 27 => 3#32
  | 28 => 0#32
  | 29 => 1#32
  | 30 => 2#32
  | 31 => 3#32
  | 32 => 0#32
  | 33 => 1#32
  | 34 => 2#32
  | 35 => 3#32
  | 36 => 0#32
  | 37 => 1#32
  | 38 => 2#32
  | 39 => 3#32
  | 40 => 0#32
  | 41 => 1#32
  | 42 => 2#32
  | 43 => 3#32
  | 44 => 0#32
  | 45 => 1#32
  | 46 => 2#32
  | 47 => 3#32
  | 48 => 0#32
  | 49 => 1#32
  | 50 => 2#32
  | 51 => 3#32
  | 52 => 0#32
  | 53 => 1#32
  | 54 => 2#32
  | 55 => 3#32
  | 56 => 0#32
  | 57 => 1#32
  | 58 => 2#32
  | 59 => 3#32
  | 60 => 0#32
  | 61 => 1#32
  | 62 => 2#32
  | 63 => 3#32
  | 64 => 1#32
  | 65 => 2#32
  | 66 => 3#32
  | 67 => 4#32
  | 68 => 1#32
  | 69 => 2#32
  | 70 => 3#32
  | 71 => 4#32
  | 72 => 1#32
  | 73 => 2#32
  | 74 => 3#32
  | 75 => 4#32
  | 76 => 1#32
  | 77 => 2#32
  | 78 => 3#32
  | 79 => 4#32
  | 80 => 1#32
  | 81 => 2#32
  | 82 => 3#32
  | 83 => 4#32
  | 84 => 1#32
  | 85 => 2#32
  | 86 => 3#32
  | 87 => 4#32
  | 88 => 1#32
  | 89 => 2#32
  | 90 => 3#32
  | 91 => 4#32
  | 92 => 1#32
  | 93 => 2#32
  | 94 => 3#32
  | 95 => 4#32
  | 96 => 1#32
  | 97 => 2#32
  | 98 => 3#32
  | 99 => 4#32
  | 100 => 1#32
  | 101 => 2#32
  | 102 => 3#32
  | 103 => 4#32
  | 104 => 1#32
  | 105 => 2#32
  | 106 => 3#32
  | 107 => 4#32
  | 108 => 1#32
  | 109 => 2#32
  | 110 => 3#32
  | 111 => 4#32
  | 112 => 1#32
  | 113 => 2#32
  | 114 => 3#32
  | 115 => 4#32
  | 116 => 1#32
  | 117 => 2#32
  | 118 => 3#32
  | 119 => 4#32
  | 120 => 1#32
  | 121 => 2#32
  | 122 => 3#32
  | 123 => 4#32
  | 124 => 1#32
  | 125 => 2#32
  | 126 => 3#32
  | 127 => 4#32
  | _ => 0#32

noncomputable abbrev lit0t0_1 (i : Nat) : BitVec 32 := match i % 128 with
  | 0 => 2#32
  | 1 => 3#32
  | 2 => 4#32
  | 3 => 5#32
  | 4 => 2#32
  | 5 => 3#32
  | 6 => 4#32
  | 7 => 5#32
  | 8 => 2#32
  | 9 => 3#32
  | 10 => 4#32
  | 11 => 5#32
  | 12 => 2#32
  | 13 => 3#32
  | 14 => 4#32
  | 15 => 5#32
  | 16 => 2#32
  | 17 => 3#32
  | 18 => 4#32
  | 19 => 5#32
  | 20 => 2#32
  | 21 => 3#32
  | 22 => 4#32
  | 23 => 5#32
  | 24 => 2#32
  | 25 => 3#32
  | 26 => 4#32
  | 27 => 5#32
  | 28 => 2#32
  | 29 => 3#32
  | 30 => 4#32
  | 31 => 5#32
  | 32 => 2#32
  | 33 => 3#32
  | 34 => 4#32
  | 35 => 5#32
  | 36 => 2#32
  | 37 => 3#32
  | 38 => 4#32
  | 39 => 5#32
  | 40 => 2#32
  | 41 => 3#32
  | 42 => 4#32
  | 43 => 5#32
  | 44 => 2#32
  | 45 => 3#32
  | 46 => 4#32
  | 47 => 5#32
  | 48 => 2#32
  | 49 => 3#32
  | 50 => 4#32
  | 51 => 5#32
  | 52 => 2#32
  | 53 => 3#32
  | 54 => 4#32
  | 55 => 5#32
  | 56 => 2#32
  | 57 => 3#32
  | 58 => 4#32
  | 59 => 5#32
  | 60 => 2#32
  | 61 => 3#32
  | 62 => 4#32
  | 63 => 5#32
  | 64 => 3#32
  | 65 => 4#32
  | 66 => 5#32
  | 67 => 6#32
  | 68 => 3#32
  | 69 => 4#32
  | 70 => 5#32
  | 71 => 6#32
  | 72 => 3#32
  | 73 => 4#32
  | 74 => 5#32
  | 75 => 6#32
  | 76 => 3#32
  | 77 => 4#32
  | 78 => 5#32
  | 79 => 6#32
  | 80 => 3#32
  | 81 => 4#32
  | 82 => 5#32
  | 83 => 6#32
  | 84 => 3#32
  | 85 => 4#32
  | 86 => 5#32
  | 87 => 6#32
  | 88 => 3#32
  | 89 => 4#32
  | 90 => 5#32
  | 91 => 6#32
  | 92 => 3#32
  | 93 => 4#32
  | 94 => 5#32
  | 95 => 6#32
  | 96 => 3#32
  | 97 => 4#32
  | 98 => 5#32
  | 99 => 6#32
  | 100 => 3#32
  | 101 => 4#32
  | 102 => 5#32
  | 103 => 6#32
  | 104 => 3#32
  | 105 => 4#32
  | 106 => 5#32
  | 107 => 6#32
  | 108 => 3#32
  | 109 => 4#32
  | 110 => 5#32
  | 111 => 6#32
  | 112 => 3#32
  | 113 => 4#32
  | 114 => 5#32
  | 115 => 6#32
  | 116 => 3#32
  | 117 => 4#32
  | 118 => 5#32
  | 119 => 6#32
  | 120 => 3#32
  | 121 => 4#32
  | 122 => 5#32
  | 123 => 6#32
  | 124 => 3#32
  | 125 => 4#32
  | 126 => 5#32
  | 127 => 6#32
  | _ => 0#32

noncomputable abbrev lit0t0_2 (i : Nat) : BitVec 32 := match i % 128 with
  | 0 => 4#32
  | 1 => 5#32
  | 2 => 6#32
  | 3 => 7#32
  | 4 => 4#32
  | 5 => 5#32
  | 6 => 6#32
  | 7 => 7#32
  | 8 => 4#32
  | 9 => 5#32
  | 10 => 6#32
  | 11 => 7#32
  | 12 => 4#32
  | 13 => 5#32
  | 14 => 6#32
  | 15 => 7#32
  | 16 => 4#32
  | 17 => 5#32
  | 18 => 6#32
  | 19 => 7#32
  | 20 => 4#32
  | 21 => 5#32
  | 22 => 6#32
  | 23 => 7#32
  | 24 => 4#32
  | 25 => 5#32
  | 26 => 6#32
  | 27 => 7#32
  | 28 => 4#32
  | 29 => 5#32
  | 30 => 6#32
  | 31 => 7#32
  | 32 => 4#32
  | 33 => 5#32
  | 34 => 6#32
  | 35 => 7#32
  | 36 => 4#32
  | 37 => 5#32
  | 38 => 6#32
  | 39 => 7#32
  | 40 => 4#32
  | 41 => 5#32
  | 42 => 6#32
  | 43 => 7#32
  | 44 => 4#32
  | 45 => 5#32
  | 46 => 6#32
  | 47 => 7#32
  | 48 => 4#32
  | 49 => 5#32
  | 50 => 6#32
  | 51 => 7#32
  | 52 => 4#32
  | 53 => 5#32
  | 54 => 6#32
  | 55 => 7#32
  | 56 => 4#32
  | 57 => 5#32
  | 58 => 6#32
  | 59 => 7#32
  | 60 => 4#32
  | 61 => 5#32
  | 62 => 6#32
  | 63 => 7#32
  | 64 => 5#32
  | 65 => 6#32
  | 66 => 7#32
  | 67 => 8#32
  | 68 => 5#32
  | 69 => 6#32
  | 70 => 7#32
  | 71 => 8#32
  | 72 => 5#32
  | 73 => 6#32
  | 74 => 7#32
  | 75 => 8#32
  | 76 => 5#32
  | 77 => 6#32
  | 78 => 7#32
  | 79 => 8#32
  | 80 => 5#32
  | 81 => 6#32
  | 82 => 7#32
  | 83 => 8#32
  | 84 => 5#32
  | 85 => 6#32
  | 86 => 7#32
  | 87 => 8#32
  | 88 => 5#32
  | 89 => 6#32
  | 90 => 7#32
  | 91 => 8#32
  | 92 => 5#32
  | 93 => 6#32
  | 94 => 7#32
  | 95 => 8#32
  | 96 => 5#32
  | 97 => 6#32
  | 98 => 7#32
  | 99 => 8#32
  | 100 => 5#32
  | 101 => 6#32
  | 102 => 7#32
  | 103 => 8#32
  | 104 => 5#32
  | 105 => 6#32
  | 106 => 7#32
  | 107 => 8#32
  | 108 => 5#32
  | 109 => 6#32
  | 110 => 7#32
  | 111 => 8#32
  | 112 => 5#32
  | 113 => 6#32
  | 114 => 7#32
  | 115 => 8#32
  | 116 => 5#32
  | 117 => 6#32
  | 118 => 7#32
  | 119 => 8#32
  | 120 => 5#32
  | 121 => 6#32
  | 122 => 7#32
  | 123 => 8#32
  | 124 => 5#32
  | 125 => 6#32
  | 126 => 7#32
  | 127 => 8#32
  | _ => 0#32

noncomputable abbrev lit0t0_3 (i : Nat) : BitVec 32 := match i % 128 with
  | 0 => 6#32
  | 1 => 7#32
  | 2 => 8#32
  | 3 => 9#32
  | 4 => 6#32
  | 5 => 7#32
  | 6 => 8#32
  | 7 => 9#32
  | 8 => 6#32
  | 9 => 7#32
  | 10 => 8#32
  | 11 => 9#32
  | 12 => 6#32
  | 13 => 7#32
  | 14 => 8#32
  | 15 => 9#32
  | 16 => 6#32
  | 17 => 7#32
  | 18 => 8#32
  | 19 => 9#32
  | 20 => 6#32
  | 21 => 7#32
  | 22 => 8#32
  | 23 => 9#32
  | 24 => 6#32
  | 25 => 7#32
  | 26 => 8#32
  | 27 => 9#32
  | 28 => 6#32
  | 29 => 7#32
  | 30 => 8#32
  | 31 => 9#32
  | 32 => 6#32
  | 33 => 7#32
  | 34 => 8#32
  | 35 => 9#32
  | 36 => 6#32
  | 37 => 7#32
  | 38 => 8#32
  | 39 => 9#32
  | 40 => 6#32
  | 41 => 7#32
  | 42 => 8#32
  | 43 => 9#32
  | 44 => 6#32
  | 45 => 7#32
  | 46 => 8#32
  | 47 => 9#32
  | 48 => 6#32
  | 49 => 7#32
  | 50 => 8#32
  | 51 => 9#32
  | 52 => 6#32
  | 53 => 7#32
  | 54 => 8#32
  | 55 => 9#32
  | 56 => 6#32
  | 57 => 7#32
  | 58 => 8#32
  | 59 => 9#32
  | 60 => 6#32
  | 61 => 7#32
  | 62 => 8#32
  | 63 => 9#32
  | 64 => 7#32
  | 65 => 8#32
  | 66 => 9#32
  | 67 => 10#32
  | 68 => 7#32
  | 69 => 8#32
  | 70 => 9#32
  | 71 => 10#32
  | 72 => 7#32
  | 73 => 8#32
  | 74 => 9#32
  | 75 => 10#32
  | 76 => 7#32
  | 77 => 8#32
  | 78 => 9#32
  | 79 => 10#32
  | 80 => 7#32
  | 81 => 8#32
  | 82 => 9#32
  | 83 => 10#32
  | 84 => 7#32
  | 85 => 8#32
  | 86 => 9#32
  | 87 => 10#32
  | 88 => 7#32
  | 89 => 8#32
  | 90 => 9#32
  | 91 => 10#32
  | 92 => 7#32
  | 93 => 8#32
  | 94 => 9#32
  | 95 => 10#32
  | 96 => 7#32
  | 97 => 8#32
  | 98 => 9#32
  | 99 => 10#32
  | 100 => 7#32
  | 101 => 8#32
  | 102 => 9#32
  | 103 => 10#32
  | 104 => 7#32
  | 105 => 8#32
  | 106 => 9#32
  | 107 => 10#32
  | 108 => 7#32
  | 109 => 8#32
  | 110 => 9#32
  | 111 => 10#32
  | 112 => 7#32
  | 113 => 8#32
  | 114 => 9#32
  | 115 => 10#32
  | 116 => 7#32
  | 117 => 8#32
  | 118 => 9#32
  | 119 => 10#32
  | 120 => 7#32
  | 121 => 8#32
  | 122 => 9#32
  | 123 => 10#32
  | 124 => 7#32
  | 125 => 8#32
  | 126 => 9#32
  | 127 => 10#32
  | _ => 0#32

noncomputable abbrev lit0t0_4 (i : Nat) : BitVec 32 := match i % 128 with
  | 0 => 8#32
  | 1 => 9#32
  | 2 => 10#32
  | 3 => 11#32
  | 4 => 8#32
  | 5 => 9#32
  | 6 => 10#32
  | 7 => 11#32
  | 8 => 8#32
  | 9 => 9#32
  | 10 => 10#32
  | 11 => 11#32
  | 12 => 8#32
  | 13 => 9#32
  | 14 => 10#32
  | 15 => 11#32
  | 16 => 8#32
  | 17 => 9#32
  | 18 => 10#32
  | 19 => 11#32
  | 20 => 8#32
  | 21 => 9#32
  | 22 => 10#32
  | 23 => 11#32
  | 24 => 8#32
  | 25 => 9#32
  | 26 => 10#32
  | 27 => 11#32
  | 28 => 8#32
  | 29 => 9#32
  | 30 => 10#32
  | 31 => 11#32
  | 32 => 8#32
  | 33 => 9#32
  | 34 => 10#32
  | 35 => 11#32
  | 36 => 8#32
  | 37 => 9#32
  | 38 => 10#32
  | 39 => 11#32
  | 40 => 8#32
  | 41 => 9#32
  | 42 => 10#32
  | 43 => 11#32
  | 44 => 8#32
  | 45 => 9#32
  | 46 => 10#32
  | 47 => 11#32
  | 48 => 8#32
  | 49 => 9#32
  | 50 => 10#32
  | 51 => 11#32
  | 52 => 8#32
  | 53 => 9#32
  | 54 => 10#32
  | 55 => 11#32
  | 56 => 8#32
  | 57 => 9#32
  | 58 => 10#32
  | 59 => 11#32
  | 60 => 8#32
  | 61 => 9#32
  | 62 => 10#32
  | 63 => 11#32
  | 64 => 9#32
  | 65 => 10#32
  | 66 => 11#32
  | 67 => 12#32
  | 68 => 9#32
  | 69 => 10#32
  | 70 => 11#32
  | 71 => 12#32
  | 72 => 9#32
  | 73 => 10#32
  | 74 => 11#32
  | 75 => 12#32
  | 76 => 9#32
  | 77 => 10#32
  | 78 => 11#32
  | 79 => 12#32
  | 80 => 9#32
  | 81 => 10#32
  | 82 => 11#32
  | 83 => 12#32
  | 84 => 9#32
  | 85 => 10#32
  | 86 => 11#32
  | 87 => 12#32
  | 88 => 9#32
  | 89 => 10#32
  | 90 => 11#32
  | 91 => 12#32
  | 92 => 9#32
  | 93 => 10#32
  | 94 => 11#32
  | 95 => 12#32
  | 96 => 9#32
  | 97 => 10#32
  | 98 => 11#32
  | 99 => 12#32
  | 100 => 9#32
  | 101 => 10#32
  | 102 => 11#32
  | 103 => 12#32
  | 104 => 9#32
  | 105 => 10#32
  | 106 => 11#32
  | 107 => 12#32
  | 108 => 9#32
  | 109 => 10#32
  | 110 => 11#32
  | 111 => 12#32
  | 112 => 9#32
  | 113 => 10#32
  | 114 => 11#32
  | 115 => 12#32
  | 116 => 9#32
  | 117 => 10#32
  | 118 => 11#32
  | 119 => 12#32
  | 120 => 9#32
  | 121 => 10#32
  | 122 => 11#32
  | 123 => 12#32
  | 124 => 9#32
  | 125 => 10#32
  | 126 => 11#32
  | 127 => 12#32
  | _ => 0#32

noncomputable abbrev lit0t0_5 (i : Nat) : BitVec 32 := match i % 128 with
  | 0 => 10#32
  | 1 => 11#32
  | 2 => 12#32
  | 3 => 13#32
  | 4 => 10#32
  | 5 => 11#32
  | 6 => 12#32
  | 7 => 13#32
  | 8 => 10#32
  | 9 => 11#32
  | 10 => 12#32
  | 11 => 13#32
  | 12 => 10#32
  | 13 => 11#32
  | 14 => 12#32
  | 15 => 13#32
  | 16 => 10#32
  | 17 => 11#32
  | 18 => 12#32
  | 19 => 13#32
  | 20 => 10#32
  | 21 => 11#32
  | 22 => 12#32
  | 23 => 13#32
  | 24 => 10#32
  | 25 => 11#32
  | 26 => 12#32
  | 27 => 13#32
  | 28 => 10#32
  | 29 => 11#32
  | 30 => 12#32
  | 31 => 13#32
  | 32 => 10#32
  | 33 => 11#32
  | 34 => 12#32
  | 35 => 13#32
  | 36 => 10#32
  | 37 => 11#32
  | 38 => 12#32
  | 39 => 13#32
  | 40 => 10#32
  | 41 => 11#32
  | 42 => 12#32
  | 43 => 13#32
  | 44 => 10#32
  | 45 => 11#32
  | 46 => 12#32
  | 47 => 13#32
  | 48 => 10#32
  | 49 => 11#32
  | 50 => 12#32
  | 51 => 13#32
  | 52 => 10#32
  | 53 => 11#32
  | 54 => 12#32
  | 55 => 13#32
  | 56 => 10#32
  | 57 => 11#32
  | 58 => 12#32
  | 59 => 13#32
  | 60 => 10#32
  | 61 => 11#32
  | 62 => 12#32
  | 63 => 13#32
  | 64 => 11#32
  | 65 => 12#32
  | 66 => 13#32
  | 67 => 14#32
  | 68 => 11#32
  | 69 => 12#32
  | 70 => 13#32
  | 71 => 14#32
  | 72 => 11#32
  | 73 => 12#32
  | 74 => 13#32
  | 75 => 14#32
  | 76 => 11#32
  | 77 => 12#32
  | 78 => 13#32
  | 79 => 14#32
  | 80 => 11#32
  | 81 => 12#32
  | 82 => 13#32
  | 83 => 14#32
  | 84 => 11#32
  | 85 => 12#32
  | 86 => 13#32
  | 87 => 14#32
  | 88 => 11#32
  | 89 => 12#32
  | 90 => 13#32
  | 91 => 14#32
  | 92 => 11#32
  | 93 => 12#32
  | 94 => 13#32
  | 95 => 14#32
  | 96 => 11#32
  | 97 => 12#32
  | 98 => 13#32
  | 99 => 14#32
  | 100 => 11#32
  | 101 => 12#32
  | 102 => 13#32
  | 103 => 14#32
  | 104 => 11#32
  | 105 => 12#32
  | 106 => 13#32
  | 107 => 14#32
  | 108 => 11#32
  | 109 => 12#32
  | 110 => 13#32
  | 111 => 14#32
  | 112 => 11#32
  | 113 => 12#32
  | 114 => 13#32
  | 115 => 14#32
  | 116 => 11#32
  | 117 => 12#32
  | 118 => 13#32
  | 119 => 14#32
  | 120 => 11#32
  | 121 => 12#32
  | 122 => 13#32
  | 123 => 14#32
  | 124 => 11#32
  | 125 => 12#32
  | 126 => 13#32
  | 127 => 14#32
  | _ => 0#32

noncomputable abbrev lit0t0_6 (i : Nat) : BitVec 32 := match i % 128 with
  | 0 => 12#32
  | 1 => 13#32
  | 2 => 14#32
  | 3 => 15#32
  | 4 => 12#32
  | 5 => 13#32
  | 6 => 14#32
  | 7 => 15#32
  | 8 => 12#32
  | 9 => 13#32
  | 10 => 14#32
  | 11 => 15#32
  | 12 => 12#32
  | 13 => 13#32
  | 14 => 14#32
  | 15 => 15#32
  | 16 => 12#32
  | 17 => 13#32
  | 18 => 14#32
  | 19 => 15#32
  | 20 => 12#32
  | 21 => 13#32
  | 22 => 14#32
  | 23 => 15#32
  | 24 => 12#32
  | 25 => 13#32
  | 26 => 14#32
  | 27 => 15#32
  | 28 => 12#32
  | 29 => 13#32
  | 30 => 14#32
  | 31 => 15#32
  | 32 => 12#32
  | 33 => 13#32
  | 34 => 14#32
  | 35 => 15#32
  | 36 => 12#32
  | 37 => 13#32
  | 38 => 14#32
  | 39 => 15#32
  | 40 => 12#32
  | 41 => 13#32
  | 42 => 14#32
  | 43 => 15#32
  | 44 => 12#32
  | 45 => 13#32
  | 46 => 14#32
  | 47 => 15#32
  | 48 => 12#32
  | 49 => 13#32
  | 50 => 14#32
  | 51 => 15#32
  | 52 => 12#32
  | 53 => 13#32
  | 54 => 14#32
  | 55 => 15#32
  | 56 => 12#32
  | 57 => 13#32
  | 58 => 14#32
  | 59 => 15#32
  | 60 => 12#32
  | 61 => 13#32
  | 62 => 14#32
  | 63 => 15#32
  | 64 => 13#32
  | 65 => 14#32
  | 66 => 15#32
  | 67 => 16#32
  | 68 => 13#32
  | 69 => 14#32
  | 70 => 15#32
  | 71 => 16#32
  | 72 => 13#32
  | 73 => 14#32
  | 74 => 15#32
  | 75 => 16#32
  | 76 => 13#32
  | 77 => 14#32
  | 78 => 15#32
  | 79 => 16#32
  | 80 => 13#32
  | 81 => 14#32
  | 82 => 15#32
  | 83 => 16#32
  | 84 => 13#32
  | 85 => 14#32
  | 86 => 15#32
  | 87 => 16#32
  | 88 => 13#32
  | 89 => 14#32
  | 90 => 15#32
  | 91 => 16#32
  | 92 => 13#32
  | 93 => 14#32
  | 94 => 15#32
  | 95 => 16#32
  | 96 => 13#32
  | 97 => 14#32
  | 98 => 15#32
  | 99 => 16#32
  | 100 => 13#32
  | 101 => 14#32
  | 102 => 15#32
  | 103 => 16#32
  | 104 => 13#32
  | 105 => 14#32
  | 106 => 15#32
  | 107 => 16#32
  | 108 => 13#32
  | 109 => 14#32
  | 110 => 15#32
  | 111 => 16#32
  | 112 => 13#32
  | 113 => 14#32
  | 114 => 15#32
  | 115 => 16#32
  | 116 => 13#32
  | 117 => 14#32
  | 118 => 15#32
  | 119 => 16#32
  | 120 => 13#32
  | 121 => 14#32
  | 122 => 15#32
  | 123 => 16#32
  | 124 => 13#32
  | 125 => 14#32
  | 126 => 15#32
  | 127 => 16#32
  | _ => 0#32

noncomputable abbrev lit0t0_7 (i : Nat) : BitVec 32 := match i % 128 with
  | 0 => 14#32
  | 1 => 15#32
  | 2 => 16#32
  | 3 => 17#32
  | 4 => 14#32
  | 5 => 15#32
  | 6 => 16#32
  | 7 => 17#32
  | 8 => 14#32
  | 9 => 15#32
  | 10 => 16#32
  | 11 => 17#32
  | 12 => 14#32
  | 13 => 15#32
  | 14 => 16#32
  | 15 => 17#32
  | 16 => 14#32
  | 17 => 15#32
  | 18 => 16#32
  | 19 => 17#32
  | 20 => 14#32
  | 21 => 15#32
  | 22 => 16#32
  | 23 => 17#32
  | 24 => 14#32
  | 25 => 15#32
  | 26 => 16#32
  | 27 => 17#32
  | 28 => 14#32
  | 29 => 15#32
  | 30 => 16#32
  | 31 => 17#32
  | 32 => 14#32
  | 33 => 15#32
  | 34 => 16#32
  | 35 => 17#32
  | 36 => 14#32
  | 37 => 15#32
  | 38 => 16#32
  | 39 => 17#32
  | 40 => 14#32
  | 41 => 15#32
  | 42 => 16#32
  | 43 => 17#32
  | 44 => 14#32
  | 45 => 15#32
  | 46 => 16#32
  | 47 => 17#32
  | 48 => 14#32
  | 49 => 15#32
  | 50 => 16#32
  | 51 => 17#32
  | 52 => 14#32
  | 53 => 15#32
  | 54 => 16#32
  | 55 => 17#32
  | 56 => 14#32
  | 57 => 15#32
  | 58 => 16#32
  | 59 => 17#32
  | 60 => 14#32
  | 61 => 15#32
  | 62 => 16#32
  | 63 => 17#32
  | 64 => 15#32
  | 65 => 16#32
  | 66 => 17#32
  | 67 => 18#32
  | 68 => 15#32
  | 69 => 16#32
  | 70 => 17#32
  | 71 => 18#32
  | 72 => 15#32
  | 73 => 16#32
  | 74 => 17#32
  | 75 => 18#32
  | 76 => 15#32
  | 77 => 16#32
  | 78 => 17#32
  | 79 => 18#32
  | 80 => 15#32
  | 81 => 16#32
  | 82 => 17#32
  | 83 => 18#32
  | 84 => 15#32
  | 85 => 16#32
  | 86 => 17#32
  | 87 => 18#32
  | 88 => 15#32
  | 89 => 16#32
  | 90 => 17#32
  | 91 => 18#32
  | 92 => 15#32
  | 93 => 16#32
  | 94 => 17#32
  | 95 => 18#32
  | 96 => 15#32
  | 97 => 16#32
  | 98 => 17#32
  | 99 => 18#32
  | 100 => 15#32
  | 101 => 16#32
  | 102 => 17#32
  | 103 => 18#32
  | 104 => 15#32
  | 105 => 16#32
  | 106 => 17#32
  | 107 => 18#32
  | 108 => 15#32
  | 109 => 16#32
  | 110 => 17#32
  | 111 => 18#32
  | 112 => 15#32
  | 113 => 16#32
  | 114 => 17#32
  | 115 => 18#32
  | 116 => 15#32
  | 117 => 16#32
  | 118 => 17#32
  | 119 => 18#32
  | 120 => 15#32
  | 121 => 16#32
  | 122 => 17#32
  | 123 => 18#32
  | 124 => 15#32
  | 125 => 16#32
  | 126 => 17#32
  | 127 => 18#32
  | _ => 0#32

noncomputable abbrev lit0t0_8 (i : Nat) : BitVec 32 := match i % 128 with
  | 0 => 16#32
  | 1 => 17#32
  | 2 => 18#32
  | 3 => 19#32
  | 4 => 16#32
  | 5 => 17#32
  | 6 => 18#32
  | 7 => 19#32
  | 8 => 16#32
  | 9 => 17#32
  | 10 => 18#32
  | 11 => 19#32
  | 12 => 16#32
  | 13 => 17#32
  | 14 => 18#32
  | 15 => 19#32
  | 16 => 16#32
  | 17 => 17#32
  | 18 => 18#32
  | 19 => 19#32
  | 20 => 16#32
  | 21 => 17#32
  | 22 => 18#32
  | 23 => 19#32
  | 24 => 16#32
  | 25 => 17#32
  | 26 => 18#32
  | 27 => 19#32
  | 28 => 16#32
  | 29 => 17#32
  | 30 => 18#32
  | 31 => 19#32
  | 32 => 16#32
  | 33 => 17#32
  | 34 => 18#32
  | 35 => 19#32
  | 36 => 16#32
  | 37 => 17#32
  | 38 => 18#32
  | 39 => 19#32
  | 40 => 16#32
  | 41 => 17#32
  | 42 => 18#32
  | 43 => 19#32
  | 44 => 16#32
  | 45 => 17#32
  | 46 => 18#32
  | 47 => 19#32
  | 48 => 16#32
  | 49 => 17#32
  | 50 => 18#32
  | 51 => 19#32
  | 52 => 16#32
  | 53 => 17#32
  | 54 => 18#32
  | 55 => 19#32
  | 56 => 16#32
  | 57 => 17#32
  | 58 => 18#32
  | 59 => 19#32
  | 60 => 16#32
  | 61 => 17#32
  | 62 => 18#32
  | 63 => 19#32
  | 64 => 17#32
  | 65 => 18#32
  | 66 => 19#32
  | 67 => 20#32
  | 68 => 17#32
  | 69 => 18#32
  | 70 => 19#32
  | 71 => 20#32
  | 72 => 17#32
  | 73 => 18#32
  | 74 => 19#32
  | 75 => 20#32
  | 76 => 17#32
  | 77 => 18#32
  | 78 => 19#32
  | 79 => 20#32
  | 80 => 17#32
  | 81 => 18#32
  | 82 => 19#32
  | 83 => 20#32
  | 84 => 17#32
  | 85 => 18#32
  | 86 => 19#32
  | 87 => 20#32
  | 88 => 17#32
  | 89 => 18#32
  | 90 => 19#32
  | 91 => 20#32
  | 92 => 17#32
  | 93 => 18#32
  | 94 => 19#32
  | 95 => 20#32
  | 96 => 17#32
  | 97 => 18#32
  | 98 => 19#32
  | 99 => 20#32
  | 100 => 17#32
  | 101 => 18#32
  | 102 => 19#32
  | 103 => 20#32
  | 104 => 17#32
  | 105 => 18#32
  | 106 => 19#32
  | 107 => 20#32
  | 108 => 17#32
  | 109 => 18#32
  | 110 => 19#32
  | 111 => 20#32
  | 112 => 17#32
  | 113 => 18#32
  | 114 => 19#32
  | 115 => 20#32
  | 116 => 17#32
  | 117 => 18#32
  | 118 => 19#32
  | 119 => 20#32
  | 120 => 17#32
  | 121 => 18#32
  | 122 => 19#32
  | 123 => 20#32
  | 124 => 17#32
  | 125 => 18#32
  | 126 => 19#32
  | 127 => 20#32
  | _ => 0#32

noncomputable abbrev lit0t0_9 (i : Nat) : BitVec 32 := match i % 128 with
  | 0 => 18#32
  | 1 => 19#32
  | 2 => 20#32
  | 3 => 21#32
  | 4 => 18#32
  | 5 => 19#32
  | 6 => 20#32
  | 7 => 21#32
  | 8 => 18#32
  | 9 => 19#32
  | 10 => 20#32
  | 11 => 21#32
  | 12 => 18#32
  | 13 => 19#32
  | 14 => 20#32
  | 15 => 21#32
  | 16 => 18#32
  | 17 => 19#32
  | 18 => 20#32
  | 19 => 21#32
  | 20 => 18#32
  | 21 => 19#32
  | 22 => 20#32
  | 23 => 21#32
  | 24 => 18#32
  | 25 => 19#32
  | 26 => 20#32
  | 27 => 21#32
  | 28 => 18#32
  | 29 => 19#32
  | 30 => 20#32
  | 31 => 21#32
  | 32 => 18#32
  | 33 => 19#32
  | 34 => 20#32
  | 35 => 21#32
  | 36 => 18#32
  | 37 => 19#32
  | 38 => 20#32
  | 39 => 21#32
  | 40 => 18#32
  | 41 => 19#32
  | 42 => 20#32
  | 43 => 21#32
  | 44 => 18#32
  | 45 => 19#32
  | 46 => 20#32
  | 47 => 21#32
  | 48 => 18#32
  | 49 => 19#32
  | 50 => 20#32
  | 51 => 21#32
  | 52 => 18#32
  | 53 => 19#32
  | 54 => 20#32
  | 55 => 21#32
  | 56 => 18#32
  | 57 => 19#32
  | 58 => 20#32
  | 59 => 21#32
  | 60 => 18#32
  | 61 => 19#32
  | 62 => 20#32
  | 63 => 21#32
  | 64 => 19#32
  | 65 => 20#32
  | 66 => 21#32
  | 67 => 22#32
  | 68 => 19#32
  | 69 => 20#32
  | 70 => 21#32
  | 71 => 22#32
  | 72 => 19#32
  | 73 => 20#32
  | 74 => 21#32
  | 75 => 22#32
  | 76 => 19#32
  | 77 => 20#32
  | 78 => 21#32
  | 79 => 22#32
  | 80 => 19#32
  | 81 => 20#32
  | 82 => 21#32
  | 83 => 22#32
  | 84 => 19#32
  | 85 => 20#32
  | 86 => 21#32
  | 87 => 22#32
  | 88 => 19#32
  | 89 => 20#32
  | 90 => 21#32
  | 91 => 22#32
  | 92 => 19#32
  | 93 => 20#32
  | 94 => 21#32
  | 95 => 22#32
  | 96 => 19#32
  | 97 => 20#32
  | 98 => 21#32
  | 99 => 22#32
  | 100 => 19#32
  | 101 => 20#32
  | 102 => 21#32
  | 103 => 22#32
  | 104 => 19#32
  | 105 => 20#32
  | 106 => 21#32
  | 107 => 22#32
  | 108 => 19#32
  | 109 => 20#32
  | 110 => 21#32
  | 111 => 22#32
  | 112 => 19#32
  | 113 => 20#32
  | 114 => 21#32
  | 115 => 22#32
  | 116 => 19#32
  | 117 => 20#32
  | 118 => 21#32
  | 119 => 22#32
  | 120 => 19#32
  | 121 => 20#32
  | 122 => 21#32
  | 123 => 22#32
  | 124 => 19#32
  | 125 => 20#32
  | 126 => 21#32
  | 127 => 22#32
  | _ => 0#32

noncomputable abbrev lit0t0_10 (i : Nat) : BitVec 32 := match i % 128 with
  | 0 => 20#32
  | 1 => 21#32
  | 2 => 22#32
  | 3 => 23#32
  | 4 => 20#32
  | 5 => 21#32
  | 6 => 22#32
  | 7 => 23#32
  | 8 => 20#32
  | 9 => 21#32
  | 10 => 22#32
  | 11 => 23#32
  | 12 => 20#32
  | 13 => 21#32
  | 14 => 22#32
  | 15 => 23#32
  | 16 => 20#32
  | 17 => 21#32
  | 18 => 22#32
  | 19 => 23#32
  | 20 => 20#32
  | 21 => 21#32
  | 22 => 22#32
  | 23 => 23#32
  | 24 => 20#32
  | 25 => 21#32
  | 26 => 22#32
  | 27 => 23#32
  | 28 => 20#32
  | 29 => 21#32
  | 30 => 22#32
  | 31 => 23#32
  | 32 => 20#32
  | 33 => 21#32
  | 34 => 22#32
  | 35 => 23#32
  | 36 => 20#32
  | 37 => 21#32
  | 38 => 22#32
  | 39 => 23#32
  | 40 => 20#32
  | 41 => 21#32
  | 42 => 22#32
  | 43 => 23#32
  | 44 => 20#32
  | 45 => 21#32
  | 46 => 22#32
  | 47 => 23#32
  | 48 => 20#32
  | 49 => 21#32
  | 50 => 22#32
  | 51 => 23#32
  | 52 => 20#32
  | 53 => 21#32
  | 54 => 22#32
  | 55 => 23#32
  | 56 => 20#32
  | 57 => 21#32
  | 58 => 22#32
  | 59 => 23#32
  | 60 => 20#32
  | 61 => 21#32
  | 62 => 22#32
  | 63 => 23#32
  | 64 => 21#32
  | 65 => 22#32
  | 66 => 23#32
  | 67 => 24#32
  | 68 => 21#32
  | 69 => 22#32
  | 70 => 23#32
  | 71 => 24#32
  | 72 => 21#32
  | 73 => 22#32
  | 74 => 23#32
  | 75 => 24#32
  | 76 => 21#32
  | 77 => 22#32
  | 78 => 23#32
  | 79 => 24#32
  | 80 => 21#32
  | 81 => 22#32
  | 82 => 23#32
  | 83 => 24#32
  | 84 => 21#32
  | 85 => 22#32
  | 86 => 23#32
  | 87 => 24#32
  | 88 => 21#32
  | 89 => 22#32
  | 90 => 23#32
  | 91 => 24#32
  | 92 => 21#32
  | 93 => 22#32
  | 94 => 23#32
  | 95 => 24#32
  | 96 => 21#32
  | 97 => 22#32
  | 98 => 23#32
  | 99 => 24#32
  | 100 => 21#32
  | 101 => 22#32
  | 102 => 23#32
  | 103 => 24#32
  | 104 => 21#32
  | 105 => 22#32
  | 106 => 23#32
  | 107 => 24#32
  | 108 => 21#32
  | 109 => 22#32
  | 110 => 23#32
  | 111 => 24#32
  | 112 => 21#32
  | 113 => 22#32
  | 114 => 23#32
  | 115 => 24#32
  | 116 => 21#32
  | 117 => 22#32
  | 118 => 23#32
  | 119 => 24#32
  | 120 => 21#32
  | 121 => 22#32
  | 122 => 23#32
  | 123 => 24#32
  | 124 => 21#32
  | 125 => 22#32
  | 126 => 23#32
  | 127 => 24#32
  | _ => 0#32

noncomputable abbrev lit0t0_11 (i : Nat) : BitVec 32 := match i % 128 with
  | 0 => 22#32
  | 1 => 23#32
  | 2 => 24#32
  | 3 => 25#32
  | 4 => 22#32
  | 5 => 23#32
  | 6 => 24#32
  | 7 => 25#32
  | 8 => 22#32
  | 9 => 23#32
  | 10 => 24#32
  | 11 => 25#32
  | 12 => 22#32
  | 13 => 23#32
  | 14 => 24#32
  | 15 => 25#32
  | 16 => 22#32
  | 17 => 23#32
  | 18 => 24#32
  | 19 => 25#32
  | 20 => 22#32
  | 21 => 23#32
  | 22 => 24#32
  | 23 => 25#32
  | 24 => 22#32
  | 25 => 23#32
  | 26 => 24#32
  | 27 => 25#32
  | 28 => 22#32
  | 29 => 23#32
  | 30 => 24#32
  | 31 => 25#32
  | 32 => 22#32
  | 33 => 23#32
  | 34 => 24#32
  | 35 => 25#32
  | 36 => 22#32
  | 37 => 23#32
  | 38 => 24#32
  | 39 => 25#32
  | 40 => 22#32
  | 41 => 23#32
  | 42 => 24#32
  | 43 => 25#32
  | 44 => 22#32
  | 45 => 23#32
  | 46 => 24#32
  | 47 => 25#32
  | 48 => 22#32
  | 49 => 23#32
  | 50 => 24#32
  | 51 => 25#32
  | 52 => 22#32
  | 53 => 23#32
  | 54 => 24#32
  | 55 => 25#32
  | 56 => 22#32
  | 57 => 23#32
  | 58 => 24#32
  | 59 => 25#32
  | 60 => 22#32
  | 61 => 23#32
  | 62 => 24#32
  | 63 => 25#32
  | 64 => 23#32
  | 65 => 24#32
  | 66 => 25#32
  | 67 => 26#32
  | 68 => 23#32
  | 69 => 24#32
  | 70 => 25#32
  | 71 => 26#32
  | 72 => 23#32
  | 73 => 24#32
  | 74 => 25#32
  | 75 => 26#32
  | 76 => 23#32
  | 77 => 24#32
  | 78 => 25#32
  | 79 => 26#32
  | 80 => 23#32
  | 81 => 24#32
  | 82 => 25#32
  | 83 => 26#32
  | 84 => 23#32
  | 85 => 24#32
  | 86 => 25#32
  | 87 => 26#32
  | 88 => 23#32
  | 89 => 24#32
  | 90 => 25#32
  | 91 => 26#32
  | 92 => 23#32
  | 93 => 24#32
  | 94 => 25#32
  | 95 => 26#32
  | 96 => 23#32
  | 97 => 24#32
  | 98 => 25#32
  | 99 => 26#32
  | 100 => 23#32
  | 101 => 24#32
  | 102 => 25#32
  | 103 => 26#32
  | 104 => 23#32
  | 105 => 24#32
  | 106 => 25#32
  | 107 => 26#32
  | 108 => 23#32
  | 109 => 24#32
  | 110 => 25#32
  | 111 => 26#32
  | 112 => 23#32
  | 113 => 24#32
  | 114 => 25#32
  | 115 => 26#32
  | 116 => 23#32
  | 117 => 24#32
  | 118 => 25#32
  | 119 => 26#32
  | 120 => 23#32
  | 121 => 24#32
  | 122 => 25#32
  | 123 => 26#32
  | 124 => 23#32
  | 125 => 24#32
  | 126 => 25#32
  | 127 => 26#32
  | _ => 0#32

noncomputable abbrev lit0t0_12 (i : Nat) : BitVec 32 := match i % 128 with
  | 0 => 24#32
  | 1 => 25#32
  | 2 => 26#32
  | 3 => 27#32
  | 4 => 24#32
  | 5 => 25#32
  | 6 => 26#32
  | 7 => 27#32
  | 8 => 24#32
  | 9 => 25#32
  | 10 => 26#32
  | 11 => 27#32
  | 12 => 24#32
  | 13 => 25#32
  | 14 => 26#32
  | 15 => 27#32
  | 16 => 24#32
  | 17 => 25#32
  | 18 => 26#32
  | 19 => 27#32
  | 20 => 24#32
  | 21 => 25#32
  | 22 => 26#32
  | 23 => 27#32
  | 24 => 24#32
  | 25 => 25#32
  | 26 => 26#32
  | 27 => 27#32
  | 28 => 24#32
  | 29 => 25#32
  | 30 => 26#32
  | 31 => 27#32
  | 32 => 24#32
  | 33 => 25#32
  | 34 => 26#32
  | 35 => 27#32
  | 36 => 24#32
  | 37 => 25#32
  | 38 => 26#32
  | 39 => 27#32
  | 40 => 24#32
  | 41 => 25#32
  | 42 => 26#32
  | 43 => 27#32
  | 44 => 24#32
  | 45 => 25#32
  | 46 => 26#32
  | 47 => 27#32
  | 48 => 24#32
  | 49 => 25#32
  | 50 => 26#32
  | 51 => 27#32
  | 52 => 24#32
  | 53 => 25#32
  | 54 => 26#32
  | 55 => 27#32
  | 56 => 24#32
  | 57 => 25#32
  | 58 => 26#32
  | 59 => 27#32
  | 60 => 24#32
  | 61 => 25#32
  | 62 => 26#32
  | 63 => 27#32
  | 64 => 25#32
  | 65 => 26#32
  | 66 => 27#32
  | 67 => 28#32
  | 68 => 25#32
  | 69 => 26#32
  | 70 => 27#32
  | 71 => 28#32
  | 72 => 25#32
  | 73 => 26#32
  | 74 => 27#32
  | 75 => 28#32
  | 76 => 25#32
  | 77 => 26#32
  | 78 => 27#32
  | 79 => 28#32
  | 80 => 25#32
  | 81 => 26#32
  | 82 => 27#32
  | 83 => 28#32
  | 84 => 25#32
  | 85 => 26#32
  | 86 => 27#32
  | 87 => 28#32
  | 88 => 25#32
  | 89 => 26#32
  | 90 => 27#32
  | 91 => 28#32
  | 92 => 25#32
  | 93 => 26#32
  | 94 => 27#32
  | 95 => 28#32
  | 96 => 25#32
  | 97 => 26#32
  | 98 => 27#32
  | 99 => 28#32
  | 100 => 25#32
  | 101 => 26#32
  | 102 => 27#32
  | 103 => 28#32
  | 104 => 25#32
  | 105 => 26#32
  | 106 => 27#32
  | 107 => 28#32
  | 108 => 25#32
  | 109 => 26#32
  | 110 => 27#32
  | 111 => 28#32
  | 112 => 25#32
  | 113 => 26#32
  | 114 => 27#32
  | 115 => 28#32
  | 116 => 25#32
  | 117 => 26#32
  | 118 => 27#32
  | 119 => 28#32
  | 120 => 25#32
  | 121 => 26#32
  | 122 => 27#32
  | 123 => 28#32
  | 124 => 25#32
  | 125 => 26#32
  | 126 => 27#32
  | 127 => 28#32
  | _ => 0#32

noncomputable abbrev lit0t0_13 (i : Nat) : BitVec 32 := match i % 128 with
  | 0 => 26#32
  | 1 => 27#32
  | 2 => 28#32
  | 3 => 29#32
  | 4 => 26#32
  | 5 => 27#32
  | 6 => 28#32
  | 7 => 29#32
  | 8 => 26#32
  | 9 => 27#32
  | 10 => 28#32
  | 11 => 29#32
  | 12 => 26#32
  | 13 => 27#32
  | 14 => 28#32
  | 15 => 29#32
  | 16 => 26#32
  | 17 => 27#32
  | 18 => 28#32
  | 19 => 29#32
  | 20 => 26#32
  | 21 => 27#32
  | 22 => 28#32
  | 23 => 29#32
  | 24 => 26#32
  | 25 => 27#32
  | 26 => 28#32
  | 27 => 29#32
  | 28 => 26#32
  | 29 => 27#32
  | 30 => 28#32
  | 31 => 29#32
  | 32 => 26#32
  | 33 => 27#32
  | 34 => 28#32
  | 35 => 29#32
  | 36 => 26#32
  | 37 => 27#32
  | 38 => 28#32
  | 39 => 29#32
  | 40 => 26#32
  | 41 => 27#32
  | 42 => 28#32
  | 43 => 29#32
  | 44 => 26#32
  | 45 => 27#32
  | 46 => 28#32
  | 47 => 29#32
  | 48 => 26#32
  | 49 => 27#32
  | 50 => 28#32
  | 51 => 29#32
  | 52 => 26#32
  | 53 => 27#32
  | 54 => 28#32
  | 55 => 29#32
  | 56 => 26#32
  | 57 => 27#32
  | 58 => 28#32
  | 59 => 29#32
  | 60 => 26#32
  | 61 => 27#32
  | 62 => 28#32
  | 63 => 29#32
  | 64 => 27#32
  | 65 => 28#32
  | 66 => 29#32
  | 67 => 30#32
  | 68 => 27#32
  | 69 => 28#32
  | 70 => 29#32
  | 71 => 30#32
  | 72 => 27#32
  | 73 => 28#32
  | 74 => 29#32
  | 75 => 30#32
  | 76 => 27#32
  | 77 => 28#32
  | 78 => 29#32
  | 79 => 30#32
  | 80 => 27#32
  | 81 => 28#32
  | 82 => 29#32
  | 83 => 30#32
  | 84 => 27#32
  | 85 => 28#32
  | 86 => 29#32
  | 87 => 30#32
  | 88 => 27#32
  | 89 => 28#32
  | 90 => 29#32
  | 91 => 30#32
  | 92 => 27#32
  | 93 => 28#32
  | 94 => 29#32
  | 95 => 30#32
  | 96 => 27#32
  | 97 => 28#32
  | 98 => 29#32
  | 99 => 30#32
  | 100 => 27#32
  | 101 => 28#32
  | 102 => 29#32
  | 103 => 30#32
  | 104 => 27#32
  | 105 => 28#32
  | 106 => 29#32
  | 107 => 30#32
  | 108 => 27#32
  | 109 => 28#32
  | 110 => 29#32
  | 111 => 30#32
  | 112 => 27#32
  | 113 => 28#32
  | 114 => 29#32
  | 115 => 30#32
  | 116 => 27#32
  | 117 => 28#32
  | 118 => 29#32
  | 119 => 30#32
  | 120 => 27#32
  | 121 => 28#32
  | 122 => 29#32
  | 123 => 30#32
  | 124 => 27#32
  | 125 => 28#32
  | 126 => 29#32
  | 127 => 30#32
  | _ => 0#32

noncomputable abbrev lit0t0_14 (i : Nat) : BitVec 32 := match i % 128 with
  | 0 => 28#32
  | 1 => 29#32
  | 2 => 30#32
  | 3 => 31#32
  | 4 => 28#32
  | 5 => 29#32
  | 6 => 30#32
  | 7 => 31#32
  | 8 => 28#32
  | 9 => 29#32
  | 10 => 30#32
  | 11 => 31#32
  | 12 => 28#32
  | 13 => 29#32
  | 14 => 30#32
  | 15 => 31#32
  | 16 => 28#32
  | 17 => 29#32
  | 18 => 30#32
  | 19 => 31#32
  | 20 => 28#32
  | 21 => 29#32
  | 22 => 30#32
  | 23 => 31#32
  | 24 => 28#32
  | 25 => 29#32
  | 26 => 30#32
  | 27 => 31#32
  | 28 => 28#32
  | 29 => 29#32
  | 30 => 30#32
  | 31 => 31#32
  | 32 => 28#32
  | 33 => 29#32
  | 34 => 30#32
  | 35 => 31#32
  | 36 => 28#32
  | 37 => 29#32
  | 38 => 30#32
  | 39 => 31#32
  | 40 => 28#32
  | 41 => 29#32
  | 42 => 30#32
  | 43 => 31#32
  | 44 => 28#32
  | 45 => 29#32
  | 46 => 30#32
  | 47 => 31#32
  | 48 => 28#32
  | 49 => 29#32
  | 50 => 30#32
  | 51 => 31#32
  | 52 => 28#32
  | 53 => 29#32
  | 54 => 30#32
  | 55 => 31#32
  | 56 => 28#32
  | 57 => 29#32
  | 58 => 30#32
  | 59 => 31#32
  | 60 => 28#32
  | 61 => 29#32
  | 62 => 30#32
  | 63 => 31#32
  | 64 => 29#32
  | 65 => 30#32
  | 66 => 31#32
  | 67 => 32#32
  | 68 => 29#32
  | 69 => 30#32
  | 70 => 31#32
  | 71 => 32#32
  | 72 => 29#32
  | 73 => 30#32
  | 74 => 31#32
  | 75 => 32#32
  | 76 => 29#32
  | 77 => 30#32
  | 78 => 31#32
  | 79 => 32#32
  | 80 => 29#32
  | 81 => 30#32
  | 82 => 31#32
  | 83 => 32#32
  | 84 => 29#32
  | 85 => 30#32
  | 86 => 31#32
  | 87 => 32#32
  | 88 => 29#32
  | 89 => 30#32
  | 90 => 31#32
  | 91 => 32#32
  | 92 => 29#32
  | 93 => 30#32
  | 94 => 31#32
  | 95 => 32#32
  | 96 => 29#32
  | 97 => 30#32
  | 98 => 31#32
  | 99 => 32#32
  | 100 => 29#32
  | 101 => 30#32
  | 102 => 31#32
  | 103 => 32#32
  | 104 => 29#32
  | 105 => 30#32
  | 106 => 31#32
  | 107 => 32#32
  | 108 => 29#32
  | 109 => 30#32
  | 110 => 31#32
  | 111 => 32#32
  | 112 => 29#32
  | 113 => 30#32
  | 114 => 31#32
  | 115 => 32#32
  | 116 => 29#32
  | 117 => 30#32
  | 118 => 31#32
  | 119 => 32#32
  | 120 => 29#32
  | 121 => 30#32
  | 122 => 31#32
  | 123 => 32#32
  | 124 => 29#32
  | 125 => 30#32
  | 126 => 31#32
  | 127 => 32#32
  | _ => 0#32

noncomputable abbrev lit0t0_15 (i : Nat) : BitVec 32 := match i % 128 with
  | 0 => 30#32
  | 1 => 31#32
  | 2 => 32#32
  | 3 => 33#32
  | 4 => 30#32
  | 5 => 31#32
  | 6 => 32#32
  | 7 => 33#32
  | 8 => 30#32
  | 9 => 31#32
  | 10 => 32#32
  | 11 => 33#32
  | 12 => 30#32
  | 13 => 31#32
  | 14 => 32#32
  | 15 => 33#32
  | 16 => 30#32
  | 17 => 31#32
  | 18 => 32#32
  | 19 => 33#32
  | 20 => 30#32
  | 21 => 31#32
  | 22 => 32#32
  | 23 => 33#32
  | 24 => 30#32
  | 25 => 31#32
  | 26 => 32#32
  | 27 => 33#32
  | 28 => 30#32
  | 29 => 31#32
  | 30 => 32#32
  | 31 => 33#32
  | 32 => 30#32
  | 33 => 31#32
  | 34 => 32#32
  | 35 => 33#32
  | 36 => 30#32
  | 37 => 31#32
  | 38 => 32#32
  | 39 => 33#32
  | 40 => 30#32
  | 41 => 31#32
  | 42 => 32#32
  | 43 => 33#32
  | 44 => 30#32
  | 45 => 31#32
  | 46 => 32#32
  | 47 => 33#32
  | 48 => 30#32
  | 49 => 31#32
  | 50 => 32#32
  | 51 => 33#32
  | 52 => 30#32
  | 53 => 31#32
  | 54 => 32#32
  | 55 => 33#32
  | 56 => 30#32
  | 57 => 31#32
  | 58 => 32#32
  | 59 => 33#32
  | 60 => 30#32
  | 61 => 31#32
  | 62 => 32#32
  | 63 => 33#32
  | 64 => 31#32
  | 65 => 32#32
  | 66 => 33#32
  | 67 => 34#32
  | 68 => 31#32
  | 69 => 32#32
  | 70 => 33#32
  | 71 => 34#32
  | 72 => 31#32
  | 73 => 32#32
  | 74 => 33#32
  | 75 => 34#32
  | 76 => 31#32
  | 77 => 32#32
  | 78 => 33#32
  | 79 => 34#32
  | 80 => 31#32
  | 81 => 32#32
  | 82 => 33#32
  | 83 => 34#32
  | 84 => 31#32
  | 85 => 32#32
  | 86 => 33#32
  | 87 => 34#32
  | 88 => 31#32
  | 89 => 32#32
  | 90 => 33#32
  | 91 => 34#32
  | 92 => 31#32
  | 93 => 32#32
  | 94 => 33#32
  | 95 => 34#32
  | 96 => 31#32
  | 97 => 32#32
  | 98 => 33#32
  | 99 => 34#32
  | 100 => 31#32
  | 101 => 32#32
  | 102 => 33#32
  | 103 => 34#32
  | 104 => 31#32
  | 105 => 32#32
  | 106 => 33#32
  | 107 => 34#32
  | 108 => 31#32
  | 109 => 32#32
  | 110 => 33#32
  | 111 => 34#32
  | 112 => 31#32
  | 113 => 32#32
  | 114 => 33#32
  | 115 => 34#32
  | 116 => 31#32
  | 117 => 32#32
  | 118 => 33#32
  | 119 => 34#32
  | 120 => 31#32
  | 121 => 32#32
  | 122 => 33#32
  | 123 => 34#32
  | 124 => 31#32
  | 125 => 32#32
  | 126 => 33#32
  | 127 => 34#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | _ => 0#32

noncomputable abbrev lit0 : Fin 2048 → BitVec 32 := fun ⟨i, _⟩ => lit0t i

noncomputable abbrev lit1t0_0 (i : Nat) : BitVec 32 := match i % 128 with
  | 0 => 0x3F7FFFF0#32
  | 1 => 0x3580D955#32
  | 2 => 0x2A2CF02D#32
  | 3 => 0x1DCE52C6#32
  | 4 => 0x3F52DAD0#32
  | 5 => 0x3E2EBF00#32
  | 6 => 0x3BB960A9#32
  | 7 => 0x382BAC57#32
  | 8 => 0x3F2B5B24#32
  | 9 => 0x3E9DFECC#32
  | 10 => 0x3CB20008#32
  | 11 => 0x39ABAC01#32
  | 12 => 0x3F09205B#32
  | 13 => 0x3ED53000#32
  | 14 => 0x3D3FF385#32
  | 15 => 0x3A90D909#32
  | 16 => 0x3ED793CA#32
  | 17 => 0x3EFE4514#32
  | 18 => 0x3DA33F27#32
  | 19 => 0x3B2BABD6#32
  | 20 => 0x3EA5EE62#32
  | 21 => 0x3F0D4802#32
  | 22 => 0x3DF38C0D#32
  | 23 => 0x3BA7A5C7#32
  | 24 => 0x3E791EBB#32
  | 25 => 0x3F15B164#32
  | 26 => 0x3E270E27#32
  | 27 => 0x3C10D8F0#32
  | 28 => 0x3E356B35#32
  | 29 => 0x3F1907AD#32
  | 30 => 0x3E5815E5#32
  | 31 => 0x3C660323#32
  | 32 => 0x3DFE7FE1#32
  | 33 => 0x3F17F3DB#32
  | 34 => 0x3E85BD96#32
  | 35 => 0x3CABABC0#32
  | 36 => 0x3DAA3558#32
  | 37 => 0x3F131EEA#32
  | 38 => 0x3E9FEDF5#32
  | 39 => 0x3CF46E08#32
  | 40 => 0x3D55E492#32
  | 41 => 0x3F0B31D7#32
  | 42 => 0x3EB9EB08#32
  | 43 => 0x3D27A5B6#32
  | 44 => 0x3CF6C8C1#32
  | 45 => 0x3F00D5A0#32
  | 46 => 0x3ED303C5#32
  | 47 => 0x3D5F2377#32
  | 48 => 0x3C7B8446#32
  | 49 => 0x3EE96683#32
  | 50 => 0x3EEA8722#32
  | 51 => 0x3D90D8E4#32
  | 52 => 0x3BD28CE2#32
  | 53 => 0x3ECEE76F#32
  | 54 => 0x3EFFC417#32
  | 55 => 0x3DB82916#32
  | 56 => 0x3AF59F01#32
  | 57 => 0x3EB38001#32
  | 58 => 0x3F0904CE#32
  | 59 => 0x3DE60312#32
  | 60 => 0x396A1B97#32
  | 61 => 0x3E988231#32
  | 62 => 0x3F105353#32
  | 63 => 0x3E0D73CD#32
  | 64 => 0x3E7E7FF1#32
  | 65 => 0x3F157516#32
  | 66 => 0x3E2BABB5#32
  | 67 => 0x30ABBFE2#32
  | 68 => 0x3E518973#32
  | 69 => 0x3F182C0D#32
  | 70 => 0x3E4DBA93#32
  | 71 => 0x383C4687#32
  | 72 => 0x3E2A3564#32
  | 73 => 0x3F189A9A#32
  | 74 => 0x3E73064A#32
  | 75 => 0x39B3D865#32
  | 76 => 0x3E082334#32
  | 77 => 0x3F16F90F#32
  | 78 => 0x3E8D66DC#32
  | 79 => 0x3A956BEA#32
  | 80 => 0x3DD5E4A4#32
  | 81 => 0x3F137FC3#32
  | 82 => 0x3EA227DE#32
  | 83 => 0x3B2FB9EB#32
  | 84 => 0x3DA4845B#32
  | 85 => 0x3F0E6708#32
  | 86 => 0x3EB7659B#32
  | 87 => 0x3BAACF84#32
  | 88 => 0x3D76C8DA#32
  | 89 => 0x3F07E734#32
  | 90 => 0x3ECCBF81#32
  | 91 => 0x3C131F58#32
  | 92 => 0x3D33876E#32
  | 93 => 0x3F00389B#32
  | 94 => 0x3EE1D502#32
  | 95 => 0x3C691B44#32
  | 96 => 0x3CFB8465#32
  | 97 => 0x3EEF2722#32
  | 98 => 0x3EF6458B#32
  | 99 => 0x3CADB0C6#32
  | 100 => 0x3CA7EDC9#32
  | 101 => 0x3EDC60D5#32
  | 102 => 0x3F04D846#32
  | 103 => 0x3CF6FC1A#32
  | 104 => 0x3C528D06#32
  | 105 => 0x3EC88EF8#32
  | 106 => 0x3F0DDABB#32
  | 107 => 0x3D293951#32
  | 108 => 0x3BF2283B#32
  | 109 => 0x3EB42233#32
  | 110 => 0x3F15F9DB#32
  | 111 => 0x3D610BB1#32
  | 112 => 0x3B759F3F#32
  | 113 => 0x3E9F8B2E#32
  | 114 => 0x3F1D055F#32
  | 115 => 0x3D91FB57#32
  | 116 => 0x3ACBF89F#32
  | 117 => 0x3E8B3A93#32
  | 118 => 0x3F22CCFE#32
  | 119 => 0x3DB97DE4#32
  | 120 => 0x39EA1C10#32
  | 121 => 0x3E6F4215#32
  | 122 => 0x3F27206F#32
  | 123 => 0x3DE78E41#32
  | 124 => 0x38542CDE#32
  | 125 => 0x3E4A5E7A#32
  | 126 => 0x3F29CF6B#32
  | 127 => 0x3E0E5698#32
  | _ => 0#32

noncomputable abbrev lit1t0_1 (i : Nat) : BitVec 32 := match i % 128 with
  | 0 => 0x3E28ABA2#32
  | 1 => 0x3F2AA9AA#32
  | 2 => 0x3E2CADB5#32
  | 3 => 0x322BB51A#32
  | 4 => 0x3E0AD0FF#32
  | 5 => 0x3F29922F#32
  | 6 => 0x3E4ED966#32
  | 7 => 0x384DEA43#32
  | 8 => 0x3DE16BF1#32
  | 9 => 0x3F26AC00#32
  | 10 => 0x3E743BE6#32
  | 11 => 0x39BC462B#32
  | 12 => 0x3DB4345C#32
  | 13 => 0x3F222764#32
  | 14 => 0x3E8E0A0B#32
  | 15 => 0x3A9A1730#32
  | 16 => 0x3D8D7A7F#32
  | 17 => 0x3F1C34A4#32
  | 18 => 0x3EA2D069#32
  | 19 => 0x3B33D839#32
  | 20 => 0x3D597B31#32
  | 21 => 0x3F150408#32
  | 22 => 0x3EB8107D#32
  | 23 => 0x3BAE0360#32
  | 24 => 0x3D22F9D0#32
  | 25 => 0x3F0CC5D8#32
  | 26 => 0x3ECD69B7#32
  | 27 => 0x3C156BD1#32
  | 28 => 0x3CECDEB4#32
  | 29 => 0x3F03AA5E#32
  | 30 => 0x3EE27B85#32
  | 31 => 0x3C6C3A78#32
  | 32 => 0x3CA5B49A#32
  | 33 => 0x3EF3C3C0#32
  | 34 => 0x3EF6E559#32
  | 35 => 0x3CAFB9D5#32
  | 36 => 0x3C5CE49D#32
  | 37 => 0x3EDF3950#32
  | 38 => 0x3F052350#32
  | 39 => 0x3CF98EB7#32
  | 40 => 0x3C0A299F#32
  | 41 => 0x3ECA15FB#32
  | 42 => 0x3F0E1F65#32
  | 43 => 0x3D2ACF73#32
  | 44 => 0x3B9E6468#32
  | 45 => 0x3EB4BA51#32
  | 46 => 0x3F1636A3#32
  | 47 => 0x3D62F6B1#32
  | 48 => 0x3B1FE153#32
  | 49 => 0x3E9F86E4#32
  | 50 => 0x3F1D38C3#32
  | 51 => 0x3D931F4C#32
  | 52 => 0x3A83AFE0#32
  | 53 => 0x3E8ADC44#32
  | 54 => 0x3F22F57B#32
  | 55 => 0x3DBAD455#32
  | 56 => 0x3994A472#32
  | 57 => 0x3E6E3602#32
  | 58 => 0x3F273C84#32
  | 59 => 0x3DE91B34#32
  | 60 => 0x37FF8B00#32
  | 61 => 0x3E494759#32
  | 62 => 0x3F29DD96#32
  | 63 => 0x3E0F3A55#32
  | 64 => 0x3E27ADA4#32
  | 65 => 0x3F2AA86A#32
  | 66 => 0x3E2DB0B2#32
  | 67 => 0x3310DDC5#32
  | 68 => 0x3E09F1F7#32
  | 69 => 0x3F2981BE#32
  | 70 => 0x3E4FF906#32
  | 71 => 0x38609F97#32
  | 72 => 0x3DDFE7C7#32
  | 73 => 0x3F268DE0#32
  | 74 => 0x3E757220#32
  | 75 => 0x39C4F654#32
  | 76 => 0x3DB2E613#32
  | 77 => 0x3F21FD18#32
  | 78 => 0x3E8EAD70#32
  | 79 => 0x3A9EDB1B#32
  | 80 => 0x3D8C5E10#32
  | 81 => 0x3F1BFFAE#32
  | 82 => 0x3EA37912#32
  | 83 => 0x3B3806DF#32
  | 84 => 0x3D579DFC#32
  | 85 => 0x3F14C5EB#32
  | 86 => 0x3EB8BB65#32
  | 87 => 0x3BB1416B#32
  | 88 => 0x3D217038#32
  | 89 => 0x3F0C8016#32
  | 90 => 0x3ECE13DA#32
  | 91 => 0x3C17BE63#32
  | 92 => 0x3CEA62A5#32
  | 93 => 0x3F035E78#32
  | 94 => 0x3EE321DF#32
  | 95 => 0x3C6F60C7#32
  | 96 => 0x3CA3BF94#32
  | 97 => 0x3EF322B3#32
  | 98 => 0x3EF784E4#32
  | 99 => 0x3CB1C6F3#32
  | 100 => 0x3C59E876#32
  | 101 => 0x3EDE9206#32
  | 102 => 0x3F056E2C#32
  | 103 => 0x3CFC25E3#32
  | 104 => 0x3C07FB2C#32
  | 105 => 0x3EC96B78#32
  | 106 => 0x3F0E63D6#32
  | 107 => 0x3D2C681C#32
  | 108 => 0x3B9B6287#32
  | 109 => 0x3EB40F9A#32
  | 110 => 0x3F167326#32
  | 111 => 0x3D64E479#32
  | 112 => 0x3B1C12DE#32
  | 113 => 0x3E9EDEFD#32
  | 114 => 0x3F1D6BD6#32
  | 115 => 0x3D9444C6#32
  | 116 => 0x3A7EF81C#32
  | 117 => 0x3E8A3A31#32
  | 118 => 0x3F231D9C#32
  | 119 => 0x3DBC2C6A#32
  | 120 => 0x398D738A#32
  | 121 => 0x3E6D0390#32
  | 122 => 0x3F275830#32
  | 123 => 0x3DEAA9EB#32
  | 124 => 0x37E6023C#32
  | 125 => 0x3E482CA2#32
  | 126 => 0x3F29EB4B#32
  | 127 => 0x3E101F04#32
  | _ => 0#32

noncomputable abbrev lit1t0_2 (i : Nat) : BitVec 32 := match i % 128 with
  | 0 => 0x3E26B0A4#32
  | 1 => 0x3F2AA6AB#32
  | 2 => 0x3E2EB4AC#32
  | 3 => 0x33ABAFB6#32
  | 4 => 0x3E0913DE#32
  | 5 => 0x3F2970DA#32
  | 6 => 0x3E511972#32
  | 7 => 0x38746E90#32
  | 8 => 0x3DDE655B#32
  | 9 => 0x3F266F5A#32
  | 10 => 0x3E76A8F6#32
  | 11 => 0x39CDE9E2#32
  | 12 => 0x3DB19967#32
  | 13 => 0x3F21D272#32
  | 14 => 0x3E8F510B#32
  | 15 => 0x3AA3B7EA#32
  | 16 => 0x3D8B431F#32
  | 17 => 0x3F1BCA6A#32
  | 18 => 0x3EA421D9#32
  | 19 => 0x3B3C45FD#32
  | 20 => 0x3D55C382#32
  | 21 => 0x3F14878B#32
  | 22 => 0x3EB96654#32
  | 23 => 0x3BB489B6#32
  | 24 => 0x3D1FE91B#32
  | 25 => 0x3F0C3A1D#32
  | 26 => 0x3ECEBDEB#32
  | 27 => 0x3C1A1717#32
  | 28 => 0x3CE7EB0D#32
  | 29 => 0x3F031268#32
  | 30 => 0x3EE3C80E#32
  | 31 => 0x3C728E38#32
  | 32 => 0x3CA1CE85#32
  | 33 => 0x3EF28169#32
  | 34 => 0x3EF8242D#32
  | 35 => 0x3CB3D823#32
  | 36 => 0x3C56F339#32
  | 37 => 0x3EDDEA96#32
  | 38 => 0x3F05B8DB#32
  | 39 => 0x3CFEC1A2#32
  | 40 => 0x3C05D2A1#32
  | 41 => 0x3EC8C0E7#32
  | 42 => 0x3F0EA80D#32
  | 43 => 0x3D2E034F#32
  | 44 => 0x3B986A75#32
  | 45 => 0x3EB364ED#32
  | 46 => 0x3F16AF64#32
  | 47 => 0x3D66D50C#32
  | 48 => 0x3B185400#32
  | 49 => 0x3E9E3739#32
  | 50 => 0x3F1D9E97#32
  | 51 => 0x3D956BC5#32
  | 52 => 0x3A76BEBE#32
  | 53 => 0x3E89985A#32
  | 54 => 0x3F23455F#32
  | 55 => 0x3DBD8625#32
  | 56 => 0x39867EFC#32
  | 57 => 0x3E6BD1C3#32
  | 58 => 0x3F277372#32
  | 59 => 0x3DEC3A67#32
  | 60 => 0x37CE3C17#32
  | 61 => 0x3E4712C1#32
  | 62 => 0x3F29F88A#32
  | 63 => 0x3E1104A6#32
  | 64 => 0x3E25B4A4#32
  | 65 => 0x3F2AA46C#32
  | 66 => 0x3E2FB9A1#32
  | 67 => 0x3427A88A#32
  | 68 => 0x3E0836B4#32
  | 69 => 0x3F295F83#32
  | 70 => 0x3E523AA9#32
  | 71 => 0x3884AF9D#32
  | 72 => 0x3DDCE4AD#32
  | 73 => 0x3F26506D#32
  | 74 => 0x3E77E066#32
  | 75 => 0x39D721D5#32
  | 76 => 0x3DB04E59#32
  | 77 => 0x3F21A770#32
  | 78 => 0x3E8FF4DB#32
  | 79 => 0x3AA8ADE0#32
  | 80 => 0x3D8A29AB#32
  | 81 => 0x3F1B94D7#32
  | 82 => 0x3EA4CABC#32
  | 83 => 0x3B4095B5#32
  | 84 => 0x3D53EBC3#32
  | 85 => 0x3F1448E8#32
  | 86 => 0x3EBA1146#32
  | 87 => 0x3BB7DC50#32
  | 88 => 0x3D1E6478#32
  | 89 => 0x3F0BF3ED#32
  | 90 => 0x3ECF67E8#32
  | 91 => 0x3C1C75F3#32
  | 92 => 0x3CE577E7#32
  | 93 => 0x3F02C62D#32
  | 94 => 0x3EE46E12#32
  | 95 => 0x3C75C2D4#32
  | 96 => 0x3C9FE168#32
  | 97 => 0x3EF1DFE1#32
  | 98 => 0x3EF8C332#32
  | 99 => 0x3CB5ED68#32
  | 100 => 0x3C5404DF#32
  | 101 => 0x3EDD4301#32
  | 102 => 0x3F06035C#32
  | 103 => 0x3D00B0FC#32
  | 104 => 0x3C03AFF7#32
  | 105 => 0x3EC8164A#32
  | 106 => 0x3F0EEC0A#32
  | 107 => 0x3D2FA10D#32
  | 108 => 0x3B957C21#32
  | 109 => 0x3EB2BA4C#32
  | 110 => 0x3F16EB5B#32
  | 111 => 0x3D68C86B#32
  | 112 => 0x3B14A499#32
  | 113 => 0x3E9D8F98#32
  | 114 => 0x3F1DD106#32
  | 115 => 0x3D96944A#32
  | 116 => 0x3A6EB324#32
  | 117 => 0x3E88F6BE#32
  | 118 => 0x3F236CC3#32
  | 119 => 0x3DBEE187#32
  | 120 => 0x397F8B8E#32
  | 121 => 0x3E6AA09F#32
  | 122 => 0x3F278E4A#32
  | 123 => 0x3DEDCCAB#32
  | 124 => 0x37B8287A#32
  | 125 => 0x3E45F9B9#32
  | 126 => 0x3F2A0552#32
  | 127 => 0x3E11EB3C#32
  | _ => 0#32

noncomputable abbrev lit1t0_3 (i : Nat) : BitVec 32 := match i % 128 with
  | 0 => 0x3E24B9A3#32
  | 1 => 0x3F2AA1AF#32
  | 2 => 0x3E30BF8F#32
  | 3 => 0x3490DABD#32
  | 4 => 0x3E075A78#32
  | 5 => 0x3F294DBA#32
  | 6 => 0x3E535CA9#32
  | 7 => 0x388FBCD0#32
  | 8 => 0x3DDB65BC#32
  | 9 => 0x3F263119#32
  | 10 => 0x3E79186F#32
  | 11 => 0x39E09F30#32
  | 12 => 0x3DAF04E8#32
  | 13 => 0x3F217C15#32
  | 14 => 0x3E9098E0#32
  | 15 => 0x3AADBD3B#32
  | 16 => 0x3D8911B4#32
  | 17 => 0x3F1B5EF5#32
  | 18 => 0x3EA573BC#32
  | 19 => 0x3B44F625#32
  | 20 => 0x3D5216BC#32
  | 21 => 0x3F140A03#32
  | 22 => 0x3EBABC3D#32
  | 23 => 0x3BBB394A#32
  | 24 => 0x3D1CE24D#32
  | 25 => 0x3F0BAD86#32
  | 26 => 0x3ED011D2#32
  | 27 => 0x3C1EDB01#32
  | 28 => 0x3CE30930#32
  | 29 => 0x3F0279C8#32
  | 30 => 0x3EE513E9#32
  | 31 => 0x3C78FEA3#32
  | 32 => 0x3C9DF838#32
  | 33 => 0x3EF13E1E#32
  | 34 => 0x3EF961F2#32
  | 35 => 0x3CB806C8#32
  | 36 => 0x3C511D5F#32
  | 37 => 0x3EDC9B49#32
  | 38 => 0x3F064DAF#32
  | 39 => 0x3D020374#32
  | 40 => 0x3C019325#32
  | 41 => 0x3EC76BA1#32
  | 42 => 0x3F0F2FCD#32
  | 43 => 0x3D31415A#32
  | 44 => 0x3B92977C#32
  | 45 => 0x3EB20FB7#32
  | 46 => 0x3F17270C#32
  | 47 => 0x3D6ABE97#32
  | 48 => 0x3B110489#32
  | 49 => 0x3E9CE81C#32
  | 50 => 0x3F1E0323#32
  | 51 => 0x3D97BE57#32
  | 52 => 0x3A66D4CD#32
  | 53 => 0x3E88555F#32
  | 54 => 0x3F2393C9#32
  | 55 => 0x3DC03E8F#32
  | 56 => 0x39728DD1#32
  | 57 => 0x3E697024#32
  | 58 => 0x3F27A8B7#32
  | 59 => 0x3DEF60B6#32
  | 60 => 0x37A3B74D#32
  | 61 => 0x3E44E18A#32
  | 62 => 0x3F2A11A5#32
  | 63 => 0x3E12D2C6#32
  | 64 => 0x3E23BF9F#32
  | 65 => 0x3F2A9E74#32
  | 66 => 0x3E31C675#32
  | 67 => 0x34E60554#32
  | 68 => 0x3E067F2A#32
  | 69 => 0x3F293B7E#32
  | 70 => 0x3E547F71#32
  | 71 => 0x389B62E7#32
  | 72 => 0x3DD9E886#32
  | 73 => 0x3F26115F#32
  | 74 => 0x3E7A5110#32
  | 75 => 0x39EA62F5#32
  | 76 => 0x3DADBD12#32
  | 77 => 0x3F21505F#32
  | 78 => 0x3E913D18#32
  | 79 => 0x3AB2E63C#32
  | 80 => 0x3D87FB37#32
  | 81 => 0x3F1B28C6#32
  | 82 => 0x3EA61CD8#32
  | 83 => 0x3B49676E#32
  | 84 => 0x3D50446B#32
  | 85 => 0x3F13CADC#32
  | 86 => 0x3EBB6737#32
  | 87 => 0x3BBEA0B3#32
  | 88 => 0x3D1B6297#32
  | 89 => 0x3F0B66EA#32
  | 90 => 0x3ED0BBA6#32
  | 91 => 0x3C214648#32
  | 92 => 0x3CE09EE3#32
  | 93 => 0x3F022D39#32
  | 94 => 0x3EE5B993#32
  | 95 => 0x3C7C41AC#32
  | 96 => 0x3C9C12F2#32
  | 97 => 0x3EF09C1F#32
  | 98 => 0x3EFA006E#32
  | 99 => 0x3CBA2446#32
  | 100 => 0x3C4E3CB0#32
  | 101 => 0x3EDBF36D#32
  | 102 => 0x3F0697D3#32
  | 103 => 0x3D03583C#32
  | 104 => 0x3BFEF849#32
  | 105 => 0x3EC6C0ED#32
  | 106 => 0x3F0F7356#32
  | 107 => 0x3D32E436#32
  | 108 => 0x3B8FBC75#32
  | 109 => 0x3EB1652F#32
  | 110 => 0x3F176276#32
  | 111 => 0x3D6CB795#32
  | 112 => 0x3B0D73B0#32
  | 113 => 0x3E9C40C5#32
  | 114 => 0x3F1E34EC#32
  | 115 => 0x3D98E9EC#32
  | 116 => 0x3A5F233A#32
  | 117 => 0x3E87B43E#32
  | 118 => 0x3F23BA70#32
  | 119 => 0x3DC19D41#32
  | 120 => 0x396602C0#32
  | 121 => 0x3E684055#32
  | 122 => 0x3F27C2B9#32
  | 123 => 0x3DF0F68A#32
  | 124 => 0x3790D877#32
  | 125 => 0x3E43CA37#32
  | 126 => 0x3F2A1D80#32
  | 127 => 0x3E13BB44#32
  | _ => 0#32

noncomputable abbrev lit1t0_4 (i : Nat) : BitVec 32 := match i % 128 with
  | 0 => 0x3E22C699#32
  | 1 => 0x3F2A9ABB#32
  | 2 => 0x3E32CE52#32
  | 3 => 0x352BAD04#32
  | 4 => 0x3E05A4CA#32
  | 5 => 0x3F2928D1#32
  | 6 => 0x3E55A2FF#32
  | 7 => 0x38A7A5E8#32
  | 8 => 0x3DD86D0B#32
  | 9 => 0x3F25F13F#32
  | 10 => 0x3E7B8A46#32
  | 11 => 0x39F46E23#32
  | 12 => 0x3DAC76D6#32
  | 13 => 0x3F21244F#32
  | 14 => 0x3E91E183#32
  | 15 => 0x3AB82925#32
  | 16 => 0x3D86E635#32
  | 17 => 0x3F1AF249#32
  | 18 => 0x3EA6C60E#32
  | 19 => 0x3B4DE9B1#32
  | 20 => 0x3D4E74CE#32
  | 21 => 0x3F138B74#32
  | 22 => 0x3EBC1234#32
  | 23 => 0x3BC2129C#32
  | 24 => 0x3D19E555#32
  | 25 => 0x3F0B2019#32
  | 26 => 0x3ED16565#32
  | 27 => 0x3C23B7D0#32
  | 28 => 0x3CDE38FD#32
  | 29 => 0x3F01E080#32
  | 30 => 0x3EE65F0F#32
  | 31 => 0x3C7F8BF8#32
  | 32 => 0x3C9A3192#32
  | 33 => 0x3EEFF9E5#32
  | 34 => 0x3EFA9EA3#32
  | 35 => 0x3CBC45E6#32
  | 36 => 0x3C4B62CC#32
  | 37 => 0x3EDB4B6F#32
  | 38 => 0x3F06E1C8#32
  | 39 => 0x3D04AF55#32
  | 40 => 0x3BFAD5D9#32
  | 41 => 0x3EC6162F#32
  | 42 => 0x3F0FB6A3#32
  | 43 => 0x3D3489A5#32
  | 44 => 0x3B8CEAFC#32
  | 45 => 0x3EB0BAB6#32
  | 46 => 0x3F179D99#32
  | 47 => 0x3D6EB364#32
  | 48 => 0x3B09F1ED#32
  | 49 => 0x3E9B9994#32
  | 50 => 0x3F1E6663#32
  | 51 => 0x3D9A170A#32
  | 52 => 0x3A579DE8#32
  | 53 => 0x3E87135A#32
  | 54 => 0x3F23E0B8#32
  | 55 => 0x3DC2FD9C#32
  | 56 => 0x3959E856#32
  | 57 => 0x3E671131#32
  | 58 => 0x3F27DC50#32
  | 59 => 0x3DF28E27#32
  | 60 => 0x377EF7C3#32
  | 61 => 0x3E42B3C1#32
  | 62 => 0x3F2A28E3#32
  | 63 => 0x3E14A4B7#32
  | 64 => 0x3E21CE8F#32
  | 65 => 0x3F2A9684#32
  | 66 => 0x3E33D723#32
  | 67 => 0x35746F6B#32
  | 68 => 0x3E04CB56#32
  | 69 => 0x3F2915B2#32
  | 70 => 0x3E56C752#32
  | 71 => 0x38B489DA#32
  | 72 => 0x3DD6F349#32
  | 73 => 0x3F25D0BA#32
  | 74 => 0x3E7CC411#32
  | 75 => 0x39FEC1BE#32
  | 76 => 0x3DAB3234#32
  | 77 => 0x3F20F7E7#32
  | 78 => 0x3E92861F#32
  | 79 => 0x3ABD8634#32
  | 80 => 0x3D85D2AC#32
  | 81 => 0x3F1ABB7F#32
  | 82 => 0x3EA76F5E#32
  | 83 => 0x3B527D0D#32
  | 84 => 0x3D4CA7E2#32
  | 85 => 0x3F134BCA#32
  | 86 => 0x3EBCBD32#32
  | 87 => 0x3BC58F15#32
  | 88 => 0x3D186A84#32
  | 89 => 0x3F0AD913#32
  | 90 => 0x3ED20F0D#32
  | 91 => 0x3C262FA2#32
  | 92 => 0x3CDBD779#32
  | 93 => 0x3F01939F#32
  | 94 => 0x3EE7045D#32
  | 95 => 0x3C816EC8#32
  | 96 => 0x3C985414#32
  | 97 => 0x3EEF5772#32
  | 98 => 0x3EFB3C92#32
  | 99 => 0x3CBE6BAD#32
  | 100 => 0x3C488FAA#32
  | 101 => 0x3EDAA34F#32
  | 102 => 0x3F072B8E#32
  | 103 => 0x3D0608C1#32
  | 104 => 0x3BF6BEEA#32
  | 105 => 0x3EC56B67#32
  | 106 => 0x3F0FF9B4#32
  | 107 => 0x3D3631A7#32
  | 108 => 0x3B8A2301#32
  | 109 => 0x3EB0104A#32
  | 110 => 0x3F17D874#32
  | 111 => 0x3D70B207#32
  | 112 => 0x3B067F21#32
  | 113 => 0x3E9AF28A#32
  | 114 => 0x3F1E9786#32
  | 115 => 0x3D9B45B3#32
  | 116 => 0x3A504457#32
  | 117 => 0x3E8672B5#32
  | 118 => 0x3F2406A0#32
  | 119 => 0x3DC45FA1#32
  | 120 => 0x394E3C92#32
  | 121 => 0x3E65E2BC#32
  | 122 => 0x3F27F57B#32
  | 123 => 0x3DF4278F#32
  | 124 => 0x375F22E8#32
  | 125 => 0x3E419E29#32
  | 126 => 0x3F2A33CF#32
  | 127 => 0x3E158F1F#32
  | _ => 0#32

noncomputable abbrev lit1t0_5 (i : Nat) : BitVec 32 := match i % 128 with
  | 0 => 0x3E20D783#32
  | 1 => 0x3F2A91D0#32
  | 2 => 0x3E34E0E8#32
  | 3 => 0x35A7A66F#32
  | 4 => 0x3E03F2CF#32
  | 5 => 0x3F290222#32
  | 6 => 0x3E57EC67#32
  | 7 => 0x38C212C1#32
  | 8 => 0x3DD57B40#32
  | 9 => 0x3F25AFD1#32
  | 10 => 0x3E7DFE6E#32
  | 11 => 0x3A04AF63#32
  | 12 => 0x3DA9EF2A#32
  | 13 => 0x3F20CB25#32
  | 14 => 0x3E932AEE#32
  | 15 => 0x3AC2FDAA#32
  | 16 => 0x3D84C09C#32
  | 17 => 0x3F1A8468#32
  | 18 => 0x3EA818C7#32
  | 19 => 0x3B5721A3#32
  | 20 => 0x3D4ADDA7#32
  | 21 => 0x3F130BE0#32
  | 22 => 0x3EBD6832#32
  | 23 => 0x3BC9162D#32
  | 24 => 0x3D16F224#32
  | 25 => 0x3F0A91D7#32
  | 26 => 0x3ED2B89F#32
  | 27 => 0x3C28ADC5#32
  | 28 => 0x3CD97A54#32
  | 29 => 0x3F014695#32
  | 30 => 0x3EE7A97C#32
  | 31 => 0x3C831B3D#32
  | 32 => 0x3C967A74#32
  | 33 => 0x3EEEB4C5#32
  | 34 => 0x3EFBDA3A#32
  | 35 => 0x3CC0959D#32
  | 36 => 0x3C45C343#32
  | 37 => 0x3ED9FB0E#32
  | 38 => 0x3F077524#32
  | 39 => 0x3D076484#32
  | 40 => 0x3BF2B36C#32
  | 41 => 0x3EC4C096#32
  | 42 => 0x3F103C8A#32
  | 43 => 0x3D37DC3F#32
  | 44 => 0x3B876475#32
  | 45 => 0x3EAF65EE#32
  | 46 => 0x3F181308#32
  | 47 => 0x3D72B381#32
  | 48 => 0x3B031B2B#32
  | 49 => 0x3E9A4BA7#32
  | 50 => 0x3F1EC855#32
  | 51 => 0x3D9C75E6#32
  | 52 => 0x3A491607#32
  | 53 => 0x3E85D250#32
  | 54 => 0x3F242C28#32
  | 55 => 0x3DC5C352#32
  | 56 => 0x3942FD6F#32
  | 57 => 0x3E64B4F6#32
  | 58 => 0x3F280E3A#32
  | 59 => 0x3DF5C2C3#32
  | 60 => 0x3742122D#32
  | 61 => 0x3E408971#32
  | 62 => 0x3F2A3E42#32
  | 63 => 0x3E167A7D#32
  | 64 => 0x3E1FE172#32
  | 65 => 0x3F2A8CA0#32
  | 66 => 0x3E35EB9F#32
  | 67 => 0x35DF242E#32
  | 68 => 0x3E031B34#32
  | 69 => 0x3F28EE21#32
  | 70 => 0x3E59123F#32
  | 71 => 0x38D044A5#32
  | 72 => 0x3DD404EE#32
  | 73 => 0x3F258E82#32
  | 74 => 0x3E7F395D#32
  | 75 => 0x3A0A231F#32
  | 76 => 0x3DA8ADB7#32
  | 77 => 0x3F209E0B#32
  | 78 => 0x3E93CFEC#32
  | 79 => 0x3AC88FC9#32
  | 80 => 0x3D83B002#32
  | 81 => 0x3F1A4D04#32
  | 82 => 0x3EA8C248#32
  | 83 => 0x3B5BD793#32
  | 84 => 0x3D49161A#32
  | 85 => 0x3F12CBB6#32
  | 86 => 0x3EBE1332#32
  | 87 => 0x3BCCA7F6#32
  | 88 => 0x3D157C30#32
  | 89 => 0x3F0A4A68#32
  | 90 => 0x3ED36218#32
  | 91 => 0x3C2B3241#32
  | 92 => 0x3CD7218A#32
  | 93 => 0x3F00F963#32
  | 94 => 0x3EE84E6B#32
  | 95 => 0x3C84CB5F#32
  | 96 => 0x3C94A4AD#32
  | 97 => 0x3EEE11E0#32
  | 98 => 0x3EFC7799#32
  | 99 => 0x3CC2C3BC#32
  | 100 => 0x3C42FD8D#32
  | 101 => 0x3ED952AD#32
  | 102 => 0x3F07BE89#32
  | 103 => 0x3D08C29D#32
  | 104 => 0x3BEEB34F#32
  | 105 => 0x3EC415BD#32
  | 106 => 0x3F107F24#32
  | 107 => 0x3D39896E#32
  | 108 => 0x3B84AF46#32
  | 109 => 0x3EAEBBA2#32
  | 110 => 0x3F184D53#32
  | 111 => 0x3D74B7D3#32
  | 112 => 0x3AFF8BD5#32
  | 113 => 0x3E99A4EC#32
  | 114 => 0x3F1EF8CF#32
  | 115 => 0x3D9DA7A7#32
  | 116 => 0x3A421277#32
  | 117 => 0x3E85322B#32
  | 118 => 0x3F245150#32
  | 119 => 0x3DC728AF#32
  | 120 => 0x393828EC#32
  | 121 => 0x3E6387E2#32
  | 122 => 0x3F28268D#32
  | 123 => 0x3DF75FC3#32
  | 124 => 0x3727A561#32
  | 125 => 0x3E3F759A#32
  | 126 => 0x3F2A483D#32
  | 127 => 0x3E1766D2#32
  | _ => 0#32

noncomputable abbrev lit1t0_6 (i : Nat) : BitVec 32 := match i % 128 with
  | 0 => 0x3E1EEC5C#32
  | 1 => 0x3F2A86F3#32
  | 2 => 0x3E36F746#32
  | 3 => 0x3610D939#32
  | 4 => 0x3E024484#32
  | 5 => 0x3F28D9B0#32
  | 6 => 0x3E5A38D6#32
  | 7 => 0x38DF238B#32
  | 8 => 0x3DD29053#32
  | 9 => 0x3F256CCF#32
  | 10 => 0x3E803A6E#32
  | 11 => 0x3A0FBC93#32
  | 12 => 0x3DA76DDB#32
  | 13 => 0x3F207099#32
  | 14 => 0x3E94751B#32
  | 15 => 0x3ACE3CCF#32
  | 16 => 0x3D82A0DF#32
  | 17 => 0x3F1A1555#32
  | 18 => 0x3EA96BE1#32
  | 19 => 0x3B609EFD#32
  | 20 => 0x3D475139#32
  | 21 => 0x3F128B4B#32
  | 22 => 0x3EBEBE31#32
  | 23 => 0x3BD0447E#32
  | 24 => 0x3D1408A9#32
  | 25 => 0x3F0A02C5#32
  | 26 => 0x3ED40B79#32
  | 27 => 0x3C2DBD20#32
  | 28 => 0x3CD4CD16#32
  | 29 => 0x3F00AC09#32
  | 30 => 0x3EE8F328#32
  | 31 => 0x3C867F33#32
  | 32 => 0x3C92D2BC#32
  | 33 => 0x3EED6EC4#32
  | 34 => 0x3EFD14B0#32
  | 35 => 0x3CC4F60D#32
  | 36 => 0x3C403E81#32
  | 37 => 0x3ED8AA2D#32
  | 38 => 0x3F0807BF#32
  | 39 => 0x3D0A2310#32
  | 40 => 0x3BEABE82#32
  | 41 => 0x3EC36ADE#32
  | 42 => 0x3F10C181#32
  | 43 => 0x3D3B3938#32
  | 44 => 0x3B820366#32
  | 45 => 0x3EAE1167#32
  | 46 => 0x3F188756#32
  | 47 => 0x3D76BEFF#32
  | 48 => 0x3AF8FE80#32
  | 49 => 0x3E98FE5B#32
  | 50 => 0x3F1F28F5#32
  | 51 => 0x3D9EDAF4#32
  | 52 => 0x3A3B3926#32
  | 53 => 0x3E849248#32
  | 54 => 0x3F247617#32
  | 55 => 0x3DC88FBA#32
  | 56 => 0x392DBD04#32
  | 57 => 0x3E625B80#32
  | 58 => 0x3F283E72#32
  | 59 => 0x3DF8FE91#32
  | 60 => 0x370FBC56#32
  | 61 => 0x3E3E62A5#32
  | 62 => 0x3F2A51BF#32
  | 63 => 0x3E18541E#32
  | 64 => 0x3E1DF842#32
  | 65 => 0x3F2A80CA#32
  | 66 => 0x3E3803DC#32
  | 67 => 0x3638295E#32
  | 68 => 0x3E016EBF#32
  | 69 => 0x3F28C4D0#32
  | 70 => 0x3E5B602C#32
  | 71 => 0x38EEB379#32
  | 72 => 0x3DD11D6E#32
  | 73 => 0x3F254AB9#32
  | 74 => 0x3E80D874#32
  | 75 => 0x3A157C40#32
  | 76 => 0x3DA62F95#32
  | 77 => 0x3F2042CF#32
  | 78 => 0x3E951A78#32
  | 79 => 0x3AD404FE#32
  | 80 => 0x3D819330#32
  | 81 => 0x3F19DD59#32
  | 82 => 0x3EAA1591#32
  | 83 => 0x3B657801#32
  | 84 => 0x3D458F02#32
  | 85 => 0x3F124AA1#32
  | 86 => 0x3EBF692F#32
  | 87 => 0x3BD3EBD7#32
  | 88 => 0x3D12978B#32
  | 89 => 0x3F09BAEE#32
  | 90 => 0x3ED4B4C0#32
  | 91 => 0x3C304E67#32
  | 92 => 0x3CD27CF4#32
  | 93 => 0x3F005E88#32
  | 94 => 0x3EE997B5#32
  | 95 => 0x3C8836BD#32
  | 96 => 0x3C91049D#32
  | 97 => 0x3EECCB71#32
  | 98 => 0x3EFDB17C#32
  | 99 => 0x3CC72C95#32
  | 100 => 0x3C3D8617#32
  | 101 => 0x3ED8018D#32
  | 102 => 0x3F0850C3#32
  | 103 => 0x3D0B85DF#32
  | 104 => 0x3BE6D4F7#32
  | 105 => 0x3EC2BFF7#32
  | 106 => 0x3F1103A1#32
  | 107 => 0x3D3CEB9D#32
  | 108 => 0x3B7EC186#32
  | 109 => 0x3EAD673E#32
  | 110 => 0x3F18C10F#32
  | 111 => 0x3D78C908#32
  | 112 => 0x3AF28E16#32
  | 113 => 0x3E9857F3#32
  | 114 => 0x3F1F58C6#32
  | 115 => 0x3DA00FD0#32
  | 116 => 0x3A348993#32
  | 117 => 0x3E83F2A6#32
  | 118 => 0x3F249A7C#32
  | 119 => 0x3DC9F873#32
  | 120 => 0x3923B7B6#32
  | 121 => 0x3E612FD1#32
  | 122 => 0x3F2855EA#32
  | 123 => 0x3DFA9F2E#32
  | 124 => 0x36F46DB6#32
  | 125 => 0x3E3D5096#32
  | 126 => 0x3F2A5AC8#32
  | 127 => 0x3E194261#32
  | _ => 0#32

noncomputable abbrev lit1t0_7 (i : Nat) : BitVec 32 := match i % 128 with
  | 0 => 0x3E1D0522#32
  | 1 => 0x3F2A7A26#32
  | 2 => 0x3E391160#32
  | 3 => 0x36660344#32
  | 4 => 0x3E0099E4#32
  | 5 => 0x3F28AF7F#32
  | 6 => 0x3E5C8840#32
  | 7 => 0x38FEF875#32
  | 8 => 0x3DCFAC3D#32
  | 9 => 0x3F25283F#32
  | 10 => 0x3E8176C1#32
  | 11 => 0x3A1B62A7#32
  | 12 => 0x3DA4F2E2#32
  | 13 => 0x3F2014AD#32
  | 14 => 0x3E95C004#32
  | 15 => 0x3AD9E896#32
  | 16 => 0x3D8086F6#32
  | 17 => 0x3F19A513#32
  | 18 => 0x3EAABF57#32
  | 19 => 0x3B6A62BF#32
  | 20 => 0x3D43CF73#32
  | 21 => 0x3F1209B7#32
  | 22 => 0x3EC0142B#32
  | 23 => 0x3BD79E10#32
  | 24 => 0x3D1128D5#32
  | 25 => 0x3F0972E4#32
  | 26 => 0x3ED55DED#32
  | 27 => 0x3C32E621#32
  | 28 => 0x3CD03121#32
  | 29 => 0x3F0010E0#32
  | 30 => 0x3EEA3C0F#32
  | 31 => 0x3C89F200#32
  | 32 => 0x3C8F3A4B#32
  | 33 => 0x3EEC27E7#32
  | 34 => 0x3EFE4DFF#32
  | 35 => 0x3CC96756#32
  | 36 => 0x3C3AD447#32
  | 37 => 0x3ED758D0#32
  | 38 => 0x3F089996#32
  | 39 => 0x3D0CEB0B#32
  | 40 => 0x3BE2F69C#32
  | 41 => 0x3EC2150B#32
  | 42 => 0x3F114583#32
  | 43 => 0x3D3EA0A1#32
  | 44 => 0x3B798E9C#32
  | 45 => 0x3EACBD27#32
  | 46 => 0x3F18FA7F#32
  | 47 => 0x3D7AD5EF#32
  | 48 => 0x3AEC3A57#32
  | 49 => 0x3E97B1B6#32
  | 50 => 0x3F1F8841#32
  | 51 => 0x3DA1463B#32
  | 52 => 0x3A2E033D#32
  | 53 => 0x3E835347#32
  | 54 => 0x3F24BE80#32
  | 55 => 0x3DCB62DC#32
  | 56 => 0x391A16FD#32
  | 57 => 0x3E6004D9#32
  | 58 => 0x3F286CF5#32
  | 59 => 0x3DFC419B#32
  | 60 => 0x36CDE980#32
  | 61 => 0x3E3C3F6C#32
  | 62 => 0x3F2A6357#32
  | 63 => 0x3E1A319C#32
  | 64 => 0x3E1C12FC#32
  | 65 => 0x3F2A7306#32
  | 66 => 0x3E3A1FCF#32
  | 67 => 0x368D73D6#32
  | 68 => 0x3DFF8BE7#32
  | 69 => 0x3F2899C0#32
  | 70 => 0x3E5DB10E#32
  | 71 => 0x3907FB43#32
  | 72 => 0x3DCE3CC0#32
  | 73 => 0x3F250562#32
  | 74 => 0x3E821554#32
  | 75 => 0x3A217048#32
  | 76 => 0x3DA3B7C3#32
  | 77 => 0x3F1FE635#32
  | 78 => 0x3E9665BD#32
  | 79 => 0x3ADFE7D7#32
  | 80 => 0x3D7EF85F#32
  | 81 => 0x3F196C81#32
  | 82 => 0x3EAB6933#32
  | 83 => 0x3B6F5F59#32
  | 84 => 0x3D42128A#32
  | 85 => 0x3F11C88F#32
  | 86 => 0x3EC0BF24#32
  | 87 => 0x3BDB5B39#32
  | 88 => 0x3D0FBC84#32
  | 89 => 0x3F092AA7#32
  | 90 => 0x3ED60700#32
  | 91 => 0x3C358453#32
  | 92 => 0x3CCDE999#32
  | 93 => 0x3EFF8621#32
  | 94 => 0x3EEAE036#32
  | 95 => 0x3C8BB101#32
  | 96 => 0x3C8D73C3#32
  | 97 => 0x3EEB8429#32
  | 98 => 0x3EFEEA36#32
  | 99 => 0x3CCBA656#32
  | 100 => 0x3C382908#32
  | 101 => 0x3ED6AFF6#32
  | 102 => 0x3F08E237#32
  | 103 => 0x3D0E5297#32
  | 104 => 0x3BDF2362#32
  | 105 => 0x3EC16A19#32
  | 106 => 0x3F118728#32
  | 107 => 0x3D405844#32
  | 108 => 0x3B746DED#32
  | 109 => 0x3EAC1323#32
  | 110 => 0x3F1933A5#32
  | 111 => 0x3D7CE5B6#32
  | 112 => 0x3AE60302#32
  | 113 => 0x3E970BA3#32
  | 114 => 0x3F1FB766#32
  | 115 => 0x3DA27E36#32
  | 116 => 0x3A27A5A5#32
  | 117 => 0x3E82B42C#32
  | 118 => 0x3F24E222#32
  | 119 => 0x3DCCCEF5#32
  | 120 => 0x3910D8D8#32
  | 121 => 0x3E5EDA97#32
  | 122 => 0x3F288392#32
  | 123 => 0x3DFDE5D8#32
  | 124 => 0x36ABABAB#32
  | 125 => 0x3E3B2F29#32
  | 126 => 0x3F2A6B6C#32
  | 127 => 0x3E1B21D0#32
  | _ => 0#32

noncomputable abbrev lit1t0_8 (i : Nat) : BitVec 32 := match i % 128 with
  | 0 => 0x3E1B21D0#32
  | 1 => 0x3F2A6B6C#32
  | 2 => 0x3E3B2F29#32
  | 3 => 0x36ABABAB#32
  | 4 => 0x3DFDE5D8#32
  | 5 => 0x3F288392#32
  | 6 => 0x3E5EDA97#32
  | 7 => 0x3910D8D8#32
  | 8 => 0x3DCCCEF5#32
  | 9 => 0x3F24E222#32
  | 10 => 0x3E82B42C#32
  | 11 => 0x3A27A5A5#32
  | 12 => 0x3DA27E36#32
  | 13 => 0x3F1FB766#32
  | 14 => 0x3E970BA3#32
  | 15 => 0x3AE60302#32
  | 16 => 0x3D7CE5B6#32
  | 17 => 0x3F1933A5#32
  | 18 => 0x3EAC1323#32
  | 19 => 0x3B746DED#32
  | 20 => 0x3D405844#32
  | 21 => 0x3F118728#32
  | 22 => 0x3EC16A19#32
  | 23 => 0x3BDF2362#32
  | 24 => 0x3D0E5297#32
  | 25 => 0x3F08E237#32
  | 26 => 0x3ED6AFF6#32
  | 27 => 0x3C382908#32
  | 28 => 0x3CCBA656#32
  | 29 => 0x3EFEEA36#32
  | 30 => 0x3EEB8429#32
  | 31 => 0x3C8D73C3#32
  | 32 => 0x3C8BB101#32
  | 33 => 0x3EEAE036#32
  | 34 => 0x3EFF8621#32
  | 35 => 0x3CCDE999#32
  | 36 => 0x3C358453#32
  | 37 => 0x3ED60700#32
  | 38 => 0x3F092AA7#32
  | 39 => 0x3D0FBC84#32
  | 40 => 0x3BDB5B39#32
  | 41 => 0x3EC0BF24#32
  | 42 => 0x3F11C88F#32
  | 43 => 0x3D42128A#32
  | 44 => 0x3B6F5F59#32
  | 45 => 0x3EAB6933#32
  | 46 => 0x3F196C81#32
  | 47 => 0x3D7EF85F#32
  | 48 => 0x3ADFE7D7#32
  | 49 => 0x3E9665BD#32
  | 50 => 0x3F1FE635#32
  | 51 => 0x3DA3B7C3#32
  | 52 => 0x3A217048#32
  | 53 => 0x3E821554#32
  | 54 => 0x3F250562#32
  | 55 => 0x3DCE3CC0#32
  | 56 => 0x3907FB43#32
  | 57 => 0x3E5DB10E#32
  | 58 => 0x3F2899C0#32
  | 59 => 0x3DFF8BE7#32
  | 60 => 0x368D73D6#32
  | 61 => 0x3E3A1FCF#32
  | 62 => 0x3F2A7306#32
  | 63 => 0x3E1C12FC#32
  | 64 => 0x3E1A319C#32
  | 65 => 0x3F2A6357#32
  | 66 => 0x3E3C3F6C#32
  | 67 => 0x36CDE980#32
  | 68 => 0x3DFC419B#32
  | 69 => 0x3F286CF5#32
  | 70 => 0x3E6004D9#32
  | 71 => 0x391A16FD#32
  | 72 => 0x3DCB62DC#32
  | 73 => 0x3F24BE80#32
  | 74 => 0x3E835347#32
  | 75 => 0x3A2E033D#32
  | 76 => 0x3DA1463B#32
  | 77 => 0x3F1F8841#32
  | 78 => 0x3E97B1B6#32
  | 79 => 0x3AEC3A57#32
  | 80 => 0x3D7AD5EF#32
  | 81 => 0x3F18FA7F#32
  | 82 => 0x3EACBD27#32
  | 83 => 0x3B798E9C#32
  | 84 => 0x3D3EA0A1#32
  | 85 => 0x3F114583#32
  | 86 => 0x3EC2150B#32
  | 87 => 0x3BE2F69C#32
  | 88 => 0x3D0CEB0B#32
  | 89 => 0x3F089996#32
  | 90 => 0x3ED758D0#32
  | 91 => 0x3C3AD447#32
  | 92 => 0x3CC96756#32
  | 93 => 0x3EFE4DFF#32
  | 94 => 0x3EEC27E7#32
  | 95 => 0x3C8F3A4B#32
  | 96 => 0x3C89F200#32
  | 97 => 0x3EEA3C0F#32
  | 98 => 0x3F0010E0#32
  | 99 => 0x3CD03121#32
  | 100 => 0x3C32E621#32
  | 101 => 0x3ED55DED#32
  | 102 => 0x3F0972E4#32
  | 103 => 0x3D1128D5#32
  | 104 => 0x3BD79E10#32
  | 105 => 0x3EC0142B#32
  | 106 => 0x3F1209B7#32
  | 107 => 0x3D43CF73#32
  | 108 => 0x3B6A62BF#32
  | 109 => 0x3EAABF57#32
  | 110 => 0x3F19A513#32
  | 111 => 0x3D8086F6#32
  | 112 => 0x3AD9E896#32
  | 113 => 0x3E95C004#32
  | 114 => 0x3F2014AD#32
  | 115 => 0x3DA4F2E2#32
  | 116 => 0x3A1B62A7#32
  | 117 => 0x3E8176C1#32
  | 118 => 0x3F25283F#32
  | 119 => 0x3DCFAC3D#32
  | 120 => 0x38FEF875#32
  | 121 => 0x3E5C8840#32
  | 122 => 0x3F28AF7F#32
  | 123 => 0x3E0099E4#32
  | 124 => 0x36660344#32
  | 125 => 0x3E391160#32
  | 126 => 0x3F2A7A26#32
  | 127 => 0x3E1D0522#32
  | _ => 0#32

noncomputable abbrev lit1t0_9 (i : Nat) : BitVec 32 := match i % 128 with
  | 0 => 0x3E194261#32
  | 1 => 0x3F2A5AC8#32
  | 2 => 0x3E3D5096#32
  | 3 => 0x36F46DB6#32
  | 4 => 0x3DFA9F2E#32
  | 5 => 0x3F2855EA#32
  | 6 => 0x3E612FD1#32
  | 7 => 0x3923B7B6#32
  | 8 => 0x3DC9F873#32
  | 9 => 0x3F249A7C#32
  | 10 => 0x3E83F2A6#32
  | 11 => 0x3A348993#32
  | 12 => 0x3DA00FD0#32
  | 13 => 0x3F1F58C6#32
  | 14 => 0x3E9857F3#32
  | 15 => 0x3AF28E16#32
  | 16 => 0x3D78C908#32
  | 17 => 0x3F18C10F#32
  | 18 => 0x3EAD673E#32
  | 19 => 0x3B7EC186#32
  | 20 => 0x3D3CEB9D#32
  | 21 => 0x3F1103A1#32
  | 22 => 0x3EC2BFF7#32
  | 23 => 0x3BE6D4F7#32
  | 24 => 0x3D0B85DF#32
  | 25 => 0x3F0850C3#32
  | 26 => 0x3ED8018D#32
  | 27 => 0x3C3D8617#32
  | 28 => 0x3CC72C95#32
  | 29 => 0x3EFDB17C#32
  | 30 => 0x3EECCB71#32
  | 31 => 0x3C91049D#32
  | 32 => 0x3C8836BD#32
  | 33 => 0x3EE997B5#32
  | 34 => 0x3F005E88#32
  | 35 => 0x3CD27CF4#32
  | 36 => 0x3C304E67#32
  | 37 => 0x3ED4B4C0#32
  | 38 => 0x3F09BAEE#32
  | 39 => 0x3D12978B#32
  | 40 => 0x3BD3EBD7#32
  | 41 => 0x3EBF692F#32
  | 42 => 0x3F124AA1#32
  | 43 => 0x3D458F02#32
  | 44 => 0x3B657801#32
  | 45 => 0x3EAA1591#32
  | 46 => 0x3F19DD59#32
  | 47 => 0x3D819330#32
  | 48 => 0x3AD404FE#32
  | 49 => 0x3E951A78#32
  | 50 => 0x3F2042CF#32
  | 51 => 0x3DA62F95#32
  | 52 => 0x3A157C40#32
  | 53 => 0x3E80D874#32
  | 54 => 0x3F254AB9#32
  | 55 => 0x3DD11D6E#32
  | 56 => 0x38EEB379#32
  | 57 => 0x3E5B602C#32
  | 58 => 0x3F28C4D0#32
  | 59 => 0x3E016EBF#32
  | 60 => 0x3638295E#32
  | 61 => 0x3E3803DC#32
  | 62 => 0x3F2A80CA#32
  | 63 => 0x3E1DF842#32
  | 64 => 0x3E18541E#32
  | 65 => 0x3F2A51BF#32
  | 66 => 0x3E3E62A5#32
  | 67 => 0x370FBC56#32
  | 68 => 0x3DF8FE91#32
  | 69 => 0x3F283E72#32
  | 70 => 0x3E625B80#32
  | 71 => 0x392DBD04#32
  | 72 => 0x3DC88FBA#32
  | 73 => 0x3F247617#32
  | 74 => 0x3E849248#32
  | 75 => 0x3A3B3926#32
  | 76 => 0x3D9EDAF4#32
  | 77 => 0x3F1F28F5#32
  | 78 => 0x3E98FE5B#32
  | 79 => 0x3AF8FE80#32
  | 80 => 0x3D76BEFF#32
  | 81 => 0x3F188756#32
  | 82 => 0x3EAE1167#32
  | 83 => 0x3B820366#32
  | 84 => 0x3D3B3938#32
  | 85 => 0x3F10C181#32
  | 86 => 0x3EC36ADE#32
  | 87 => 0x3BEABE82#32
  | 88 => 0x3D0A2310#32
  | 89 => 0x3F0807BF#32
  | 90 => 0x3ED8AA2D#32
  | 91 => 0x3C403E81#32
  | 92 => 0x3CC4F60D#32
  | 93 => 0x3EFD14B0#32
  | 94 => 0x3EED6EC4#32
  | 95 => 0x3C92D2BC#32
  | 96 => 0x3C867F33#32
  | 97 => 0x3EE8F328#32
  | 98 => 0x3F00AC09#32
  | 99 => 0x3CD4CD16#32
  | 100 => 0x3C2DBD20#32
  | 101 => 0x3ED40B79#32
  | 102 => 0x3F0A02C5#32
  | 103 => 0x3D1408A9#32
  | 104 => 0x3BD0447E#32
  | 105 => 0x3EBEBE31#32
  | 106 => 0x3F128B4B#32
  | 107 => 0x3D475139#32
  | 108 => 0x3B609EFD#32
  | 109 => 0x3EA96BE1#32
  | 110 => 0x3F1A1555#32
  | 111 => 0x3D82A0DF#32
  | 112 => 0x3ACE3CCF#32
  | 113 => 0x3E94751B#32
  | 114 => 0x3F207099#32
  | 115 => 0x3DA76DDB#32
  | 116 => 0x3A0FBC93#32
  | 117 => 0x3E803A6E#32
  | 118 => 0x3F256CCF#32
  | 119 => 0x3DD29053#32
  | 120 => 0x38DF238B#32
  | 121 => 0x3E5A38D6#32
  | 122 => 0x3F28D9B0#32
  | 123 => 0x3E024484#32
  | 124 => 0x3610D939#32
  | 125 => 0x3E36F746#32
  | 126 => 0x3F2A86F3#32
  | 127 => 0x3E1EEC5C#32
  | _ => 0#32

noncomputable abbrev lit1t0_10 (i : Nat) : BitVec 32 := match i % 128 with
  | 0 => 0x3E1766D2#32
  | 1 => 0x3F2A483D#32
  | 2 => 0x3E3F759A#32
  | 3 => 0x3727A561#32
  | 4 => 0x3DF75FC3#32
  | 5 => 0x3F28268D#32
  | 6 => 0x3E6387E2#32
  | 7 => 0x393828EC#32
  | 8 => 0x3DC728AF#32
  | 9 => 0x3F245150#32
  | 10 => 0x3E85322B#32
  | 11 => 0x3A421277#32
  | 12 => 0x3D9DA7A7#32
  | 13 => 0x3F1EF8CF#32
  | 14 => 0x3E99A4EC#32
  | 15 => 0x3AFF8BD5#32
  | 16 => 0x3D74B7D3#32
  | 17 => 0x3F184D53#32
  | 18 => 0x3EAEBBA2#32
  | 19 => 0x3B84AF46#32
  | 20 => 0x3D39896E#32
  | 21 => 0x3F107F24#32
  | 22 => 0x3EC415BD#32
  | 23 => 0x3BEEB34F#32
  | 24 => 0x3D08C29D#32
  | 25 => 0x3F07BE89#32
  | 26 => 0x3ED952AD#32
  | 27 => 0x3C42FD8D#32
  | 28 => 0x3CC2C3BC#32
  | 29 => 0x3EFC7799#32
  | 30 => 0x3EEE11E0#32
  | 31 => 0x3C94A4AD#32
  | 32 => 0x3C84CB5F#32
  | 33 => 0x3EE84E6B#32
  | 34 => 0x3F00F963#32
  | 35 => 0x3CD7218A#32
  | 36 => 0x3C2B3241#32
  | 37 => 0x3ED36218#32
  | 38 => 0x3F0A4A68#32
  | 39 => 0x3D157C30#32
  | 40 => 0x3BCCA7F6#32
  | 41 => 0x3EBE1332#32
  | 42 => 0x3F12CBB6#32
  | 43 => 0x3D49161A#32
  | 44 => 0x3B5BD793#32
  | 45 => 0x3EA8C248#32
  | 46 => 0x3F1A4D04#32
  | 47 => 0x3D83B002#32
  | 48 => 0x3AC88FC9#32
  | 49 => 0x3E93CFEC#32
  | 50 => 0x3F209E0B#32
  | 51 => 0x3DA8ADB7#32
  | 52 => 0x3A0A231F#32
  | 53 => 0x3E7F395D#32
  | 54 => 0x3F258E82#32
  | 55 => 0x3DD404EE#32
  | 56 => 0x38D044A5#32
  | 57 => 0x3E59123F#32
  | 58 => 0x3F28EE21#32
  | 59 => 0x3E031B34#32
  | 60 => 0x35DF242E#32
  | 61 => 0x3E35EB9F#32
  | 62 => 0x3F2A8CA0#32
  | 63 => 0x3E1FE172#32
  | 64 => 0x3E167A7D#32
  | 65 => 0x3F2A3E42#32
  | 66 => 0x3E408971#32
  | 67 => 0x3742122D#32
  | 68 => 0x3DF5C2C3#32
  | 69 => 0x3F280E3A#32
  | 70 => 0x3E64B4F6#32
  | 71 => 0x3942FD6F#32
  | 72 => 0x3DC5C352#32
  | 73 => 0x3F242C28#32
  | 74 => 0x3E85D250#32
  | 75 => 0x3A491607#32
  | 76 => 0x3D9C75E6#32
  | 77 => 0x3F1EC855#32
  | 78 => 0x3E9A4BA7#32
  | 79 => 0x3B031B2B#32
  | 80 => 0x3D72B381#32
  | 81 => 0x3F181308#32
  | 82 => 0x3EAF65EE#32
  | 83 => 0x3B876475#32
  | 84 => 0x3D37DC3F#32
  | 85 => 0x3F103C8A#32
  | 86 => 0x3EC4C096#32
  | 87 => 0x3BF2B36C#32
  | 88 => 0x3D076484#32
  | 89 => 0x3F077524#32
  | 90 => 0x3ED9FB0E#32
  | 91 => 0x3C45C343#32
  | 92 => 0x3CC0959D#32
  | 93 => 0x3EFBDA3A#32
  | 94 => 0x3EEEB4C5#32
  | 95 => 0x3C967A74#32
  | 96 => 0x3C831B3D#32
  | 97 => 0x3EE7A97C#32
  | 98 => 0x3F014695#32
  | 99 => 0x3CD97A54#32
  | 100 => 0x3C28ADC5#32
  | 101 => 0x3ED2B89F#32
  | 102 => 0x3F0A91D7#32
  | 103 => 0x3D16F224#32
  | 104 => 0x3BC9162D#32
  | 105 => 0x3EBD6832#32
  | 106 => 0x3F130BE0#32
  | 107 => 0x3D4ADDA7#32
  | 108 => 0x3B5721A3#32
  | 109 => 0x3EA818C7#32
  | 110 => 0x3F1A8468#32
  | 111 => 0x3D84C09C#32
  | 112 => 0x3AC2FDAA#32
  | 113 => 0x3E932AEE#32
  | 114 => 0x3F20CB25#32
  | 115 => 0x3DA9EF2A#32
  | 116 => 0x3A04AF63#32
  | 117 => 0x3E7DFE6E#32
  | 118 => 0x3F25AFD1#32
  | 119 => 0x3DD57B40#32
  | 120 => 0x38C212C1#32
  | 121 => 0x3E57EC67#32
  | 122 => 0x3F290222#32
  | 123 => 0x3E03F2CF#32
  | 124 => 0x35A7A66F#32
  | 125 => 0x3E34E0E8#32
  | 126 => 0x3F2A91D0#32
  | 127 => 0x3E20D783#32
  | _ => 0#32

noncomputable abbrev lit1t0_11 (i : Nat) : BitVec 32 := match i % 128 with
  | 0 => 0x3E158F1F#32
  | 1 => 0x3F2A33CF#32
  | 2 => 0x3E419E29#32
  | 3 => 0x375F22E8#32
  | 4 => 0x3DF4278F#32
  | 5 => 0x3F27F57B#32
  | 6 => 0x3E65E2BC#32
  | 7 => 0x394E3C92#32
  | 8 => 0x3DC45FA1#32
  | 9 => 0x3F2406A0#32
  | 10 => 0x3E8672B5#32
  | 11 => 0x3A504457#32
  | 12 => 0x3D9B45B3#32
  | 13 => 0x3F1E9786#32
  | 14 => 0x3E9AF28A#32
  | 15 => 0x3B067F21#32
  | 16 => 0x3D70B207#32
  | 17 => 0x3F17D874#32
  | 18 => 0x3EB0104A#32
  | 19 => 0x3B8A2301#32
  | 20 => 0x3D3631A7#32
  | 21 => 0x3F0FF9B4#32
  | 22 => 0x3EC56B67#32
  | 23 => 0x3BF6BEEA#32
  | 24 => 0x3D0608C1#32
  | 25 => 0x3F072B8E#32
  | 26 => 0x3EDAA34F#32
  | 27 => 0x3C488FAA#32
  | 28 => 0x3CBE6BAD#32
  | 29 => 0x3EFB3C92#32
  | 30 => 0x3EEF5772#32
  | 31 => 0x3C985414#32
  | 32 => 0x3C816EC8#32
  | 33 => 0x3EE7045D#32
  | 34 => 0x3F01939F#32
  | 35 => 0x3CDBD779#32
  | 36 => 0x3C262FA2#32
  | 37 => 0x3ED20F0D#32
  | 38 => 0x3F0AD913#32
  | 39 => 0x3D186A84#32
  | 40 => 0x3BC58F15#32
  | 41 => 0x3EBCBD32#32
  | 42 => 0x3F134BCA#32
  | 43 => 0x3D4CA7E2#32
  | 44 => 0x3B527D0D#32
  | 45 => 0x3EA76F5E#32
  | 46 => 0x3F1ABB7F#32
  | 47 => 0x3D85D2AC#32
  | 48 => 0x3ABD8634#32
  | 49 => 0x3E92861F#32
  | 50 => 0x3F20F7E7#32
  | 51 => 0x3DAB3234#32
  | 52 => 0x39FEC1BE#32
  | 53 => 0x3E7CC411#32
  | 54 => 0x3F25D0BA#32
  | 55 => 0x3DD6F349#32
  | 56 => 0x38B489DA#32
  | 57 => 0x3E56C752#32
  | 58 => 0x3F2915B2#32
  | 59 => 0x3E04CB56#32
  | 60 => 0x35746F6B#32
  | 61 => 0x3E33D723#32
  | 62 => 0x3F2A9684#32
  | 63 => 0x3E21CE8F#32
  | 64 => 0x3E14A4B7#32
  | 65 => 0x3F2A28E3#32
  | 66 => 0x3E42B3C1#32
  | 67 => 0x377EF7C3#32
  | 68 => 0x3DF28E27#32
  | 69 => 0x3F27DC50#32
  | 70 => 0x3E671131#32
  | 71 => 0x3959E856#32
  | 72 => 0x3DC2FD9C#32
  | 73 => 0x3F23E0B8#32
  | 74 => 0x3E87135A#32
  | 75 => 0x3A579DE8#32
  | 76 => 0x3D9A170A#32
  | 77 => 0x3F1E6663#32
  | 78 => 0x3E9B9994#32
  | 79 => 0x3B09F1ED#32
  | 80 => 0x3D6EB364#32
  | 81 => 0x3F179D99#32
  | 82 => 0x3EB0BAB6#32
  | 83 => 0x3B8CEAFC#32
  | 84 => 0x3D3489A5#32
  | 85 => 0x3F0FB6A3#32
  | 86 => 0x3EC6162F#32
  | 87 => 0x3BFAD5D9#32
  | 88 => 0x3D04AF55#32
  | 89 => 0x3F06E1C8#32
  | 90 => 0x3EDB4B6F#32
  | 91 => 0x3C4B62CC#32
  | 92 => 0x3CBC45E6#32
  | 93 => 0x3EFA9EA3#32
  | 94 => 0x3EEFF9E5#32
  | 95 => 0x3C9A3192#32
  | 96 => 0x3C7F8BF8#32
  | 97 => 0x3EE65F0F#32
  | 98 => 0x3F01E080#32
  | 99 => 0x3CDE38FD#32
  | 100 => 0x3C23B7D0#32
  | 101 => 0x3ED16565#32
  | 102 => 0x3F0B2019#32
  | 103 => 0x3D19E555#32
  | 104 => 0x3BC2129C#32
  | 105 => 0x3EBC1234#32
  | 106 => 0x3F138B74#32
  | 107 => 0x3D4E74CE#32
  | 108 => 0x3B4DE9B1#32
  | 109 => 0x3EA6C60E#32
  | 110 => 0x3F1AF249#32
  | 111 => 0x3D86E635#32
  | 112 => 0x3AB82925#32
  | 113 => 0x3E91E183#32
  | 114 => 0x3F21244F#32
  | 115 => 0x3DAC76D6#32
  | 116 => 0x39F46E23#32
  | 117 => 0x3E7B8A46#32
  | 118 => 0x3F25F13F#32
  | 119 => 0x3DD86D0B#32
  | 120 => 0x38A7A5E8#32
  | 121 => 0x3E55A2FF#32
  | 122 => 0x3F2928D1#32
  | 123 => 0x3E05A4CA#32
  | 124 => 0x352BAD04#32
  | 125 => 0x3E32CE52#32
  | 126 => 0x3F2A9ABB#32
  | 127 => 0x3E22C699#32
  | _ => 0#32

noncomputable abbrev lit1t0_12 (i : Nat) : BitVec 32 := match i % 128 with
  | 0 => 0x3E13BB44#32
  | 1 => 0x3F2A1D80#32
  | 2 => 0x3E43CA37#32
  | 3 => 0x3790D877#32
  | 4 => 0x3DF0F68A#32
  | 5 => 0x3F27C2B9#32
  | 6 => 0x3E684055#32
  | 7 => 0x396602C0#32
  | 8 => 0x3DC19D41#32
  | 9 => 0x3F23BA70#32
  | 10 => 0x3E87B43E#32
  | 11 => 0x3A5F233A#32
  | 12 => 0x3D98E9EC#32
  | 13 => 0x3F1E34EC#32
  | 14 => 0x3E9C40C5#32
  | 15 => 0x3B0D73B0#32
  | 16 => 0x3D6CB795#32
  | 17 => 0x3F176276#32
  | 18 => 0x3EB1652F#32
  | 19 => 0x3B8FBC75#32
  | 20 => 0x3D32E436#32
  | 21 => 0x3F0F7356#32
  | 22 => 0x3EC6C0ED#32
  | 23 => 0x3BFEF849#32
  | 24 => 0x3D03583C#32
  | 25 => 0x3F0697D3#32
  | 26 => 0x3EDBF36D#32
  | 27 => 0x3C4E3CB0#32
  | 28 => 0x3CBA2446#32
  | 29 => 0x3EFA006E#32
  | 30 => 0x3EF09C1F#32
  | 31 => 0x3C9C12F2#32
  | 32 => 0x3C7C41AC#32
  | 33 => 0x3EE5B993#32
  | 34 => 0x3F022D39#32
  | 35 => 0x3CE09EE3#32
  | 36 => 0x3C214648#32
  | 37 => 0x3ED0BBA6#32
  | 38 => 0x3F0B66EA#32
  | 39 => 0x3D1B6297#32
  | 40 => 0x3BBEA0B3#32
  | 41 => 0x3EBB6737#32
  | 42 => 0x3F13CADC#32
  | 43 => 0x3D50446B#32
  | 44 => 0x3B49676E#32
  | 45 => 0x3EA61CD8#32
  | 46 => 0x3F1B28C6#32
  | 47 => 0x3D87FB37#32
  | 48 => 0x3AB2E63C#32
  | 49 => 0x3E913D18#32
  | 50 => 0x3F21505F#32
  | 51 => 0x3DADBD12#32
  | 52 => 0x39EA62F5#32
  | 53 => 0x3E7A5110#32
  | 54 => 0x3F26115F#32
  | 55 => 0x3DD9E886#32
  | 56 => 0x389B62E7#32
  | 57 => 0x3E547F71#32
  | 58 => 0x3F293B7E#32
  | 59 => 0x3E067F2A#32
  | 60 => 0x34E60554#32
  | 61 => 0x3E31C675#32
  | 62 => 0x3F2A9E74#32
  | 63 => 0x3E23BF9F#32
  | 64 => 0x3E12D2C6#32
  | 65 => 0x3F2A11A5#32
  | 66 => 0x3E44E18A#32
  | 67 => 0x37A3B74D#32
  | 68 => 0x3DEF60B6#32
  | 69 => 0x3F27A8B7#32
  | 70 => 0x3E697024#32
  | 71 => 0x39728DD1#32
  | 72 => 0x3DC03E8F#32
  | 73 => 0x3F2393C9#32
  | 74 => 0x3E88555F#32
  | 75 => 0x3A66D4CD#32
  | 76 => 0x3D97BE57#32
  | 77 => 0x3F1E0323#32
  | 78 => 0x3E9CE81C#32
  | 79 => 0x3B110489#32
  | 80 => 0x3D6ABE97#32
  | 81 => 0x3F17270C#32
  | 82 => 0x3EB20FB7#32
  | 83 => 0x3B92977C#32
  | 84 => 0x3D31415A#32
  | 85 => 0x3F0F2FCD#32
  | 86 => 0x3EC76BA1#32
  | 87 => 0x3C019325#32
  | 88 => 0x3D020374#32
  | 89 => 0x3F064DAF#32
  | 90 => 0x3EDC9B49#32
  | 91 => 0x3C511D5F#32
  | 92 => 0x3CB806C8#32
  | 93 => 0x3EF961F2#32
  | 94 => 0x3EF13E1E#32
  | 95 => 0x3C9DF838#32
  | 96 => 0x3C78FEA3#32
  | 97 => 0x3EE513E9#32
  | 98 => 0x3F0279C8#32
  | 99 => 0x3CE30930#32
  | 100 => 0x3C1EDB01#32
  | 101 => 0x3ED011D2#32
  | 102 => 0x3F0BAD86#32
  | 103 => 0x3D1CE24D#32
  | 104 => 0x3BBB394A#32
  | 105 => 0x3EBABC3D#32
  | 106 => 0x3F140A03#32
  | 107 => 0x3D5216BC#32
  | 108 => 0x3B44F625#32
  | 109 => 0x3EA573BC#32
  | 110 => 0x3F1B5EF5#32
  | 111 => 0x3D8911B4#32
  | 112 => 0x3AADBD3B#32
  | 113 => 0x3E9098E0#32
  | 114 => 0x3F217C15#32
  | 115 => 0x3DAF04E8#32
  | 116 => 0x39E09F30#32
  | 117 => 0x3E79186F#32
  | 118 => 0x3F263119#32
  | 119 => 0x3DDB65BC#32
  | 120 => 0x388FBCD0#32
  | 121 => 0x3E535CA9#32
  | 122 => 0x3F294DBA#32
  | 123 => 0x3E075A78#32
  | 124 => 0x3490DABD#32
  | 125 => 0x3E30BF8F#32
  | 126 => 0x3F2AA1AF#32
  | 127 => 0x3E24B9A3#32
  | _ => 0#32

noncomputable abbrev lit1t0_13 (i : Nat) : BitVec 32 := match i % 128 with
  | 0 => 0x3E11EB3C#32
  | 1 => 0x3F2A0552#32
  | 2 => 0x3E45F9B9#32
  | 3 => 0x37B8287A#32
  | 4 => 0x3DEDCCAB#32
  | 5 => 0x3F278E4A#32
  | 6 => 0x3E6AA09F#32
  | 7 => 0x397F8B8E#32
  | 8 => 0x3DBEE187#32
  | 9 => 0x3F236CC3#32
  | 10 => 0x3E88F6BE#32
  | 11 => 0x3A6EB324#32
  | 12 => 0x3D96944A#32
  | 13 => 0x3F1DD106#32
  | 14 => 0x3E9D8F98#32
  | 15 => 0x3B14A499#32
  | 16 => 0x3D68C86B#32
  | 17 => 0x3F16EB5B#32
  | 18 => 0x3EB2BA4C#32
  | 19 => 0x3B957C21#32
  | 20 => 0x3D2FA10D#32
  | 21 => 0x3F0EEC0A#32
  | 22 => 0x3EC8164A#32
  | 23 => 0x3C03AFF7#32
  | 24 => 0x3D00B0FC#32
  | 25 => 0x3F06035C#32
  | 26 => 0x3EDD4301#32
  | 27 => 0x3C5404DF#32
  | 28 => 0x3CB5ED68#32
  | 29 => 0x3EF8C332#32
  | 30 => 0x3EF1DFE1#32
  | 31 => 0x3C9FE168#32
  | 32 => 0x3C75C2D4#32
  | 33 => 0x3EE46E12#32
  | 34 => 0x3F02C62D#32
  | 35 => 0x3CE577E7#32
  | 36 => 0x3C1C75F3#32
  | 37 => 0x3ECF67E8#32
  | 38 => 0x3F0BF3ED#32
  | 39 => 0x3D1E6478#32
  | 40 => 0x3BB7DC50#32
  | 41 => 0x3EBA1146#32
  | 42 => 0x3F1448E8#32
  | 43 => 0x3D53EBC3#32
  | 44 => 0x3B4095B5#32
  | 45 => 0x3EA4CABC#32
  | 46 => 0x3F1B94D7#32
  | 47 => 0x3D8A29AB#32
  | 48 => 0x3AA8ADE0#32
  | 49 => 0x3E8FF4DB#32
  | 50 => 0x3F21A770#32
  | 51 => 0x3DB04E59#32
  | 52 => 0x39D721D5#32
  | 53 => 0x3E77E066#32
  | 54 => 0x3F26506D#32
  | 55 => 0x3DDCE4AD#32
  | 56 => 0x3884AF9D#32
  | 57 => 0x3E523AA9#32
  | 58 => 0x3F295F83#32
  | 59 => 0x3E0836B4#32
  | 60 => 0x3427A88A#32
  | 61 => 0x3E2FB9A1#32
  | 62 => 0x3F2AA46C#32
  | 63 => 0x3E25B4A4#32
  | 64 => 0x3E1104A6#32
  | 65 => 0x3F29F88A#32
  | 66 => 0x3E4712C1#32
  | 67 => 0x37CE3C17#32
  | 68 => 0x3DEC3A67#32
  | 69 => 0x3F277372#32
  | 70 => 0x3E6BD1C3#32
  | 71 => 0x39867EFC#32
  | 72 => 0x3DBD8625#32
  | 73 => 0x3F23455F#32
  | 74 => 0x3E89985A#32
  | 75 => 0x3A76BEBE#32
  | 76 => 0x3D956BC5#32
  | 77 => 0x3F1D9E97#32
  | 78 => 0x3E9E3739#32
  | 79 => 0x3B185400#32
  | 80 => 0x3D66D50C#32
  | 81 => 0x3F16AF64#32
  | 82 => 0x3EB364ED#32
  | 83 => 0x3B986A75#32
  | 84 => 0x3D2E034F#32
  | 85 => 0x3F0EA80D#32
  | 86 => 0x3EC8C0E7#32
  | 87 => 0x3C05D2A1#32
  | 88 => 0x3CFEC1A2#32
  | 89 => 0x3F05B8DB#32
  | 90 => 0x3EDDEA96#32
  | 91 => 0x3C56F339#32
  | 92 => 0x3CB3D823#32
  | 93 => 0x3EF8242D#32
  | 94 => 0x3EF28169#32
  | 95 => 0x3CA1CE85#32
  | 96 => 0x3C728E38#32
  | 97 => 0x3EE3C80E#32
  | 98 => 0x3F031268#32
  | 99 => 0x3CE7EB0D#32
  | 100 => 0x3C1A1717#32
  | 101 => 0x3ECEBDEB#32
  | 102 => 0x3F0C3A1D#32
  | 103 => 0x3D1FE91B#32
  | 104 => 0x3BB489B6#32
  | 105 => 0x3EB96654#32
  | 106 => 0x3F14878B#32
  | 107 => 0x3D55C382#32
  | 108 => 0x3B3C45FD#32
  | 109 => 0x3EA421D9#32
  | 110 => 0x3F1BCA6A#32
  | 111 => 0x3D8B431F#32
  | 112 => 0x3AA3B7EA#32
  | 113 => 0x3E8F510B#32
  | 114 => 0x3F21D272#32
  | 115 => 0x3DB19967#32
  | 116 => 0x39CDE9E2#32
  | 117 => 0x3E76A8F6#32
  | 118 => 0x3F266F5A#32
  | 119 => 0x3DDE655B#32
  | 120 => 0x38746E90#32
  | 121 => 0x3E511972#32
  | 122 => 0x3F2970DA#32
  | 123 => 0x3E0913DE#32
  | 124 => 0x33ABAFB6#32
  | 125 => 0x3E2EB4AC#32
  | 126 => 0x3F2AA6AB#32
  | 127 => 0x3E26B0A4#32
  | _ => 0#32

noncomputable abbrev lit1t0_14 (i : Nat) : BitVec 32 := match i % 128 with
  | 0 => 0x3E101F04#32
  | 1 => 0x3F29EB4B#32
  | 2 => 0x3E482CA2#32
  | 3 => 0x37E6023C#32
  | 4 => 0x3DEAA9EB#32
  | 5 => 0x3F275830#32
  | 6 => 0x3E6D0390#32
  | 7 => 0x398D738A#32
  | 8 => 0x3DBC2C6A#32
  | 9 => 0x3F231D9C#32
  | 10 => 0x3E8A3A31#32
  | 11 => 0x3A7EF81C#32
  | 12 => 0x3D9444C6#32
  | 13 => 0x3F1D6BD6#32
  | 14 => 0x3E9EDEFD#32
  | 15 => 0x3B1C12DE#32
  | 16 => 0x3D64E479#32
  | 17 => 0x3F167326#32
  | 18 => 0x3EB40F9A#32
  | 19 => 0x3B9B6287#32
  | 20 => 0x3D2C681C#32
  | 21 => 0x3F0E63D6#32
  | 22 => 0x3EC96B78#32
  | 23 => 0x3C07FB2C#32
  | 24 => 0x3CFC25E3#32
  | 25 => 0x3F056E2C#32
  | 26 => 0x3EDE9206#32
  | 27 => 0x3C59E876#32
  | 28 => 0x3CB1C6F3#32
  | 29 => 0x3EF784E4#32
  | 30 => 0x3EF322B3#32
  | 31 => 0x3CA3BF94#32
  | 32 => 0x3C6F60C7#32
  | 33 => 0x3EE321DF#32
  | 34 => 0x3F035E78#32
  | 35 => 0x3CEA62A5#32
  | 36 => 0x3C17BE63#32
  | 37 => 0x3ECE13DA#32
  | 38 => 0x3F0C8016#32
  | 39 => 0x3D217038#32
  | 40 => 0x3BB1416B#32
  | 41 => 0x3EB8BB65#32
  | 42 => 0x3F14C5EB#32
  | 43 => 0x3D579DFC#32
  | 44 => 0x3B3806DF#32
  | 45 => 0x3EA37912#32
  | 46 => 0x3F1BFFAE#32
  | 47 => 0x3D8C5E10#32
  | 48 => 0x3A9EDB1B#32
  | 49 => 0x3E8EAD70#32
  | 50 => 0x3F21FD18#32
  | 51 => 0x3DB2E613#32
  | 52 => 0x39C4F654#32
  | 53 => 0x3E757220#32
  | 54 => 0x3F268DE0#32
  | 55 => 0x3DDFE7C7#32
  | 56 => 0x38609F97#32
  | 57 => 0x3E4FF906#32
  | 58 => 0x3F2981BE#32
  | 59 => 0x3E09F1F7#32
  | 60 => 0x3310DDC5#32
  | 61 => 0x3E2DB0B2#32
  | 62 => 0x3F2AA86A#32
  | 63 => 0x3E27ADA4#32
  | 64 => 0x3E0F3A55#32
  | 65 => 0x3F29DD96#32
  | 66 => 0x3E494759#32
  | 67 => 0x37FF8B00#32
  | 68 => 0x3DE91B34#32
  | 69 => 0x3F273C84#32
  | 70 => 0x3E6E3602#32
  | 71 => 0x3994A472#32
  | 72 => 0x3DBAD455#32
  | 73 => 0x3F22F57B#32
  | 74 => 0x3E8ADC44#32
  | 75 => 0x3A83AFE0#32
  | 76 => 0x3D931F4C#32
  | 77 => 0x3F1D38C3#32
  | 78 => 0x3E9F86E4#32
  | 79 => 0x3B1FE153#32
  | 80 => 0x3D62F6B1#32
  | 81 => 0x3F1636A3#32
  | 82 => 0x3EB4BA51#32
  | 83 => 0x3B9E6468#32
  | 84 => 0x3D2ACF73#32
  | 85 => 0x3F0E1F65#32
  | 86 => 0x3ECA15FB#32
  | 87 => 0x3C0A299F#32
  | 88 => 0x3CF98EB7#32
  | 89 => 0x3F052350#32
  | 90 => 0x3EDF3950#32
  | 91 => 0x3C5CE49D#32
  | 92 => 0x3CAFB9D5#32
  | 93 => 0x3EF6E559#32
  | 94 => 0x3EF3C3C0#32
  | 95 => 0x3CA5B49A#32
  | 96 => 0x3C6C3A78#32
  | 97 => 0x3EE27B85#32
  | 98 => 0x3F03AA5E#32
  | 99 => 0x3CECDEB4#32
  | 100 => 0x3C156BD1#32
  | 101 => 0x3ECD69B7#32
  | 102 => 0x3F0CC5D8#32
  | 103 => 0x3D22F9D0#32
  | 104 => 0x3BAE0360#32
  | 105 => 0x3EB8107D#32
  | 106 => 0x3F150408#32
  | 107 => 0x3D597B31#32
  | 108 => 0x3B33D839#32
  | 109 => 0x3EA2D069#32
  | 110 => 0x3F1C34A4#32
  | 111 => 0x3D8D7A7F#32
  | 112 => 0x3A9A1730#32
  | 113 => 0x3E8E0A0B#32
  | 114 => 0x3F222764#32
  | 115 => 0x3DB4345C#32
  | 116 => 0x39BC462B#32
  | 117 => 0x3E743BE6#32
  | 118 => 0x3F26AC00#32
  | 119 => 0x3DE16BF1#32
  | 120 => 0x384DEA43#32
  | 121 => 0x3E4ED966#32
  | 122 => 0x3F29922F#32
  | 123 => 0x3E0AD0FF#32
  | 124 => 0x322BB51A#32
  | 125 => 0x3E2CADB5#32
  | 126 => 0x3F2AA9AA#32
  | 127 => 0x3E28ABA2#32
  | _ => 0#32

noncomputable abbrev lit1t0_15 (i : Nat) : BitVec 32 := match i % 128 with
  | 0 => 0x3E0E5698#32
  | 1 => 0x3F29CF6B#32
  | 2 => 0x3E4A5E7A#32
  | 3 => 0x38542CDE#32
  | 4 => 0x3DE78E41#32
  | 5 => 0x3F27206F#32
  | 6 => 0x3E6F4215#32
  | 7 => 0x39EA1C10#32
  | 8 => 0x3DB97DE4#32
  | 9 => 0x3F22CCFE#32
  | 10 => 0x3E8B3A93#32
  | 11 => 0x3ACBF89F#32
  | 12 => 0x3D91FB57#32
  | 13 => 0x3F1D055F#32
  | 14 => 0x3E9F8B2E#32
  | 15 => 0x3B759F3F#32
  | 16 => 0x3D610BB1#32
  | 17 => 0x3F15F9DB#32
  | 18 => 0x3EB42233#32
  | 19 => 0x3BF2283B#32
  | 20 => 0x3D293951#32
  | 21 => 0x3F0DDABB#32
  | 22 => 0x3EC88EF8#32
  | 23 => 0x3C528D06#32
  | 24 => 0x3CF6FC1A#32
  | 25 => 0x3F04D846#32
  | 26 => 0x3EDC60D5#32
  | 27 => 0x3CA7EDC9#32
  | 28 => 0x3CADB0C6#32
  | 29 => 0x3EF6458B#32
  | 30 => 0x3EEF2722#32
  | 31 => 0x3CFB8465#32
  | 32 => 0x3C691B44#32
  | 33 => 0x3EE1D502#32
  | 34 => 0x3F00389B#32
  | 35 => 0x3D33876E#32
  | 36 => 0x3C131F58#32
  | 37 => 0x3ECCBF81#32
  | 38 => 0x3F07E734#32
  | 39 => 0x3D76C8DA#32
  | 40 => 0x3BAACF84#32
  | 41 => 0x3EB7659B#32
  | 42 => 0x3F0E6708#32
  | 43 => 0x3DA4845B#32
  | 44 => 0x3B2FB9EB#32
  | 45 => 0x3EA227DE#32
  | 46 => 0x3F137FC3#32
  | 47 => 0x3DD5E4A4#32
  | 48 => 0x3A956BEA#32
  | 49 => 0x3E8D66DC#32
  | 50 => 0x3F16F90F#32
  | 51 => 0x3E082334#32
  | 52 => 0x39B3D865#32
  | 53 => 0x3E73064A#32
  | 54 => 0x3F189A9A#32
  | 55 => 0x3E2A3564#32
  | 56 => 0x383C4687#32
  | 57 => 0x3E4DBA93#32
  | 58 => 0x3F182C0D#32
  | 59 => 0x3E518973#32
  | 60 => 0x30ABBFE2#32
  | 61 => 0x3E2BABB5#32
  | 62 => 0x3F157516#32
  | 63 => 0x3E7E7FF1#32
  | 64 => 0x3E0D73CD#32
  | 65 => 0x3F105353#32
  | 66 => 0x3E988231#32
  | 67 => 0x396A1B97#32
  | 68 => 0x3DE60312#32
  | 69 => 0x3F0904CE#32
  | 70 => 0x3EB38001#32
  | 71 => 0x3AF59F01#32
  | 72 => 0x3DB82916#32
  | 73 => 0x3EFFC417#32
  | 74 => 0x3ECEE76F#32
  | 75 => 0x3BD28CE2#32
  | 76 => 0x3D90D8E4#32
  | 77 => 0x3EEA8722#32
  | 78 => 0x3EE96683#32
  | 79 => 0x3C7B8446#32
  | 80 => 0x3D5F2377#32
  | 81 => 0x3ED303C5#32
  | 82 => 0x3F00D5A0#32
  | 83 => 0x3CF6C8C1#32
  | 84 => 0x3D27A5B6#32
  | 85 => 0x3EB9EB08#32
  | 86 => 0x3F0B31D7#32
  | 87 => 0x3D55E492#32
  | 88 => 0x3CF46E08#32
  | 89 => 0x3E9FEDF5#32
  | 90 => 0x3F131EEA#32
  | 91 => 0x3DAA3558#32
  | 92 => 0x3CABABC0#32
  | 93 => 0x3E85BD96#32
  | 94 => 0x3F17F3DB#32
  | 95 => 0x3DFE7FE1#32
  | 96 => 0x3C660323#32
  | 97 => 0x3E5815E5#32
  | 98 => 0x3F1907AD#32
  | 99 => 0x3E356B35#32
  | 100 => 0x3C10D8F0#32
  | 101 => 0x3E270E27#32
  | 102 => 0x3F15B164#32
  | 103 => 0x3E791EBB#32
  | 104 => 0x3BA7A5C7#32
  | 105 => 0x3DF38C0D#32
  | 106 => 0x3F0D4802#32
  | 107 => 0x3EA5EE62#32
  | 108 => 0x3B2BABD6#32
  | 109 => 0x3DA33F27#32
  | 110 => 0x3EFE4514#32
  | 111 => 0x3ED793CA#32
  | 112 => 0x3A90D909#32
  | 113 => 0x3D3FF385#32
  | 114 => 0x3ED53000#32
  | 115 => 0x3F09205B#32
  | 116 => 0x39ABAC01#32
  | 117 => 0x3CB20008#32
  | 118 => 0x3E9DFECC#32
  | 119 => 0x3F2B5B24#32
  | 120 => 0x382BAC57#32
  | 121 => 0x3BB960A9#32
  | 122 => 0x3E2EBF00#32
  | 123 => 0x3F52DAD0#32
  | 124 => 0x1DCE52C7#32
  | 125 => 0x2A2CF02D#32
  | 126 => 0x3580D955#32
  | 127 => 0x3F7FFFF0#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | _ => 0#32

noncomputable abbrev lit1 : Fin 2048 → BitVec 32 := fun ⟨i, _⟩ => lit1t i

noncomputable abbrev lit2t0_0 (i : Nat) : BitVec 32 := match i % 128 with
  | 0 => 0#32
  | 1 => 1#32
  | 2 => 2#32
  | 3 => 3#32
  | 4 => 0#32
  | 5 => 1#32
  | 6 => 2#32
  | 7 => 3#32
  | 8 => 0#32
  | 9 => 1#32
  | 10 => 2#32
  | 11 => 3#32
  | 12 => 0#32
  | 13 => 1#32
  | 14 => 2#32
  | 15 => 3#32
  | 16 => 0#32
  | 17 => 1#32
  | 18 => 2#32
  | 19 => 3#32
  | 20 => 0#32
  | 21 => 1#32
  | 22 => 2#32
  | 23 => 3#32
  | 24 => 0#32
  | 25 => 1#32
  | 26 => 2#32
  | 27 => 3#32
  | 28 => 0#32
  | 29 => 1#32
  | 30 => 2#32
  | 31 => 3#32
  | 32 => 0#32
  | 33 => 1#32
  | 34 => 2#32
  | 35 => 3#32
  | 36 => 0#32
  | 37 => 1#32
  | 38 => 2#32
  | 39 => 3#32
  | 40 => 0#32
  | 41 => 1#32
  | 42 => 2#32
  | 43 => 3#32
  | 44 => 0#32
  | 45 => 1#32
  | 46 => 2#32
  | 47 => 3#32
  | 48 => 0#32
  | 49 => 1#32
  | 50 => 2#32
  | 51 => 3#32
  | 52 => 0#32
  | 53 => 1#32
  | 54 => 2#32
  | 55 => 3#32
  | 56 => 0#32
  | 57 => 1#32
  | 58 => 2#32
  | 59 => 3#32
  | 60 => 0#32
  | 61 => 1#32
  | 62 => 2#32
  | 63 => 3#32
  | 64 => 1#32
  | 65 => 2#32
  | 66 => 3#32
  | 67 => 4#32
  | 68 => 1#32
  | 69 => 2#32
  | 70 => 3#32
  | 71 => 4#32
  | 72 => 1#32
  | 73 => 2#32
  | 74 => 3#32
  | 75 => 4#32
  | 76 => 1#32
  | 77 => 2#32
  | 78 => 3#32
  | 79 => 4#32
  | 80 => 1#32
  | 81 => 2#32
  | 82 => 3#32
  | 83 => 4#32
  | 84 => 1#32
  | 85 => 2#32
  | 86 => 3#32
  | 87 => 4#32
  | 88 => 1#32
  | 89 => 2#32
  | 90 => 3#32
  | 91 => 4#32
  | 92 => 1#32
  | 93 => 2#32
  | 94 => 3#32
  | 95 => 4#32
  | 96 => 1#32
  | 97 => 2#32
  | 98 => 3#32
  | 99 => 4#32
  | 100 => 1#32
  | 101 => 2#32
  | 102 => 3#32
  | 103 => 4#32
  | 104 => 1#32
  | 105 => 2#32
  | 106 => 3#32
  | 107 => 4#32
  | 108 => 1#32
  | 109 => 2#32
  | 110 => 3#32
  | 111 => 4#32
  | 112 => 1#32
  | 113 => 2#32
  | 114 => 3#32
  | 115 => 4#32
  | 116 => 1#32
  | 117 => 2#32
  | 118 => 3#32
  | 119 => 4#32
  | 120 => 1#32
  | 121 => 2#32
  | 122 => 3#32
  | 123 => 4#32
  | 124 => 1#32
  | 125 => 2#32
  | 126 => 3#32
  | 127 => 4#32
  | _ => 0#32

noncomputable abbrev lit2t0_1 (i : Nat) : BitVec 32 := match i % 128 with
  | 0 => 2#32
  | 1 => 3#32
  | 2 => 4#32
  | 3 => 5#32
  | 4 => 2#32
  | 5 => 3#32
  | 6 => 4#32
  | 7 => 5#32
  | 8 => 2#32
  | 9 => 3#32
  | 10 => 4#32
  | 11 => 5#32
  | 12 => 2#32
  | 13 => 3#32
  | 14 => 4#32
  | 15 => 5#32
  | 16 => 2#32
  | 17 => 3#32
  | 18 => 4#32
  | 19 => 5#32
  | 20 => 2#32
  | 21 => 3#32
  | 22 => 4#32
  | 23 => 5#32
  | 24 => 2#32
  | 25 => 3#32
  | 26 => 4#32
  | 27 => 5#32
  | 28 => 2#32
  | 29 => 3#32
  | 30 => 4#32
  | 31 => 5#32
  | 32 => 2#32
  | 33 => 3#32
  | 34 => 4#32
  | 35 => 5#32
  | 36 => 2#32
  | 37 => 3#32
  | 38 => 4#32
  | 39 => 5#32
  | 40 => 2#32
  | 41 => 3#32
  | 42 => 4#32
  | 43 => 5#32
  | 44 => 2#32
  | 45 => 3#32
  | 46 => 4#32
  | 47 => 5#32
  | 48 => 2#32
  | 49 => 3#32
  | 50 => 4#32
  | 51 => 5#32
  | 52 => 2#32
  | 53 => 3#32
  | 54 => 4#32
  | 55 => 5#32
  | 56 => 2#32
  | 57 => 3#32
  | 58 => 4#32
  | 59 => 5#32
  | 60 => 2#32
  | 61 => 3#32
  | 62 => 4#32
  | 63 => 5#32
  | 64 => 3#32
  | 65 => 4#32
  | 66 => 5#32
  | 67 => 6#32
  | 68 => 3#32
  | 69 => 4#32
  | 70 => 5#32
  | 71 => 6#32
  | 72 => 3#32
  | 73 => 4#32
  | 74 => 5#32
  | 75 => 6#32
  | 76 => 3#32
  | 77 => 4#32
  | 78 => 5#32
  | 79 => 6#32
  | 80 => 3#32
  | 81 => 4#32
  | 82 => 5#32
  | 83 => 6#32
  | 84 => 3#32
  | 85 => 4#32
  | 86 => 5#32
  | 87 => 6#32
  | 88 => 3#32
  | 89 => 4#32
  | 90 => 5#32
  | 91 => 6#32
  | 92 => 3#32
  | 93 => 4#32
  | 94 => 5#32
  | 95 => 6#32
  | 96 => 3#32
  | 97 => 4#32
  | 98 => 5#32
  | 99 => 6#32
  | 100 => 3#32
  | 101 => 4#32
  | 102 => 5#32
  | 103 => 6#32
  | 104 => 3#32
  | 105 => 4#32
  | 106 => 5#32
  | 107 => 6#32
  | 108 => 3#32
  | 109 => 4#32
  | 110 => 5#32
  | 111 => 6#32
  | 112 => 3#32
  | 113 => 4#32
  | 114 => 5#32
  | 115 => 6#32
  | 116 => 3#32
  | 117 => 4#32
  | 118 => 5#32
  | 119 => 6#32
  | 120 => 3#32
  | 121 => 4#32
  | 122 => 5#32
  | 123 => 6#32
  | 124 => 3#32
  | 125 => 4#32
  | 126 => 5#32
  | 127 => 6#32
  | _ => 0#32

noncomputable abbrev lit2t0_2 (i : Nat) : BitVec 32 := match i % 128 with
  | 0 => 4#32
  | 1 => 5#32
  | 2 => 6#32
  | 3 => 7#32
  | 4 => 4#32
  | 5 => 5#32
  | 6 => 6#32
  | 7 => 7#32
  | 8 => 4#32
  | 9 => 5#32
  | 10 => 6#32
  | 11 => 7#32
  | 12 => 4#32
  | 13 => 5#32
  | 14 => 6#32
  | 15 => 7#32
  | 16 => 4#32
  | 17 => 5#32
  | 18 => 6#32
  | 19 => 7#32
  | 20 => 4#32
  | 21 => 5#32
  | 22 => 6#32
  | 23 => 7#32
  | 24 => 4#32
  | 25 => 5#32
  | 26 => 6#32
  | 27 => 7#32
  | 28 => 4#32
  | 29 => 5#32
  | 30 => 6#32
  | 31 => 7#32
  | 32 => 4#32
  | 33 => 5#32
  | 34 => 6#32
  | 35 => 7#32
  | 36 => 4#32
  | 37 => 5#32
  | 38 => 6#32
  | 39 => 7#32
  | 40 => 4#32
  | 41 => 5#32
  | 42 => 6#32
  | 43 => 7#32
  | 44 => 4#32
  | 45 => 5#32
  | 46 => 6#32
  | 47 => 7#32
  | 48 => 4#32
  | 49 => 5#32
  | 50 => 6#32
  | 51 => 7#32
  | 52 => 4#32
  | 53 => 5#32
  | 54 => 6#32
  | 55 => 7#32
  | 56 => 4#32
  | 57 => 5#32
  | 58 => 6#32
  | 59 => 7#32
  | 60 => 4#32
  | 61 => 5#32
  | 62 => 6#32
  | 63 => 7#32
  | 64 => 5#32
  | 65 => 6#32
  | 66 => 7#32
  | 67 => 8#32
  | 68 => 5#32
  | 69 => 6#32
  | 70 => 7#32
  | 71 => 8#32
  | 72 => 5#32
  | 73 => 6#32
  | 74 => 7#32
  | 75 => 8#32
  | 76 => 5#32
  | 77 => 6#32
  | 78 => 7#32
  | 79 => 8#32
  | 80 => 5#32
  | 81 => 6#32
  | 82 => 7#32
  | 83 => 8#32
  | 84 => 5#32
  | 85 => 6#32
  | 86 => 7#32
  | 87 => 8#32
  | 88 => 5#32
  | 89 => 6#32
  | 90 => 7#32
  | 91 => 8#32
  | 92 => 5#32
  | 93 => 6#32
  | 94 => 7#32
  | 95 => 8#32
  | 96 => 5#32
  | 97 => 6#32
  | 98 => 7#32
  | 99 => 8#32
  | 100 => 5#32
  | 101 => 6#32
  | 102 => 7#32
  | 103 => 8#32
  | 104 => 5#32
  | 105 => 6#32
  | 106 => 7#32
  | 107 => 8#32
  | 108 => 5#32
  | 109 => 6#32
  | 110 => 7#32
  | 111 => 8#32
  | 112 => 5#32
  | 113 => 6#32
  | 114 => 7#32
  | 115 => 8#32
  | 116 => 5#32
  | 117 => 6#32
  | 118 => 7#32
  | 119 => 8#32
  | 120 => 5#32
  | 121 => 6#32
  | 122 => 7#32
  | 123 => 8#32
  | 124 => 5#32
  | 125 => 6#32
  | 126 => 7#32
  | 127 => 8#32
  | _ => 0#32

noncomputable abbrev lit2t0_3 (i : Nat) : BitVec 32 := match i % 128 with
  | 0 => 6#32
  | 1 => 7#32
  | 2 => 8#32
  | 3 => 9#32
  | 4 => 6#32
  | 5 => 7#32
  | 6 => 8#32
  | 7 => 9#32
  | 8 => 6#32
  | 9 => 7#32
  | 10 => 8#32
  | 11 => 9#32
  | 12 => 6#32
  | 13 => 7#32
  | 14 => 8#32
  | 15 => 9#32
  | 16 => 6#32
  | 17 => 7#32
  | 18 => 8#32
  | 19 => 9#32
  | 20 => 6#32
  | 21 => 7#32
  | 22 => 8#32
  | 23 => 9#32
  | 24 => 6#32
  | 25 => 7#32
  | 26 => 8#32
  | 27 => 9#32
  | 28 => 6#32
  | 29 => 7#32
  | 30 => 8#32
  | 31 => 9#32
  | 32 => 6#32
  | 33 => 7#32
  | 34 => 8#32
  | 35 => 9#32
  | 36 => 6#32
  | 37 => 7#32
  | 38 => 8#32
  | 39 => 9#32
  | 40 => 6#32
  | 41 => 7#32
  | 42 => 8#32
  | 43 => 9#32
  | 44 => 6#32
  | 45 => 7#32
  | 46 => 8#32
  | 47 => 9#32
  | 48 => 6#32
  | 49 => 7#32
  | 50 => 8#32
  | 51 => 9#32
  | 52 => 6#32
  | 53 => 7#32
  | 54 => 8#32
  | 55 => 9#32
  | 56 => 6#32
  | 57 => 7#32
  | 58 => 8#32
  | 59 => 9#32
  | 60 => 6#32
  | 61 => 7#32
  | 62 => 8#32
  | 63 => 9#32
  | 64 => 7#32
  | 65 => 8#32
  | 66 => 9#32
  | 67 => 10#32
  | 68 => 7#32
  | 69 => 8#32
  | 70 => 9#32
  | 71 => 10#32
  | 72 => 7#32
  | 73 => 8#32
  | 74 => 9#32
  | 75 => 10#32
  | 76 => 7#32
  | 77 => 8#32
  | 78 => 9#32
  | 79 => 10#32
  | 80 => 7#32
  | 81 => 8#32
  | 82 => 9#32
  | 83 => 10#32
  | 84 => 7#32
  | 85 => 8#32
  | 86 => 9#32
  | 87 => 10#32
  | 88 => 7#32
  | 89 => 8#32
  | 90 => 9#32
  | 91 => 10#32
  | 92 => 7#32
  | 93 => 8#32
  | 94 => 9#32
  | 95 => 10#32
  | 96 => 7#32
  | 97 => 8#32
  | 98 => 9#32
  | 99 => 10#32
  | 100 => 7#32
  | 101 => 8#32
  | 102 => 9#32
  | 103 => 10#32
  | 104 => 7#32
  | 105 => 8#32
  | 106 => 9#32
  | 107 => 10#32
  | 108 => 7#32
  | 109 => 8#32
  | 110 => 9#32
  | 111 => 10#32
  | 112 => 7#32
  | 113 => 8#32
  | 114 => 9#32
  | 115 => 10#32
  | 116 => 7#32
  | 117 => 8#32
  | 118 => 9#32
  | 119 => 10#32
  | 120 => 7#32
  | 121 => 8#32
  | 122 => 9#32
  | 123 => 10#32
  | 124 => 7#32
  | 125 => 8#32
  | 126 => 9#32
  | 127 => 10#32
  | _ => 0#32

noncomputable abbrev lit2t0_4 (i : Nat) : BitVec 32 := match i % 128 with
  | 0 => 8#32
  | 1 => 9#32
  | 2 => 10#32
  | 3 => 11#32
  | 4 => 8#32
  | 5 => 9#32
  | 6 => 10#32
  | 7 => 11#32
  | 8 => 8#32
  | 9 => 9#32
  | 10 => 10#32
  | 11 => 11#32
  | 12 => 8#32
  | 13 => 9#32
  | 14 => 10#32
  | 15 => 11#32
  | 16 => 8#32
  | 17 => 9#32
  | 18 => 10#32
  | 19 => 11#32
  | 20 => 8#32
  | 21 => 9#32
  | 22 => 10#32
  | 23 => 11#32
  | 24 => 8#32
  | 25 => 9#32
  | 26 => 10#32
  | 27 => 11#32
  | 28 => 8#32
  | 29 => 9#32
  | 30 => 10#32
  | 31 => 11#32
  | 32 => 8#32
  | 33 => 9#32
  | 34 => 10#32
  | 35 => 11#32
  | 36 => 8#32
  | 37 => 9#32
  | 38 => 10#32
  | 39 => 11#32
  | 40 => 8#32
  | 41 => 9#32
  | 42 => 10#32
  | 43 => 11#32
  | 44 => 8#32
  | 45 => 9#32
  | 46 => 10#32
  | 47 => 11#32
  | 48 => 8#32
  | 49 => 9#32
  | 50 => 10#32
  | 51 => 11#32
  | 52 => 8#32
  | 53 => 9#32
  | 54 => 10#32
  | 55 => 11#32
  | 56 => 8#32
  | 57 => 9#32
  | 58 => 10#32
  | 59 => 11#32
  | 60 => 8#32
  | 61 => 9#32
  | 62 => 10#32
  | 63 => 11#32
  | 64 => 9#32
  | 65 => 10#32
  | 66 => 11#32
  | 67 => 12#32
  | 68 => 9#32
  | 69 => 10#32
  | 70 => 11#32
  | 71 => 12#32
  | 72 => 9#32
  | 73 => 10#32
  | 74 => 11#32
  | 75 => 12#32
  | 76 => 9#32
  | 77 => 10#32
  | 78 => 11#32
  | 79 => 12#32
  | 80 => 9#32
  | 81 => 10#32
  | 82 => 11#32
  | 83 => 12#32
  | 84 => 9#32
  | 85 => 10#32
  | 86 => 11#32
  | 87 => 12#32
  | 88 => 9#32
  | 89 => 10#32
  | 90 => 11#32
  | 91 => 12#32
  | 92 => 9#32
  | 93 => 10#32
  | 94 => 11#32
  | 95 => 12#32
  | 96 => 9#32
  | 97 => 10#32
  | 98 => 11#32
  | 99 => 12#32
  | 100 => 9#32
  | 101 => 10#32
  | 102 => 11#32
  | 103 => 12#32
  | 104 => 9#32
  | 105 => 10#32
  | 106 => 11#32
  | 107 => 12#32
  | 108 => 9#32
  | 109 => 10#32
  | 110 => 11#32
  | 111 => 12#32
  | 112 => 9#32
  | 113 => 10#32
  | 114 => 11#32
  | 115 => 12#32
  | 116 => 9#32
  | 117 => 10#32
  | 118 => 11#32
  | 119 => 12#32
  | 120 => 9#32
  | 121 => 10#32
  | 122 => 11#32
  | 123 => 12#32
  | 124 => 9#32
  | 125 => 10#32
  | 126 => 11#32
  | 127 => 12#32
  | _ => 0#32

noncomputable abbrev lit2t0_5 (i : Nat) : BitVec 32 := match i % 128 with
  | 0 => 10#32
  | 1 => 11#32
  | 2 => 12#32
  | 3 => 13#32
  | 4 => 10#32
  | 5 => 11#32
  | 6 => 12#32
  | 7 => 13#32
  | 8 => 10#32
  | 9 => 11#32
  | 10 => 12#32
  | 11 => 13#32
  | 12 => 10#32
  | 13 => 11#32
  | 14 => 12#32
  | 15 => 13#32
  | 16 => 10#32
  | 17 => 11#32
  | 18 => 12#32
  | 19 => 13#32
  | 20 => 10#32
  | 21 => 11#32
  | 22 => 12#32
  | 23 => 13#32
  | 24 => 10#32
  | 25 => 11#32
  | 26 => 12#32
  | 27 => 13#32
  | 28 => 10#32
  | 29 => 11#32
  | 30 => 12#32
  | 31 => 13#32
  | 32 => 10#32
  | 33 => 11#32
  | 34 => 12#32
  | 35 => 13#32
  | 36 => 10#32
  | 37 => 11#32
  | 38 => 12#32
  | 39 => 13#32
  | 40 => 10#32
  | 41 => 11#32
  | 42 => 12#32
  | 43 => 13#32
  | 44 => 10#32
  | 45 => 11#32
  | 46 => 12#32
  | 47 => 13#32
  | 48 => 10#32
  | 49 => 11#32
  | 50 => 12#32
  | 51 => 13#32
  | 52 => 10#32
  | 53 => 11#32
  | 54 => 12#32
  | 55 => 13#32
  | 56 => 10#32
  | 57 => 11#32
  | 58 => 12#32
  | 59 => 13#32
  | 60 => 10#32
  | 61 => 11#32
  | 62 => 12#32
  | 63 => 13#32
  | 64 => 11#32
  | 65 => 12#32
  | 66 => 13#32
  | 67 => 14#32
  | 68 => 11#32
  | 69 => 12#32
  | 70 => 13#32
  | 71 => 14#32
  | 72 => 11#32
  | 73 => 12#32
  | 74 => 13#32
  | 75 => 14#32
  | 76 => 11#32
  | 77 => 12#32
  | 78 => 13#32
  | 79 => 14#32
  | 80 => 11#32
  | 81 => 12#32
  | 82 => 13#32
  | 83 => 14#32
  | 84 => 11#32
  | 85 => 12#32
  | 86 => 13#32
  | 87 => 14#32
  | 88 => 11#32
  | 89 => 12#32
  | 90 => 13#32
  | 91 => 14#32
  | 92 => 11#32
  | 93 => 12#32
  | 94 => 13#32
  | 95 => 14#32
  | 96 => 11#32
  | 97 => 12#32
  | 98 => 13#32
  | 99 => 14#32
  | 100 => 11#32
  | 101 => 12#32
  | 102 => 13#32
  | 103 => 14#32
  | 104 => 11#32
  | 105 => 12#32
  | 106 => 13#32
  | 107 => 14#32
  | 108 => 11#32
  | 109 => 12#32
  | 110 => 13#32
  | 111 => 14#32
  | 112 => 11#32
  | 113 => 12#32
  | 114 => 13#32
  | 115 => 14#32
  | 116 => 11#32
  | 117 => 12#32
  | 118 => 13#32
  | 119 => 14#32
  | 120 => 11#32
  | 121 => 12#32
  | 122 => 13#32
  | 123 => 14#32
  | 124 => 11#32
  | 125 => 12#32
  | 126 => 13#32
  | 127 => 14#32
  | _ => 0#32

noncomputable abbrev lit2t0_6 (i : Nat) : BitVec 32 := match i % 128 with
  | 0 => 12#32
  | 1 => 13#32
  | 2 => 14#32
  | 3 => 15#32
  | 4 => 12#32
  | 5 => 13#32
  | 6 => 14#32
  | 7 => 15#32
  | 8 => 12#32
  | 9 => 13#32
  | 10 => 14#32
  | 11 => 15#32
  | 12 => 12#32
  | 13 => 13#32
  | 14 => 14#32
  | 15 => 15#32
  | 16 => 12#32
  | 17 => 13#32
  | 18 => 14#32
  | 19 => 15#32
  | 20 => 12#32
  | 21 => 13#32
  | 22 => 14#32
  | 23 => 15#32
  | 24 => 12#32
  | 25 => 13#32
  | 26 => 14#32
  | 27 => 15#32
  | 28 => 12#32
  | 29 => 13#32
  | 30 => 14#32
  | 31 => 15#32
  | 32 => 12#32
  | 33 => 13#32
  | 34 => 14#32
  | 35 => 15#32
  | 36 => 12#32
  | 37 => 13#32
  | 38 => 14#32
  | 39 => 15#32
  | 40 => 12#32
  | 41 => 13#32
  | 42 => 14#32
  | 43 => 15#32
  | 44 => 12#32
  | 45 => 13#32
  | 46 => 14#32
  | 47 => 15#32
  | 48 => 12#32
  | 49 => 13#32
  | 50 => 14#32
  | 51 => 15#32
  | 52 => 12#32
  | 53 => 13#32
  | 54 => 14#32
  | 55 => 15#32
  | 56 => 12#32
  | 57 => 13#32
  | 58 => 14#32
  | 59 => 15#32
  | 60 => 12#32
  | 61 => 13#32
  | 62 => 14#32
  | 63 => 15#32
  | 64 => 13#32
  | 65 => 14#32
  | 66 => 15#32
  | 67 => 16#32
  | 68 => 13#32
  | 69 => 14#32
  | 70 => 15#32
  | 71 => 16#32
  | 72 => 13#32
  | 73 => 14#32
  | 74 => 15#32
  | 75 => 16#32
  | 76 => 13#32
  | 77 => 14#32
  | 78 => 15#32
  | 79 => 16#32
  | 80 => 13#32
  | 81 => 14#32
  | 82 => 15#32
  | 83 => 16#32
  | 84 => 13#32
  | 85 => 14#32
  | 86 => 15#32
  | 87 => 16#32
  | 88 => 13#32
  | 89 => 14#32
  | 90 => 15#32
  | 91 => 16#32
  | 92 => 13#32
  | 93 => 14#32
  | 94 => 15#32
  | 95 => 16#32
  | 96 => 13#32
  | 97 => 14#32
  | 98 => 15#32
  | 99 => 16#32
  | 100 => 13#32
  | 101 => 14#32
  | 102 => 15#32
  | 103 => 16#32
  | 104 => 13#32
  | 105 => 14#32
  | 106 => 15#32
  | 107 => 16#32
  | 108 => 13#32
  | 109 => 14#32
  | 110 => 15#32
  | 111 => 16#32
  | 112 => 13#32
  | 113 => 14#32
  | 114 => 15#32
  | 115 => 16#32
  | 116 => 13#32
  | 117 => 14#32
  | 118 => 15#32
  | 119 => 16#32
  | 120 => 13#32
  | 121 => 14#32
  | 122 => 15#32
  | 123 => 16#32
  | 124 => 13#32
  | 125 => 14#32
  | 126 => 15#32
  | 127 => 16#32
  | _ => 0#32

noncomputable abbrev lit2t0_7 (i : Nat) : BitVec 32 := match i % 128 with
  | 0 => 14#32
  | 1 => 15#32
  | 2 => 16#32
  | 3 => 17#32
  | 4 => 14#32
  | 5 => 15#32
  | 6 => 16#32
  | 7 => 17#32
  | 8 => 14#32
  | 9 => 15#32
  | 10 => 16#32
  | 11 => 17#32
  | 12 => 14#32
  | 13 => 15#32
  | 14 => 16#32
  | 15 => 17#32
  | 16 => 14#32
  | 17 => 15#32
  | 18 => 16#32
  | 19 => 17#32
  | 20 => 14#32
  | 21 => 15#32
  | 22 => 16#32
  | 23 => 17#32
  | 24 => 14#32
  | 25 => 15#32
  | 26 => 16#32
  | 27 => 17#32
  | 28 => 14#32
  | 29 => 15#32
  | 30 => 16#32
  | 31 => 17#32
  | 32 => 14#32
  | 33 => 15#32
  | 34 => 16#32
  | 35 => 17#32
  | 36 => 14#32
  | 37 => 15#32
  | 38 => 16#32
  | 39 => 17#32
  | 40 => 14#32
  | 41 => 15#32
  | 42 => 16#32
  | 43 => 17#32
  | 44 => 14#32
  | 45 => 15#32
  | 46 => 16#32
  | 47 => 17#32
  | 48 => 14#32
  | 49 => 15#32
  | 50 => 16#32
  | 51 => 17#32
  | 52 => 14#32
  | 53 => 15#32
  | 54 => 16#32
  | 55 => 17#32
  | 56 => 14#32
  | 57 => 15#32
  | 58 => 16#32
  | 59 => 17#32
  | 60 => 14#32
  | 61 => 15#32
  | 62 => 16#32
  | 63 => 17#32
  | 64 => 15#32
  | 65 => 16#32
  | 66 => 17#32
  | 67 => 18#32
  | 68 => 15#32
  | 69 => 16#32
  | 70 => 17#32
  | 71 => 18#32
  | 72 => 15#32
  | 73 => 16#32
  | 74 => 17#32
  | 75 => 18#32
  | 76 => 15#32
  | 77 => 16#32
  | 78 => 17#32
  | 79 => 18#32
  | 80 => 15#32
  | 81 => 16#32
  | 82 => 17#32
  | 83 => 18#32
  | 84 => 15#32
  | 85 => 16#32
  | 86 => 17#32
  | 87 => 18#32
  | 88 => 15#32
  | 89 => 16#32
  | 90 => 17#32
  | 91 => 18#32
  | 92 => 15#32
  | 93 => 16#32
  | 94 => 17#32
  | 95 => 18#32
  | 96 => 15#32
  | 97 => 16#32
  | 98 => 17#32
  | 99 => 18#32
  | 100 => 15#32
  | 101 => 16#32
  | 102 => 17#32
  | 103 => 18#32
  | 104 => 15#32
  | 105 => 16#32
  | 106 => 17#32
  | 107 => 18#32
  | 108 => 15#32
  | 109 => 16#32
  | 110 => 17#32
  | 111 => 18#32
  | 112 => 15#32
  | 113 => 16#32
  | 114 => 17#32
  | 115 => 18#32
  | 116 => 15#32
  | 117 => 16#32
  | 118 => 17#32
  | 119 => 18#32
  | 120 => 15#32
  | 121 => 16#32
  | 122 => 17#32
  | 123 => 18#32
  | 124 => 15#32
  | 125 => 16#32
  | 126 => 17#32
  | 127 => 18#32
  | _ => 0#32

noncomputable abbrev lit2t0_8 (i : Nat) : BitVec 32 := match i % 128 with
  | 0 => 16#32
  | 1 => 17#32
  | 2 => 18#32
  | 3 => 19#32
  | 4 => 16#32
  | 5 => 17#32
  | 6 => 18#32
  | 7 => 19#32
  | 8 => 16#32
  | 9 => 17#32
  | 10 => 18#32
  | 11 => 19#32
  | 12 => 16#32
  | 13 => 17#32
  | 14 => 18#32
  | 15 => 19#32
  | 16 => 16#32
  | 17 => 17#32
  | 18 => 18#32
  | 19 => 19#32
  | 20 => 16#32
  | 21 => 17#32
  | 22 => 18#32
  | 23 => 19#32
  | 24 => 16#32
  | 25 => 17#32
  | 26 => 18#32
  | 27 => 19#32
  | 28 => 16#32
  | 29 => 17#32
  | 30 => 18#32
  | 31 => 19#32
  | 32 => 16#32
  | 33 => 17#32
  | 34 => 18#32
  | 35 => 19#32
  | 36 => 16#32
  | 37 => 17#32
  | 38 => 18#32
  | 39 => 19#32
  | 40 => 16#32
  | 41 => 17#32
  | 42 => 18#32
  | 43 => 19#32
  | 44 => 16#32
  | 45 => 17#32
  | 46 => 18#32
  | 47 => 19#32
  | 48 => 16#32
  | 49 => 17#32
  | 50 => 18#32
  | 51 => 19#32
  | 52 => 16#32
  | 53 => 17#32
  | 54 => 18#32
  | 55 => 19#32
  | 56 => 16#32
  | 57 => 17#32
  | 58 => 18#32
  | 59 => 19#32
  | 60 => 16#32
  | 61 => 17#32
  | 62 => 18#32
  | 63 => 19#32
  | 64 => 17#32
  | 65 => 18#32
  | 66 => 19#32
  | 67 => 20#32
  | 68 => 17#32
  | 69 => 18#32
  | 70 => 19#32
  | 71 => 20#32
  | 72 => 17#32
  | 73 => 18#32
  | 74 => 19#32
  | 75 => 20#32
  | 76 => 17#32
  | 77 => 18#32
  | 78 => 19#32
  | 79 => 20#32
  | 80 => 17#32
  | 81 => 18#32
  | 82 => 19#32
  | 83 => 20#32
  | 84 => 17#32
  | 85 => 18#32
  | 86 => 19#32
  | 87 => 20#32
  | 88 => 17#32
  | 89 => 18#32
  | 90 => 19#32
  | 91 => 20#32
  | 92 => 17#32
  | 93 => 18#32
  | 94 => 19#32
  | 95 => 20#32
  | 96 => 17#32
  | 97 => 18#32
  | 98 => 19#32
  | 99 => 20#32
  | 100 => 17#32
  | 101 => 18#32
  | 102 => 19#32
  | 103 => 20#32
  | 104 => 17#32
  | 105 => 18#32
  | 106 => 19#32
  | 107 => 20#32
  | 108 => 17#32
  | 109 => 18#32
  | 110 => 19#32
  | 111 => 20#32
  | 112 => 17#32
  | 113 => 18#32
  | 114 => 19#32
  | 115 => 20#32
  | 116 => 17#32
  | 117 => 18#32
  | 118 => 19#32
  | 119 => 20#32
  | 120 => 17#32
  | 121 => 18#32
  | 122 => 19#32
  | 123 => 20#32
  | 124 => 17#32
  | 125 => 18#32
  | 126 => 19#32
  | 127 => 20#32
  | _ => 0#32

noncomputable abbrev lit2t0_9 (i : Nat) : BitVec 32 := match i % 128 with
  | 0 => 18#32
  | 1 => 19#32
  | 2 => 20#32
  | 3 => 21#32
  | 4 => 18#32
  | 5 => 19#32
  | 6 => 20#32
  | 7 => 21#32
  | 8 => 18#32
  | 9 => 19#32
  | 10 => 20#32
  | 11 => 21#32
  | 12 => 18#32
  | 13 => 19#32
  | 14 => 20#32
  | 15 => 21#32
  | 16 => 18#32
  | 17 => 19#32
  | 18 => 20#32
  | 19 => 21#32
  | 20 => 18#32
  | 21 => 19#32
  | 22 => 20#32
  | 23 => 21#32
  | 24 => 18#32
  | 25 => 19#32
  | 26 => 20#32
  | 27 => 21#32
  | 28 => 18#32
  | 29 => 19#32
  | 30 => 20#32
  | 31 => 21#32
  | 32 => 18#32
  | 33 => 19#32
  | 34 => 20#32
  | 35 => 21#32
  | 36 => 18#32
  | 37 => 19#32
  | 38 => 20#32
  | 39 => 21#32
  | 40 => 18#32
  | 41 => 19#32
  | 42 => 20#32
  | 43 => 21#32
  | 44 => 18#32
  | 45 => 19#32
  | 46 => 20#32
  | 47 => 21#32
  | 48 => 18#32
  | 49 => 19#32
  | 50 => 20#32
  | 51 => 21#32
  | 52 => 18#32
  | 53 => 19#32
  | 54 => 20#32
  | 55 => 21#32
  | 56 => 18#32
  | 57 => 19#32
  | 58 => 20#32
  | 59 => 21#32
  | 60 => 18#32
  | 61 => 19#32
  | 62 => 20#32
  | 63 => 21#32
  | 64 => 19#32
  | 65 => 20#32
  | 66 => 21#32
  | 67 => 22#32
  | 68 => 19#32
  | 69 => 20#32
  | 70 => 21#32
  | 71 => 22#32
  | 72 => 19#32
  | 73 => 20#32
  | 74 => 21#32
  | 75 => 22#32
  | 76 => 19#32
  | 77 => 20#32
  | 78 => 21#32
  | 79 => 22#32
  | 80 => 19#32
  | 81 => 20#32
  | 82 => 21#32
  | 83 => 22#32
  | 84 => 19#32
  | 85 => 20#32
  | 86 => 21#32
  | 87 => 22#32
  | 88 => 19#32
  | 89 => 20#32
  | 90 => 21#32
  | 91 => 22#32
  | 92 => 19#32
  | 93 => 20#32
  | 94 => 21#32
  | 95 => 22#32
  | 96 => 19#32
  | 97 => 20#32
  | 98 => 21#32
  | 99 => 22#32
  | 100 => 19#32
  | 101 => 20#32
  | 102 => 21#32
  | 103 => 22#32
  | 104 => 19#32
  | 105 => 20#32
  | 106 => 21#32
  | 107 => 22#32
  | 108 => 19#32
  | 109 => 20#32
  | 110 => 21#32
  | 111 => 22#32
  | 112 => 19#32
  | 113 => 20#32
  | 114 => 21#32
  | 115 => 22#32
  | 116 => 19#32
  | 117 => 20#32
  | 118 => 21#32
  | 119 => 22#32
  | 120 => 19#32
  | 121 => 20#32
  | 122 => 21#32
  | 123 => 22#32
  | 124 => 19#32
  | 125 => 20#32
  | 126 => 21#32
  | 127 => 22#32
  | _ => 0#32

noncomputable abbrev lit2t0_10 (i : Nat) : BitVec 32 := match i % 128 with
  | 0 => 20#32
  | 1 => 21#32
  | 2 => 22#32
  | 3 => 23#32
  | 4 => 20#32
  | 5 => 21#32
  | 6 => 22#32
  | 7 => 23#32
  | 8 => 20#32
  | 9 => 21#32
  | 10 => 22#32
  | 11 => 23#32
  | 12 => 20#32
  | 13 => 21#32
  | 14 => 22#32
  | 15 => 23#32
  | 16 => 20#32
  | 17 => 21#32
  | 18 => 22#32
  | 19 => 23#32
  | 20 => 20#32
  | 21 => 21#32
  | 22 => 22#32
  | 23 => 23#32
  | 24 => 20#32
  | 25 => 21#32
  | 26 => 22#32
  | 27 => 23#32
  | 28 => 20#32
  | 29 => 21#32
  | 30 => 22#32
  | 31 => 23#32
  | 32 => 20#32
  | 33 => 21#32
  | 34 => 22#32
  | 35 => 23#32
  | 36 => 20#32
  | 37 => 21#32
  | 38 => 22#32
  | 39 => 23#32
  | 40 => 20#32
  | 41 => 21#32
  | 42 => 22#32
  | 43 => 23#32
  | 44 => 20#32
  | 45 => 21#32
  | 46 => 22#32
  | 47 => 23#32
  | 48 => 20#32
  | 49 => 21#32
  | 50 => 22#32
  | 51 => 23#32
  | 52 => 20#32
  | 53 => 21#32
  | 54 => 22#32
  | 55 => 23#32
  | 56 => 20#32
  | 57 => 21#32
  | 58 => 22#32
  | 59 => 23#32
  | 60 => 20#32
  | 61 => 21#32
  | 62 => 22#32
  | 63 => 23#32
  | 64 => 21#32
  | 65 => 22#32
  | 66 => 23#32
  | 67 => 24#32
  | 68 => 21#32
  | 69 => 22#32
  | 70 => 23#32
  | 71 => 24#32
  | 72 => 21#32
  | 73 => 22#32
  | 74 => 23#32
  | 75 => 24#32
  | 76 => 21#32
  | 77 => 22#32
  | 78 => 23#32
  | 79 => 24#32
  | 80 => 21#32
  | 81 => 22#32
  | 82 => 23#32
  | 83 => 24#32
  | 84 => 21#32
  | 85 => 22#32
  | 86 => 23#32
  | 87 => 24#32
  | 88 => 21#32
  | 89 => 22#32
  | 90 => 23#32
  | 91 => 24#32
  | 92 => 21#32
  | 93 => 22#32
  | 94 => 23#32
  | 95 => 24#32
  | 96 => 21#32
  | 97 => 22#32
  | 98 => 23#32
  | 99 => 24#32
  | 100 => 21#32
  | 101 => 22#32
  | 102 => 23#32
  | 103 => 24#32
  | 104 => 21#32
  | 105 => 22#32
  | 106 => 23#32
  | 107 => 24#32
  | 108 => 21#32
  | 109 => 22#32
  | 110 => 23#32
  | 111 => 24#32
  | 112 => 21#32
  | 113 => 22#32
  | 114 => 23#32
  | 115 => 24#32
  | 116 => 21#32
  | 117 => 22#32
  | 118 => 23#32
  | 119 => 24#32
  | 120 => 21#32
  | 121 => 22#32
  | 122 => 23#32
  | 123 => 24#32
  | 124 => 21#32
  | 125 => 22#32
  | 126 => 23#32
  | 127 => 24#32
  | _ => 0#32

noncomputable abbrev lit2t0_11 (i : Nat) : BitVec 32 := match i % 128 with
  | 0 => 22#32
  | 1 => 23#32
  | 2 => 24#32
  | 3 => 25#32
  | 4 => 22#32
  | 5 => 23#32
  | 6 => 24#32
  | 7 => 25#32
  | 8 => 22#32
  | 9 => 23#32
  | 10 => 24#32
  | 11 => 25#32
  | 12 => 22#32
  | 13 => 23#32
  | 14 => 24#32
  | 15 => 25#32
  | 16 => 22#32
  | 17 => 23#32
  | 18 => 24#32
  | 19 => 25#32
  | 20 => 22#32
  | 21 => 23#32
  | 22 => 24#32
  | 23 => 25#32
  | 24 => 22#32
  | 25 => 23#32
  | 26 => 24#32
  | 27 => 25#32
  | 28 => 22#32
  | 29 => 23#32
  | 30 => 24#32
  | 31 => 25#32
  | 32 => 22#32
  | 33 => 23#32
  | 34 => 24#32
  | 35 => 25#32
  | 36 => 22#32
  | 37 => 23#32
  | 38 => 24#32
  | 39 => 25#32
  | 40 => 22#32
  | 41 => 23#32
  | 42 => 24#32
  | 43 => 25#32
  | 44 => 22#32
  | 45 => 23#32
  | 46 => 24#32
  | 47 => 25#32
  | 48 => 22#32
  | 49 => 23#32
  | 50 => 24#32
  | 51 => 25#32
  | 52 => 22#32
  | 53 => 23#32
  | 54 => 24#32
  | 55 => 25#32
  | 56 => 22#32
  | 57 => 23#32
  | 58 => 24#32
  | 59 => 25#32
  | 60 => 22#32
  | 61 => 23#32
  | 62 => 24#32
  | 63 => 25#32
  | 64 => 23#32
  | 65 => 24#32
  | 66 => 25#32
  | 67 => 26#32
  | 68 => 23#32
  | 69 => 24#32
  | 70 => 25#32
  | 71 => 26#32
  | 72 => 23#32
  | 73 => 24#32
  | 74 => 25#32
  | 75 => 26#32
  | 76 => 23#32
  | 77 => 24#32
  | 78 => 25#32
  | 79 => 26#32
  | 80 => 23#32
  | 81 => 24#32
  | 82 => 25#32
  | 83 => 26#32
  | 84 => 23#32
  | 85 => 24#32
  | 86 => 25#32
  | 87 => 26#32
  | 88 => 23#32
  | 89 => 24#32
  | 90 => 25#32
  | 91 => 26#32
  | 92 => 23#32
  | 93 => 24#32
  | 94 => 25#32
  | 95 => 26#32
  | 96 => 23#32
  | 97 => 24#32
  | 98 => 25#32
  | 99 => 26#32
  | 100 => 23#32
  | 101 => 24#32
  | 102 => 25#32
  | 103 => 26#32
  | 104 => 23#32
  | 105 => 24#32
  | 106 => 25#32
  | 107 => 26#32
  | 108 => 23#32
  | 109 => 24#32
  | 110 => 25#32
  | 111 => 26#32
  | 112 => 23#32
  | 113 => 24#32
  | 114 => 25#32
  | 115 => 26#32
  | 116 => 23#32
  | 117 => 24#32
  | 118 => 25#32
  | 119 => 26#32
  | 120 => 23#32
  | 121 => 24#32
  | 122 => 25#32
  | 123 => 26#32
  | 124 => 23#32
  | 125 => 24#32
  | 126 => 25#32
  | 127 => 26#32
  | _ => 0#32

noncomputable abbrev lit2t0_12 (i : Nat) : BitVec 32 := match i % 128 with
  | 0 => 24#32
  | 1 => 25#32
  | 2 => 26#32
  | 3 => 27#32
  | 4 => 24#32
  | 5 => 25#32
  | 6 => 26#32
  | 7 => 27#32
  | 8 => 24#32
  | 9 => 25#32
  | 10 => 26#32
  | 11 => 27#32
  | 12 => 24#32
  | 13 => 25#32
  | 14 => 26#32
  | 15 => 27#32
  | 16 => 24#32
  | 17 => 25#32
  | 18 => 26#32
  | 19 => 27#32
  | 20 => 24#32
  | 21 => 25#32
  | 22 => 26#32
  | 23 => 27#32
  | 24 => 24#32
  | 25 => 25#32
  | 26 => 26#32
  | 27 => 27#32
  | 28 => 24#32
  | 29 => 25#32
  | 30 => 26#32
  | 31 => 27#32
  | 32 => 24#32
  | 33 => 25#32
  | 34 => 26#32
  | 35 => 27#32
  | 36 => 24#32
  | 37 => 25#32
  | 38 => 26#32
  | 39 => 27#32
  | 40 => 24#32
  | 41 => 25#32
  | 42 => 26#32
  | 43 => 27#32
  | 44 => 24#32
  | 45 => 25#32
  | 46 => 26#32
  | 47 => 27#32
  | 48 => 24#32
  | 49 => 25#32
  | 50 => 26#32
  | 51 => 27#32
  | 52 => 24#32
  | 53 => 25#32
  | 54 => 26#32
  | 55 => 27#32
  | 56 => 24#32
  | 57 => 25#32
  | 58 => 26#32
  | 59 => 27#32
  | 60 => 24#32
  | 61 => 25#32
  | 62 => 26#32
  | 63 => 27#32
  | 64 => 25#32
  | 65 => 26#32
  | 66 => 27#32
  | 67 => 28#32
  | 68 => 25#32
  | 69 => 26#32
  | 70 => 27#32
  | 71 => 28#32
  | 72 => 25#32
  | 73 => 26#32
  | 74 => 27#32
  | 75 => 28#32
  | 76 => 25#32
  | 77 => 26#32
  | 78 => 27#32
  | 79 => 28#32
  | 80 => 25#32
  | 81 => 26#32
  | 82 => 27#32
  | 83 => 28#32
  | 84 => 25#32
  | 85 => 26#32
  | 86 => 27#32
  | 87 => 28#32
  | 88 => 25#32
  | 89 => 26#32
  | 90 => 27#32
  | 91 => 28#32
  | 92 => 25#32
  | 93 => 26#32
  | 94 => 27#32
  | 95 => 28#32
  | 96 => 25#32
  | 97 => 26#32
  | 98 => 27#32
  | 99 => 28#32
  | 100 => 25#32
  | 101 => 26#32
  | 102 => 27#32
  | 103 => 28#32
  | 104 => 25#32
  | 105 => 26#32
  | 106 => 27#32
  | 107 => 28#32
  | 108 => 25#32
  | 109 => 26#32
  | 110 => 27#32
  | 111 => 28#32
  | 112 => 25#32
  | 113 => 26#32
  | 114 => 27#32
  | 115 => 28#32
  | 116 => 25#32
  | 117 => 26#32
  | 118 => 27#32
  | 119 => 28#32
  | 120 => 25#32
  | 121 => 26#32
  | 122 => 27#32
  | 123 => 28#32
  | 124 => 25#32
  | 125 => 26#32
  | 126 => 27#32
  | 127 => 28#32
  | _ => 0#32

noncomputable abbrev lit2t0_13 (i : Nat) : BitVec 32 := match i % 128 with
  | 0 => 26#32
  | 1 => 27#32
  | 2 => 28#32
  | 3 => 29#32
  | 4 => 26#32
  | 5 => 27#32
  | 6 => 28#32
  | 7 => 29#32
  | 8 => 26#32
  | 9 => 27#32
  | 10 => 28#32
  | 11 => 29#32
  | 12 => 26#32
  | 13 => 27#32
  | 14 => 28#32
  | 15 => 29#32
  | 16 => 26#32
  | 17 => 27#32
  | 18 => 28#32
  | 19 => 29#32
  | 20 => 26#32
  | 21 => 27#32
  | 22 => 28#32
  | 23 => 29#32
  | 24 => 26#32
  | 25 => 27#32
  | 26 => 28#32
  | 27 => 29#32
  | 28 => 26#32
  | 29 => 27#32
  | 30 => 28#32
  | 31 => 29#32
  | 32 => 26#32
  | 33 => 27#32
  | 34 => 28#32
  | 35 => 29#32
  | 36 => 26#32
  | 37 => 27#32
  | 38 => 28#32
  | 39 => 29#32
  | 40 => 26#32
  | 41 => 27#32
  | 42 => 28#32
  | 43 => 29#32
  | 44 => 26#32
  | 45 => 27#32
  | 46 => 28#32
  | 47 => 29#32
  | 48 => 26#32
  | 49 => 27#32
  | 50 => 28#32
  | 51 => 29#32
  | 52 => 26#32
  | 53 => 27#32
  | 54 => 28#32
  | 55 => 29#32
  | 56 => 26#32
  | 57 => 27#32
  | 58 => 28#32
  | 59 => 29#32
  | 60 => 26#32
  | 61 => 27#32
  | 62 => 28#32
  | 63 => 29#32
  | 64 => 27#32
  | 65 => 28#32
  | 66 => 29#32
  | 67 => 30#32
  | 68 => 27#32
  | 69 => 28#32
  | 70 => 29#32
  | 71 => 30#32
  | 72 => 27#32
  | 73 => 28#32
  | 74 => 29#32
  | 75 => 30#32
  | 76 => 27#32
  | 77 => 28#32
  | 78 => 29#32
  | 79 => 30#32
  | 80 => 27#32
  | 81 => 28#32
  | 82 => 29#32
  | 83 => 30#32
  | 84 => 27#32
  | 85 => 28#32
  | 86 => 29#32
  | 87 => 30#32
  | 88 => 27#32
  | 89 => 28#32
  | 90 => 29#32
  | 91 => 30#32
  | 92 => 27#32
  | 93 => 28#32
  | 94 => 29#32
  | 95 => 30#32
  | 96 => 27#32
  | 97 => 28#32
  | 98 => 29#32
  | 99 => 30#32
  | 100 => 27#32
  | 101 => 28#32
  | 102 => 29#32
  | 103 => 30#32
  | 104 => 27#32
  | 105 => 28#32
  | 106 => 29#32
  | 107 => 30#32
  | 108 => 27#32
  | 109 => 28#32
  | 110 => 29#32
  | 111 => 30#32
  | 112 => 27#32
  | 113 => 28#32
  | 114 => 29#32
  | 115 => 30#32
  | 116 => 27#32
  | 117 => 28#32
  | 118 => 29#32
  | 119 => 30#32
  | 120 => 27#32
  | 121 => 28#32
  | 122 => 29#32
  | 123 => 30#32
  | 124 => 27#32
  | 125 => 28#32
  | 126 => 29#32
  | 127 => 30#32
  | _ => 0#32

noncomputable abbrev lit2t0_14 (i : Nat) : BitVec 32 := match i % 128 with
  | 0 => 28#32
  | 1 => 29#32
  | 2 => 30#32
  | 3 => 31#32
  | 4 => 28#32
  | 5 => 29#32
  | 6 => 30#32
  | 7 => 31#32
  | 8 => 28#32
  | 9 => 29#32
  | 10 => 30#32
  | 11 => 31#32
  | 12 => 28#32
  | 13 => 29#32
  | 14 => 30#32
  | 15 => 31#32
  | 16 => 28#32
  | 17 => 29#32
  | 18 => 30#32
  | 19 => 31#32
  | 20 => 28#32
  | 21 => 29#32
  | 22 => 30#32
  | 23 => 31#32
  | 24 => 28#32
  | 25 => 29#32
  | 26 => 30#32
  | 27 => 31#32
  | 28 => 28#32
  | 29 => 29#32
  | 30 => 30#32
  | 31 => 31#32
  | 32 => 28#32
  | 33 => 29#32
  | 34 => 30#32
  | 35 => 31#32
  | 36 => 28#32
  | 37 => 29#32
  | 38 => 30#32
  | 39 => 31#32
  | 40 => 28#32
  | 41 => 29#32
  | 42 => 30#32
  | 43 => 31#32
  | 44 => 28#32
  | 45 => 29#32
  | 46 => 30#32
  | 47 => 31#32
  | 48 => 28#32
  | 49 => 29#32
  | 50 => 30#32
  | 51 => 31#32
  | 52 => 28#32
  | 53 => 29#32
  | 54 => 30#32
  | 55 => 31#32
  | 56 => 28#32
  | 57 => 29#32
  | 58 => 30#32
  | 59 => 31#32
  | 60 => 28#32
  | 61 => 29#32
  | 62 => 30#32
  | 63 => 31#32
  | 64 => 29#32
  | 65 => 30#32
  | 66 => 31#32
  | 67 => 32#32
  | 68 => 29#32
  | 69 => 30#32
  | 70 => 31#32
  | 71 => 32#32
  | 72 => 29#32
  | 73 => 30#32
  | 74 => 31#32
  | 75 => 32#32
  | 76 => 29#32
  | 77 => 30#32
  | 78 => 31#32
  | 79 => 32#32
  | 80 => 29#32
  | 81 => 30#32
  | 82 => 31#32
  | 83 => 32#32
  | 84 => 29#32
  | 85 => 30#32
  | 86 => 31#32
  | 87 => 32#32
  | 88 => 29#32
  | 89 => 30#32
  | 90 => 31#32
  | 91 => 32#32
  | 92 => 29#32
  | 93 => 30#32
  | 94 => 31#32
  | 95 => 32#32
  | 96 => 29#32
  | 97 => 30#32
  | 98 => 31#32
  | 99 => 32#32
  | 100 => 29#32
  | 101 => 30#32
  | 102 => 31#32
  | 103 => 32#32
  | 104 => 29#32
  | 105 => 30#32
  | 106 => 31#32
  | 107 => 32#32
  | 108 => 29#32
  | 109 => 30#32
  | 110 => 31#32
  | 111 => 32#32
  | 112 => 29#32
  | 113 => 30#32
  | 114 => 31#32
  | 115 => 32#32
  | 116 => 29#32
  | 117 => 30#32
  | 118 => 31#32
  | 119 => 32#32
  | 120 => 29#32
  | 121 => 30#32
  | 122 => 31#32
  | 123 => 32#32
  | 124 => 29#32
  | 125 => 30#32
  | 126 => 31#32
  | 127 => 32#32
  | _ => 0#32

noncomputable abbrev lit2t0_15 (i : Nat) : BitVec 32 := match i % 128 with
  | 0 => 30#32
  | 1 => 31#32
  | 2 => 32#32
  | 3 => 33#32
  | 4 => 30#32
  | 5 => 31#32
  | 6 => 32#32
  | 7 => 33#32
  | 8 => 30#32
  | 9 => 31#32
  | 10 => 32#32
  | 11 => 33#32
  | 12 => 30#32
  | 13 => 31#32
  | 14 => 32#32
  | 15 => 33#32
  | 16 => 30#32
  | 17 => 31#32
  | 18 => 32#32
  | 19 => 33#32
  | 20 => 30#32
  | 21 => 31#32
  | 22 => 32#32
  | 23 => 33#32
  | 24 => 30#32
  | 25 => 31#32
  | 26 => 32#32
  | 27 => 33#32
  | 28 => 30#32
  | 29 => 31#32
  | 30 => 32#32
  | 31 => 33#32
  | 32 => 30#32
  | 33 => 31#32
  | 34 => 32#32
  | 35 => 33#32
  | 36 => 30#32
  | 37 => 31#32
  | 38 => 32#32
  | 39 => 33#32
  | 40 => 30#32
  | 41 => 31#32
  | 42 => 32#32
  | 43 => 33#32
  | 44 => 30#32
  | 45 => 31#32
  | 46 => 32#32
  | 47 => 33#32
  | 48 => 30#32
  | 49 => 31#32
  | 50 => 32#32
  | 51 => 33#32
  | 52 => 30#32
  | 53 => 31#32
  | 54 => 32#32
  | 55 => 33#32
  | 56 => 30#32
  | 57 => 31#32
  | 58 => 32#32
  | 59 => 33#32
  | 60 => 30#32
  | 61 => 31#32
  | 62 => 32#32
  | 63 => 33#32
  | 64 => 31#32
  | 65 => 32#32
  | 66 => 33#32
  | 67 => 34#32
  | 68 => 31#32
  | 69 => 32#32
  | 70 => 33#32
  | 71 => 34#32
  | 72 => 31#32
  | 73 => 32#32
  | 74 => 33#32
  | 75 => 34#32
  | 76 => 31#32
  | 77 => 32#32
  | 78 => 33#32
  | 79 => 34#32
  | 80 => 31#32
  | 81 => 32#32
  | 82 => 33#32
  | 83 => 34#32
  | 84 => 31#32
  | 85 => 32#32
  | 86 => 33#32
  | 87 => 34#32
  | 88 => 31#32
  | 89 => 32#32
  | 90 => 33#32
  | 91 => 34#32
  | 92 => 31#32
  | 93 => 32#32
  | 94 => 33#32
  | 95 => 34#32
  | 96 => 31#32
  | 97 => 32#32
  | 98 => 33#32
  | 99 => 34#32
  | 100 => 31#32
  | 101 => 32#32
  | 102 => 33#32
  | 103 => 34#32
  | 104 => 31#32
  | 105 => 32#32
  | 106 => 33#32
  | 107 => 34#32
  | 108 => 31#32
  | 109 => 32#32
  | 110 => 33#32
  | 111 => 34#32
  | 112 => 31#32
  | 113 => 32#32
  | 114 => 33#32
  | 115 => 34#32
  | 116 => 31#32
  | 117 => 32#32
  | 118 => 33#32
  | 119 => 34#32
  | 120 => 31#32
  | 121 => 32#32
  | 122 => 33#32
  | 123 => 34#32
  | 124 => 31#32
  | 125 => 32#32
  | 126 => 33#32
  | 127 => 34#32
  | _ => 0#32

noncomputable abbrev lit2t (i : Nat) : BitVec 32 := match i / 128 with
  | 0 => lit2t0_0 i
  | 1 => lit2t0_1 i
  | 2 => lit2t0_2 i
  | 3 => lit2t0_3 i
  | 4 => lit2t0_4 i
  | 5 => lit2t0_5 i
  | 6 => lit2t0_6 i
  | 7 => lit2t0_7 i
  | 8 => lit2t0_8 i
  | 9 => lit2t0_9 i
  | 10 => lit2t0_10 i
  | 11 => lit2t0_11 i
  | 12 => lit2t0_12 i
  | 13 => lit2t0_13 i
  | 14 => lit2t0_14 i
  | 15 => lit2t0_15 i
  | _ => 0#32

noncomputable abbrev lit2 : Fin 2048 → BitVec 32 := fun ⟨i, _⟩ => lit2t i

noncomputable abbrev lit3t0_0 (i : Nat) : BitVec 32 := match i % 128 with
  | 0 => 0x3F7FFFF0#32
  | 1 => 0x3580D955#32
  | 2 => 0x2A2CF02D#32
  | 3 => 0x1DCE52C6#32
  | 4 => 0x3F52DAD0#32
  | 5 => 0x3E2EBF00#32
  | 6 => 0x3BB960A9#32
  | 7 => 0x382BAC57#32
  | 8 => 0x3F2B5B24#32
  | 9 => 0x3E9DFECC#32
  | 10 => 0x3CB20008#32
  | 11 => 0x39ABAC01#32
  | 12 => 0x3F09205B#32
  | 13 => 0x3ED53000#32
  | 14 => 0x3D3FF385#32
  | 15 => 0x3A90D909#32
  | 16 => 0x3ED793CA#32
  | 17 => 0x3EFE4514#32
  | 18 => 0x3DA33F27#32
  | 19 => 0x3B2BABD6#32
  | 20 => 0x3EA5EE62#32
  | 21 => 0x3F0D4802#32
  | 22 => 0x3DF38C0D#32
  | 23 => 0x3BA7A5C7#32
  | 24 => 0x3E791EBB#32
  | 25 => 0x3F15B164#32
  | 26 => 0x3E270E27#32
  | 27 => 0x3C10D8F0#32
  | 28 => 0x3E356B35#32
  | 29 => 0x3F1907AD#32
  | 30 => 0x3E5815E5#32
  | 31 => 0x3C660323#32
  | 32 => 0x3DFE7FE1#32
  | 33 => 0x3F17F3DB#32
  | 34 => 0x3E85BD96#32
  | 35 => 0x3CABABC0#32
  | 36 => 0x3DAA3558#32
  | 37 => 0x3F131EEA#32
  | 38 => 0x3E9FEDF5#32
  | 39 => 0x3CF46E08#32
  | 40 => 0x3D55E492#32
  | 41 => 0x3F0B31D7#32
  | 42 => 0x3EB9EB08#32
  | 43 => 0x3D27A5B6#32
  | 44 => 0x3CF6C8C1#32
  | 45 => 0x3F00D5A0#32
  | 46 => 0x3ED303C5#32
  | 47 => 0x3D5F2377#32
  | 48 => 0x3C7B8446#32
  | 49 => 0x3EE96683#32
  | 50 => 0x3EEA8722#32
  | 51 => 0x3D90D8E4#32
  | 52 => 0x3BD28CE2#32
  | 53 => 0x3ECEE76F#32
  | 54 => 0x3EFFC417#32
  | 55 => 0x3DB82916#32
  | 56 => 0x3AF59F01#32
  | 57 => 0x3EB38001#32
  | 58 => 0x3F0904CE#32
  | 59 => 0x3DE60312#32
  | 60 => 0x396A1B97#32
  | 61 => 0x3E988231#32
  | 62 => 0x3F105353#32
  | 63 => 0x3E0D73CD#32
  | 64 => 0x3E7E7FF1#32
  | 65 => 0x3F157516#32
  | 66 => 0x3E2BABB5#32
  | 67 => 0x30ABBFE2#32
  | 68 => 0x3E518973#32
  | 69 => 0x3F182C0D#32
  | 70 => 0x3E4DBA93#32
  | 71 => 0x383C4687#32
  | 72 => 0x3E2A3564#32
  | 73 => 0x3F189A9A#32
  | 74 => 0x3E73064A#32
  | 75 => 0x39B3D865#32
  | 76 => 0x3E082334#32
  | 77 => 0x3F16F90F#32
  | 78 => 0x3E8D66DC#32
  | 79 => 0x3A956BEA#32
  | 80 => 0x3DD5E4A4#32
  | 81 => 0x3F137FC3#32
  | 82 => 0x3EA227DE#32
  | 83 => 0x3B2FB9EB#32
  | 84 => 0x3DA4845B#32
  | 85 => 0x3F0E6708#32
  | 86 => 0x3EB7659B#32
  | 87 => 0x3BAACF84#32
  | 88 => 0x3D76C8DA#32
  | 89 => 0x3F07E734#32
  | 90 => 0x3ECCBF81#32
  | 91 => 0x3C131F58#32
  | 92 => 0x3D33876E#32
  | 93 => 0x3F00389B#32
  | 94 => 0x3EE1D502#32
  | 95 => 0x3C691B44#32
  | 96 => 0x3CFB8465#32
  | 97 => 0x3EEF2722#32
  | 98 => 0x3EF6458B#32
  | 99 => 0x3CADB0C6#32
  | 100 => 0x3CA7EDC9#32
  | 101 => 0x3EDC60D5#32
  | 102 => 0x3F04D846#32
  | 103 => 0x3CF6FC1A#32
  | 104 => 0x3C528D06#32
  | 105 => 0x3EC88EF8#32
  | 106 => 0x3F0DDABB#32
  | 107 => 0x3D293951#32
  | 108 => 0x3BF2283B#32
  | 109 => 0x3EB42233#32
  | 110 => 0x3F15F9DB#32
  | 111 => 0x3D610BB1#32
  | 112 => 0x3B759F3F#32
  | 113 => 0x3E9F8B2E#32
  | 114 => 0x3F1D055F#32
  | 115 => 0x3D91FB57#32
  | 116 => 0x3ACBF89F#32
  | 117 => 0x3E8B3A93#32
  | 118 => 0x3F22CCFE#32
  | 119 => 0x3DB97DE4#32
  | 120 => 0x39EA1C10#32
  | 121 => 0x3E6F4215#32
  | 122 => 0x3F27206F#32
  | 123 => 0x3DE78E41#32
  | 124 => 0x38542CDE#32
  | 125 => 0x3E4A5E7A#32
  | 126 => 0x3F29CF6B#32
  | 127 => 0x3E0E5698#32
  | _ => 0#32

noncomputable abbrev lit3t0_1 (i : Nat) : BitVec 32 := match i % 128 with
  | 0 => 0x3E28ABA2#32
  | 1 => 0x3F2AA9AA#32
  | 2 => 0x3E2CADB5#32
  | 3 => 0x322BB51A#32
  | 4 => 0x3E0AD0FF#32
  | 5 => 0x3F29922F#32
  | 6 => 0x3E4ED966#32
  | 7 => 0x384DEA43#32
  | 8 => 0x3DE16BF1#32
  | 9 => 0x3F26AC00#32
  | 10 => 0x3E743BE6#32
  | 11 => 0x39BC462B#32
  | 12 => 0x3DB4345C#32
  | 13 => 0x3F222764#32
  | 14 => 0x3E8E0A0B#32
  | 15 => 0x3A9A1730#32
  | 16 => 0x3D8D7A7F#32
  | 17 => 0x3F1C34A4#32
  | 18 => 0x3EA2D069#32
  | 19 => 0x3B33D839#32
  | 20 => 0x3D597B31#32
  | 21 => 0x3F150408#32
  | 22 => 0x3EB8107D#32
  | 23 => 0x3BAE0360#32
  | 24 => 0x3D22F9D0#32
  | 25 => 0x3F0CC5D8#32
  | 26 => 0x3ECD69B7#32
  | 27 => 0x3C156BD1#32
  | 28 => 0x3CECDEB4#32
  | 29 => 0x3F03AA5E#32
  | 30 => 0x3EE27B85#32
  | 31 => 0x3C6C3A78#32
  | 32 => 0x3CA5B49A#32
  | 33 => 0x3EF3C3C0#32
  | 34 => 0x3EF6E559#32
  | 35 => 0x3CAFB9D5#32
  | 36 => 0x3C5CE49D#32
  | 37 => 0x3EDF3950#32
  | 38 => 0x3F052350#32
  | 39 => 0x3CF98EB7#32
  | 40 => 0x3C0A299F#32
  | 41 => 0x3ECA15FB#32
  | 42 => 0x3F0E1F65#32
  | 43 => 0x3D2ACF73#32
  | 44 => 0x3B9E6468#32
  | 45 => 0x3EB4BA51#32
  | 46 => 0x3F1636A3#32
  | 47 => 0x3D62F6B1#32
  | 48 => 0x3B1FE153#32
  | 49 => 0x3E9F86E4#32
  | 50 => 0x3F1D38C3#32
  | 51 => 0x3D931F4C#32
  | 52 => 0x3A83AFE0#32
  | 53 => 0x3E8ADC44#32
  | 54 => 0x3F22F57B#32
  | 55 => 0x3DBAD455#32
  | 56 => 0x3994A472#32
  | 57 => 0x3E6E3602#32
  | 58 => 0x3F273C84#32
  | 59 => 0x3DE91B34#32
  | 60 => 0x37FF8B00#32
  | 61 => 0x3E494759#32
  | 62 => 0x3F29DD96#32
  | 63 => 0x3E0F3A55#32
  | 64 => 0x3E27ADA4#32
  | 65 => 0x3F2AA86A#32
  | 66 => 0x3E2DB0B2#32
  | 67 => 0x3310DDC5#32
  | 68 => 0x3E09F1F7#32
  | 69 => 0x3F2981BE#32
  | 70 => 0x3E4FF906#32
  | 71 => 0x38609F97#32
  | 72 => 0x3DDFE7C7#32
  | 73 => 0x3F268DE0#32
  | 74 => 0x3E757220#32
  | 75 => 0x39C4F654#32
  | 76 => 0x3DB2E613#32
  | 77 => 0x3F21FD18#32
  | 78 => 0x3E8EAD70#32
  | 79 => 0x3A9EDB1B#32
  | 80 => 0x3D8C5E10#32
  | 81 => 0x3F1BFFAE#32
  | 82 => 0x3EA37912#32
  | 83 => 0x3B3806DF#32
  | 84 => 0x3D579DFC#32
  | 85 => 0x3F14C5EB#32
  | 86 => 0x3EB8BB65#32
  | 87 => 0x3BB1416B#32
  | 88 => 0x3D217038#32
  | 89 => 0x3F0C8016#32
  | 90 => 0x3ECE13DA#32
  | 91 => 0x3C17BE63#32
  | 92 => 0x3CEA62A5#32
  | 93 => 0x3F035E78#32
  | 94 => 0x3EE321DF#32
  | 95 => 0x3C6F60C7#32
  | 96 => 0x3CA3BF94#32
  | 97 => 0x3EF322B3#32
  | 98 => 0x3EF784E4#32
  | 99 => 0x3CB1C6F3#32
  | 100 => 0x3C59E876#32
  | 101 => 0x3EDE9206#32
  | 102 => 0x3F056E2C#32
  | 103 => 0x3CFC25E3#32
  | 104 => 0x3C07FB2C#32
  | 105 => 0x3EC96B78#32
  | 106 => 0x3F0E63D6#32
  | 107 => 0x3D2C681C#32
  | 108 => 0x3B9B6287#32
  | 109 => 0x3EB40F9A#32
  | 110 => 0x3F167326#32
  | 111 => 0x3D64E479#32
  | 112 => 0x3B1C12DE#32
  | 113 => 0x3E9EDEFD#32
  | 114 => 0x3F1D6BD6#32
  | 115 => 0x3D9444C6#32
  | 116 => 0x3A7EF81C#32
  | 117 => 0x3E8A3A31#32
  | 118 => 0x3F231D9C#32
  | 119 => 0x3DBC2C6A#32
  | 120 => 0x398D738A#32
  | 121 => 0x3E6D0390#32
  | 122 => 0x3F275830#32
  | 123 => 0x3DEAA9EB#32
  | 124 => 0x37E6023C#32
  | 125 => 0x3E482CA2#32
  | 126 => 0x3F29EB4B#32
  | 127 => 0x3E101F04#32
  | _ => 0#32

noncomputable abbrev lit3t0_2 (i : Nat) : BitVec 32 := match i % 128 with
  | 0 => 0x3E26B0A4#32
  | 1 => 0x3F2AA6AB#32
  | 2 => 0x3E2EB4AC#32
  | 3 => 0x33ABAFB6#32
  | 4 => 0x3E0913DE#32
  | 5 => 0x3F2970DA#32
  | 6 => 0x3E511972#32
  | 7 => 0x38746E90#32
  | 8 => 0x3DDE655B#32
  | 9 => 0x3F266F5A#32
  | 10 => 0x3E76A8F6#32
  | 11 => 0x39CDE9E2#32
  | 12 => 0x3DB19967#32
  | 13 => 0x3F21D272#32
  | 14 => 0x3E8F510B#32
  | 15 => 0x3AA3B7EA#32
  | 16 => 0x3D8B431F#32
  | 17 => 0x3F1BCA6A#32
  | 18 => 0x3EA421D9#32
  | 19 => 0x3B3C45FD#32
  | 20 => 0x3D55C382#32
  | 21 => 0x3F14878B#32
  | 22 => 0x3EB96654#32
  | 23 => 0x3BB489B6#32
  | 24 => 0x3D1FE91B#32
  | 25 => 0x3F0C3A1D#32
  | 26 => 0x3ECEBDEB#32
  | 27 => 0x3C1A1717#32
  | 28 => 0x3CE7EB0D#32
  | 29 => 0x3F031268#32
  | 30 => 0x3EE3C80E#32
  | 31 => 0x3C728E38#32
  | 32 => 0x3CA1CE85#32
  | 33 => 0x3EF28169#32
  | 34 => 0x3EF8242D#32
  | 35 => 0x3CB3D823#32
  | 36 => 0x3C56F339#32
  | 37 => 0x3EDDEA96#32
  | 38 => 0x3F05B8DB#32
  | 39 => 0x3CFEC1A2#32
  | 40 => 0x3C05D2A1#32
  | 41 => 0x3EC8C0E7#32
  | 42 => 0x3F0EA80D#32
  | 43 => 0x3D2E034F#32
  | 44 => 0x3B986A75#32
  | 45 => 0x3EB364ED#32
  | 46 => 0x3F16AF64#32
  | 47 => 0x3D66D50C#32
  | 48 => 0x3B185400#32
  | 49 => 0x3E9E3739#32
  | 50 => 0x3F1D9E97#32
  | 51 => 0x3D956BC5#32
  | 52 => 0x3A76BEBE#32
  | 53 => 0x3E89985A#32
  | 54 => 0x3F23455F#32
  | 55 => 0x3DBD8625#32
  | 56 => 0x39867EFC#32
  | 57 => 0x3E6BD1C3#32
  | 58 => 0x3F277372#32
  | 59 => 0x3DEC3A67#32
  | 60 => 0x37CE3C17#32
  | 61 => 0x3E4712C1#32
  | 62 => 0x3F29F88A#32
  | 63 => 0x3E1104A6#32
  | 64 => 0x3E25B4A4#32
  | 65 => 0x3F2AA46C#32
  | 66 => 0x3E2FB9A1#32
  | 67 => 0x3427A88A#32
  | 68 => 0x3E0836B4#32
  | 69 => 0x3F295F83#32
  | 70 => 0x3E523AA9#32
  | 71 => 0x3884AF9D#32
  | 72 => 0x3DDCE4AD#32
  | 73 => 0x3F26506D#32
  | 74 => 0x3E77E066#32
  | 75 => 0x39D721D5#32
  | 76 => 0x3DB04E59#32
  | 77 => 0x3F21A770#32
  | 78 => 0x3E8FF4DB#32
  | 79 => 0x3AA8ADE0#32
  | 80 => 0x3D8A29AB#32
  | 81 => 0x3F1B94D7#32
  | 82 => 0x3EA4CABC#32
  | 83 => 0x3B4095B5#32
  | 84 => 0x3D53EBC3#32
  | 85 => 0x3F1448E8#32
  | 86 => 0x3EBA1146#32
  | 87 => 0x3BB7DC50#32
  | 88 => 0x3D1E6478#32
  | 89 => 0x3F0BF3ED#32
  | 90 => 0x3ECF67E8#32
  | 91 => 0x3C1C75F3#32
  | 92 => 0x3CE577E7#32
  | 93 => 0x3F02C62D#32
  | 94 => 0x3EE46E12#32
  | 95 => 0x3C75C2D4#32
  | 96 => 0x3C9FE168#32
  | 97 => 0x3EF1DFE1#32
  | 98 => 0x3EF8C332#32
  | 99 => 0x3CB5ED68#32
  | 100 => 0x3C5404DF#32
  | 101 => 0x3EDD4301#32
  | 102 => 0x3F06035C#32
  | 103 => 0x3D00B0FC#32
  | 104 => 0x3C03AFF7#32
  | 105 => 0x3EC8164A#32
  | 106 => 0x3F0EEC0A#32
  | 107 => 0x3D2FA10D#32
  | 108 => 0x3B957C21#32
  | 109 => 0x3EB2BA4C#32
  | 110 => 0x3F16EB5B#32
  | 111 => 0x3D68C86B#32
  | 112 => 0x3B14A499#32
  | 113 => 0x3E9D8F98#32
  | 114 => 0x3F1DD106#32
  | 115 => 0x3D96944A#32
  | 116 => 0x3A6EB324#32
  | 117 => 0x3E88F6BE#32
  | 118 => 0x3F236CC3#32
  | 119 => 0x3DBEE187#32
  | 120 => 0x397F8B8E#32
  | 121 => 0x3E6AA09F#32
  | 122 => 0x3F278E4A#32
  | 123 => 0x3DEDCCAB#32
  | 124 => 0x37B8287A#32
  | 125 => 0x3E45F9B9#32
  | 126 => 0x3F2A0552#32
  | 127 => 0x3E11EB3C#32
  | _ => 0#32

noncomputable abbrev lit3t0_3 (i : Nat) : BitVec 32 := match i % 128 with
  | 0 => 0x3E24B9A3#32
  | 1 => 0x3F2AA1AF#32
  | 2 => 0x3E30BF8F#32
  | 3 => 0x3490DABD#32
  | 4 => 0x3E075A78#32
  | 5 => 0x3F294DBA#32
  | 6 => 0x3E535CA9#32
  | 7 => 0x388FBCD0#32
  | 8 => 0x3DDB65BC#32
  | 9 => 0x3F263119#32
  | 10 => 0x3E79186F#32
  | 11 => 0x39E09F30#32
  | 12 => 0x3DAF04E8#32
  | 13 => 0x3F217C15#32
  | 14 => 0x3E9098E0#32
  | 15 => 0x3AADBD3B#32
  | 16 => 0x3D8911B4#32
  | 17 => 0x3F1B5EF5#32
  | 18 => 0x3EA573BC#32
  | 19 => 0x3B44F625#32
  | 20 => 0x3D5216BC#32
  | 21 => 0x3F140A03#32
  | 22 => 0x3EBABC3D#32
  | 23 => 0x3BBB394A#32
  | 24 => 0x3D1CE24D#32
  | 25 => 0x3F0BAD86#32
  | 26 => 0x3ED011D2#32
  | 27 => 0x3C1EDB01#32
  | 28 => 0x3CE30930#32
  | 29 => 0x3F0279C8#32
  | 30 => 0x3EE513E9#32
  | 31 => 0x3C78FEA3#32
  | 32 => 0x3C9DF838#32
  | 33 => 0x3EF13E1E#32
  | 34 => 0x3EF961F2#32
  | 35 => 0x3CB806C8#32
  | 36 => 0x3C511D5F#32
  | 37 => 0x3EDC9B49#32
  | 38 => 0x3F064DAF#32
  | 39 => 0x3D020374#32
  | 40 => 0x3C019325#32
  | 41 => 0x3EC76BA1#32
  | 42 => 0x3F0F2FCD#32
  | 43 => 0x3D31415A#32
  | 44 => 0x3B92977C#32
  | 45 => 0x3EB20FB7#32
  | 46 => 0x3F17270C#32
  | 47 => 0x3D6ABE97#32
  | 48 => 0x3B110489#32
  | 49 => 0x3E9CE81C#32
  | 50 => 0x3F1E0323#32
  | 51 => 0x3D97BE57#32
  | 52 => 0x3A66D4CD#32
  | 53 => 0x3E88555F#32
  | 54 => 0x3F2393C9#32
  | 55 => 0x3DC03E8F#32
  | 56 => 0x39728DD1#32
  | 57 => 0x3E697024#32
  | 58 => 0x3F27A8B7#32
  | 59 => 0x3DEF60B6#32
  | 60 => 0x37A3B74D#32
  | 61 => 0x3E44E18A#32
  | 62 => 0x3F2A11A5#32
  | 63 => 0x3E12D2C6#32
  | 64 => 0x3E23BF9F#32
  | 65 => 0x3F2A9E74#32
  | 66 => 0x3E31C675#32
  | 67 => 0x34E60554#32
  | 68 => 0x3E067F2A#32
  | 69 => 0x3F293B7E#32
  | 70 => 0x3E547F71#32
  | 71 => 0x389B62E7#32
  | 72 => 0x3DD9E886#32
  | 73 => 0x3F26115F#32
  | 74 => 0x3E7A5110#32
  | 75 => 0x39EA62F5#32
  | 76 => 0x3DADBD12#32
  | 77 => 0x3F21505F#32
  | 78 => 0x3E913D18#32
  | 79 => 0x3AB2E63C#32
  | 80 => 0x3D87FB37#32
  | 81 => 0x3F1B28C6#32
  | 82 => 0x3EA61CD8#32
  | 83 => 0x3B49676E#32
  | 84 => 0x3D50446B#32
  | 85 => 0x3F13CADC#32
  | 86 => 0x3EBB6737#32
  | 87 => 0x3BBEA0B3#32
  | 88 => 0x3D1B6297#32
  | 89 => 0x3F0B66EA#32
  | 90 => 0x3ED0BBA6#32
  | 91 => 0x3C214648#32
  | 92 => 0x3CE09EE3#32
  | 93 => 0x3F022D39#32
  | 94 => 0x3EE5B993#32
  | 95 => 0x3C7C41AC#32
  | 96 => 0x3C9C12F2#32
  | 97 => 0x3EF09C1F#32
  | 98 => 0x3EFA006E#32
  | 99 => 0x3CBA2446#32
  | 100 => 0x3C4E3CB0#32
  | 101 => 0x3EDBF36D#32
  | 102 => 0x3F0697D3#32
  | 103 => 0x3D03583C#32
  | 104 => 0x3BFEF849#32
  | 105 => 0x3EC6C0ED#32
  | 106 => 0x3F0F7356#32
  | 107 => 0x3D32E436#32
  | 108 => 0x3B8FBC75#32
  | 109 => 0x3EB1652F#32
  | 110 => 0x3F176276#32
  | 111 => 0x3D6CB795#32
  | 112 => 0x3B0D73B0#32
  | 113 => 0x3E9C40C5#32
  | 114 => 0x3F1E34EC#32
  | 115 => 0x3D98E9EC#32
  | 116 => 0x3A5F233A#32
  | 117 => 0x3E87B43E#32
  | 118 => 0x3F23BA70#32
  | 119 => 0x3DC19D41#32
  | 120 => 0x396602C0#32
  | 121 => 0x3E684055#32
  | 122 => 0x3F27C2B9#32
  | 123 => 0x3DF0F68A#32
  | 124 => 0x3790D877#32
  | 125 => 0x3E43CA37#32
  | 126 => 0x3F2A1D80#32
  | 127 => 0x3E13BB44#32
  | _ => 0#32

noncomputable abbrev lit3t0_4 (i : Nat) : BitVec 32 := match i % 128 with
  | 0 => 0x3E22C699#32
  | 1 => 0x3F2A9ABB#32
  | 2 => 0x3E32CE52#32
  | 3 => 0x352BAD04#32
  | 4 => 0x3E05A4CA#32
  | 5 => 0x3F2928D1#32
  | 6 => 0x3E55A2FF#32
  | 7 => 0x38A7A5E8#32
  | 8 => 0x3DD86D0B#32
  | 9 => 0x3F25F13F#32
  | 10 => 0x3E7B8A46#32
  | 11 => 0x39F46E23#32
  | 12 => 0x3DAC76D6#32
  | 13 => 0x3F21244F#32
  | 14 => 0x3E91E183#32
  | 15 => 0x3AB82925#32
  | 16 => 0x3D86E635#32
  | 17 => 0x3F1AF249#32
  | 18 => 0x3EA6C60E#32
  | 19 => 0x3B4DE9B1#32
  | 20 => 0x3D4E74CE#32
  | 21 => 0x3F138B74#32
  | 22 => 0x3EBC1234#32
  | 23 => 0x3BC2129C#32
  | 24 => 0x3D19E555#32
  | 25 => 0x3F0B2019#32
  | 26 => 0x3ED16565#32
  | 27 => 0x3C23B7D0#32
  | 28 => 0x3CDE38FD#32
  | 29 => 0x3F01E080#32
  | 30 => 0x3EE65F0F#32
  | 31 => 0x3C7F8BF8#32
  | 32 => 0x3C9A3192#32
  | 33 => 0x3EEFF9E5#32
  | 34 => 0x3EFA9EA3#32
  | 35 => 0x3CBC45E6#32
  | 36 => 0x3C4B62CC#32
  | 37 => 0x3EDB4B6F#32
  | 38 => 0x3F06E1C8#32
  | 39 => 0x3D04AF55#32
  | 40 => 0x3BFAD5D9#32
  | 41 => 0x3EC6162F#32
  | 42 => 0x3F0FB6A3#32
  | 43 => 0x3D3489A5#32
  | 44 => 0x3B8CEAFC#32
  | 45 => 0x3EB0BAB6#32
  | 46 => 0x3F179D99#32
  | 47 => 0x3D6EB364#32
  | 48 => 0x3B09F1ED#32
  | 49 => 0x3E9B9994#32
  | 50 => 0x3F1E6663#32
  | 51 => 0x3D9A170A#32
  | 52 => 0x3A579DE8#32
  | 53 => 0x3E87135A#32
  | 54 => 0x3F23E0B8#32
  | 55 => 0x3DC2FD9C#32
  | 56 => 0x3959E856#32
  | 57 => 0x3E671131#32
  | 58 => 0x3F27DC50#32
  | 59 => 0x3DF28E27#32
  | 60 => 0x377EF7C3#32
  | 61 => 0x3E42B3C1#32
  | 62 => 0x3F2A28E3#32
  | 63 => 0x3E14A4B7#32
  | 64 => 0x3E21CE8F#32
  | 65 => 0x3F2A9684#32
  | 66 => 0x3E33D723#32
  | 67 => 0x35746F6B#32
  | 68 => 0x3E04CB56#32
  | 69 => 0x3F2915B2#32
  | 70 => 0x3E56C752#32
  | 71 => 0x38B489DA#32
  | 72 => 0x3DD6F349#32
  | 73 => 0x3F25D0BA#32
  | 74 => 0x3E7CC411#32
  | 75 => 0x39FEC1BE#32
  | 76 => 0x3DAB3234#32
  | 77 => 0x3F20F7E7#32
  | 78 => 0x3E92861F#32
  | 79 => 0x3ABD8634#32
  | 80 => 0x3D85D2AC#32
  | 81 => 0x3F1ABB7F#32
  | 82 => 0x3EA76F5E#32
  | 83 => 0x3B527D0D#32
  | 84 => 0x3D4CA7E2#32
  | 85 => 0x3F134BCA#32
  | 86 => 0x3EBCBD32#32
  | 87 => 0x3BC58F15#32
  | 88 => 0x3D186A84#32
  | 89 => 0x3F0AD913#32
  | 90 => 0x3ED20F0D#32
  | 91 => 0x3C262FA2#32
  | 92 => 0x3CDBD779#32
  | 93 => 0x3F01939F#32
  | 94 => 0x3EE7045D#32
  | 95 => 0x3C816EC8#32
  | 96 => 0x3C985414#32
  | 97 => 0x3EEF5772#32
  | 98 => 0x3EFB3C92#32
  | 99 => 0x3CBE6BAD#32
  | 100 => 0x3C488FAA#32
  | 101 => 0x3EDAA34F#32
  | 102 => 0x3F072B8E#32
  | 103 => 0x3D0608C1#32
  | 104 => 0x3BF6BEEA#32
  | 105 => 0x3EC56B67#32
  | 106 => 0x3F0FF9B4#32
  | 107 => 0x3D3631A7#32
  | 108 => 0x3B8A2301#32
  | 109 => 0x3EB0104A#32
  | 110 => 0x3F17D874#32
  | 111 => 0x3D70B207#32
  | 112 => 0x3B067F21#32
  | 113 => 0x3E9AF28A#32
  | 114 => 0x3F1E9786#32
  | 115 => 0x3D9B45B3#32
  | 116 => 0x3A504457#32
  | 117 => 0x3E8672B5#32
  | 118 => 0x3F2406A0#32
  | 119 => 0x3DC45FA1#32
  | 120 => 0x394E3C92#32
  | 121 => 0x3E65E2BC#32
  | 122 => 0x3F27F57B#32
  | 123 => 0x3DF4278F#32
  | 124 => 0x375F22E8#32
  | 125 => 0x3E419E29#32
  | 126 => 0x3F2A33CF#32
  | 127 => 0x3E158F1F#32
  | _ => 0#32

noncomputable abbrev lit3t0_5 (i : Nat) : BitVec 32 := match i % 128 with
  | 0 => 0x3E20D783#32
  | 1 => 0x3F2A91D0#32
  | 2 => 0x3E34E0E8#32
  | 3 => 0x35A7A66F#32
  | 4 => 0x3E03F2CF#32
  | 5 => 0x3F290222#32
  | 6 => 0x3E57EC67#32
  | 7 => 0x38C212C1#32
  | 8 => 0x3DD57B40#32
  | 9 => 0x3F25AFD1#32
  | 10 => 0x3E7DFE6E#32
  | 11 => 0x3A04AF63#32
  | 12 => 0x3DA9EF2A#32
  | 13 => 0x3F20CB25#32
  | 14 => 0x3E932AEE#32
  | 15 => 0x3AC2FDAA#32
  | 16 => 0x3D84C09C#32
  | 17 => 0x3F1A8468#32
  | 18 => 0x3EA818C7#32
  | 19 => 0x3B5721A3#32
  | 20 => 0x3D4ADDA7#32
  | 21 => 0x3F130BE0#32
  | 22 => 0x3EBD6832#32
  | 23 => 0x3BC9162D#32
  | 24 => 0x3D16F224#32
  | 25 => 0x3F0A91D7#32
  | 26 => 0x3ED2B89F#32
  | 27 => 0x3C28ADC5#32
  | 28 => 0x3CD97A54#32
  | 29 => 0x3F014695#32
  | 30 => 0x3EE7A97C#32
  | 31 => 0x3C831B3D#32
  | 32 => 0x3C967A74#32
  | 33 => 0x3EEEB4C5#32
  | 34 => 0x3EFBDA3A#32
  | 35 => 0x3CC0959D#32
  | 36 => 0x3C45C343#32
  | 37 => 0x3ED9FB0E#32
  | 38 => 0x3F077524#32
  | 39 => 0x3D076484#32
  | 40 => 0x3BF2B36C#32
  | 41 => 0x3EC4C096#32
  | 42 => 0x3F103C8A#32
  | 43 => 0x3D37DC3F#32
  | 44 => 0x3B876475#32
  | 45 => 0x3EAF65EE#32
  | 46 => 0x3F181308#32
  | 47 => 0x3D72B381#32
  | 48 => 0x3B031B2B#32
  | 49 => 0x3E9A4BA7#32
  | 50 => 0x3F1EC855#32
  | 51 => 0x3D9C75E6#32
  | 52 => 0x3A491607#32
  | 53 => 0x3E85D250#32
  | 54 => 0x3F242C28#32
  | 55 => 0x3DC5C352#32
  | 56 => 0x3942FD6F#32
  | 57 => 0x3E64B4F6#32
  | 58 => 0x3F280E3A#32
  | 59 => 0x3DF5C2C3#32
  | 60 => 0x3742122D#32
  | 61 => 0x3E408971#32
  | 62 => 0x3F2A3E42#32
  | 63 => 0x3E167A7D#32
  | 64 => 0x3E1FE172#32
  | 65 => 0x3F2A8CA0#32
  | 66 => 0x3E35EB9F#32
  | 67 => 0x35DF242E#32
  | 68 => 0x3E031B34#32
  | 69 => 0x3F28EE21#32
  | 70 => 0x3E59123F#32
  | 71 => 0x38D044A5#32
  | 72 => 0x3DD404EE#32
  | 73 => 0x3F258E82#32
  | 74 => 0x3E7F395D#32
  | 75 => 0x3A0A231F#32
  | 76 => 0x3DA8ADB7#32
  | 77 => 0x3F209E0B#32
  | 78 => 0x3E93CFEC#32
  | 79 => 0x3AC88FC9#32
  | 80 => 0x3D83B002#32
  | 81 => 0x3F1A4D04#32
  | 82 => 0x3EA8C248#32
  | 83 => 0x3B5BD793#32
  | 84 => 0x3D49161A#32
  | 85 => 0x3F12CBB6#32
  | 86 => 0x3EBE1332#32
  | 87 => 0x3BCCA7F6#32
  | 88 => 0x3D157C30#32
  | 89 => 0x3F0A4A68#32
  | 90 => 0x3ED36218#32
  | 91 => 0x3C2B3241#32
  | 92 => 0x3CD7218A#32
  | 93 => 0x3F00F963#32
  | 94 => 0x3EE84E6B#32
  | 95 => 0x3C84CB5F#32
  | 96 => 0x3C94A4AD#32
  | 97 => 0x3EEE11E0#32
  | 98 => 0x3EFC7799#32
  | 99 => 0x3CC2C3BC#32
  | 100 => 0x3C42FD8D#32
  | 101 => 0x3ED952AD#32
  | 102 => 0x3F07BE89#32
  | 103 => 0x3D08C29D#32
  | 104 => 0x3BEEB34F#32
  | 105 => 0x3EC415BD#32
  | 106 => 0x3F107F24#32
  | 107 => 0x3D39896E#32
  | 108 => 0x3B84AF46#32
  | 109 => 0x3EAEBBA2#32
  | 110 => 0x3F184D53#32
  | 111 => 0x3D74B7D3#32
  | 112 => 0x3AFF8BD5#32
  | 113 => 0x3E99A4EC#32
  | 114 => 0x3F1EF8CF#32
  | 115 => 0x3D9DA7A7#32
  | 116 => 0x3A421277#32
  | 117 => 0x3E85322B#32
  | 118 => 0x3F245150#32
  | 119 => 0x3DC728AF#32
  | 120 => 0x393828EC#32
  | 121 => 0x3E6387E2#32
  | 122 => 0x3F28268D#32
  | 123 => 0x3DF75FC3#32
  | 124 => 0x3727A561#32
  | 125 => 0x3E3F759A#32
  | 126 => 0x3F2A483D#32
  | 127 => 0x3E1766D2#32
  | _ => 0#32

noncomputable abbrev lit3t0_6 (i : Nat) : BitVec 32 := match i % 128 with
  | 0 => 0x3E1EEC5C#32
  | 1 => 0x3F2A86F3#32
  | 2 => 0x3E36F746#32
  | 3 => 0x3610D939#32
  | 4 => 0x3E024484#32
  | 5 => 0x3F28D9B0#32
  | 6 => 0x3E5A38D6#32
  | 7 => 0x38DF238B#32
  | 8 => 0x3DD29053#32
  | 9 => 0x3F256CCF#32
  | 10 => 0x3E803A6E#32
  | 11 => 0x3A0FBC93#32
  | 12 => 0x3DA76DDB#32
  | 13 => 0x3F207099#32
  | 14 => 0x3E94751B#32
  | 15 => 0x3ACE3CCF#32
  | 16 => 0x3D82A0DF#32
  | 17 => 0x3F1A1555#32
  | 18 => 0x3EA96BE1#32
  | 19 => 0x3B609EFD#32
  | 20 => 0x3D475139#32
  | 21 => 0x3F128B4B#32
  | 22 => 0x3EBEBE31#32
  | 23 => 0x3BD0447E#32
  | 24 => 0x3D1408A9#32
  | 25 => 0x3F0A02C5#32
  | 26 => 0x3ED40B79#32
  | 27 => 0x3C2DBD20#32
  | 28 => 0x3CD4CD16#32
  | 29 => 0x3F00AC09#32
  | 30 => 0x3EE8F328#32
  | 31 => 0x3C867F33#32
  | 32 => 0x3C92D2BC#32
  | 33 => 0x3EED6EC4#32
  | 34 => 0x3EFD14B0#32
  | 35 => 0x3CC4F60D#32
  | 36 => 0x3C403E81#32
  | 37 => 0x3ED8AA2D#32
  | 38 => 0x3F0807BF#32
  | 39 => 0x3D0A2310#32
  | 40 => 0x3BEABE82#32
  | 41 => 0x3EC36ADE#32
  | 42 => 0x3F10C181#32
  | 43 => 0x3D3B3938#32
  | 44 => 0x3B820366#32
  | 45 => 0x3EAE1167#32
  | 46 => 0x3F188756#32
  | 47 => 0x3D76BEFF#32
  | 48 => 0x3AF8FE80#32
  | 49 => 0x3E98FE5B#32
  | 50 => 0x3F1F28F5#32
  | 51 => 0x3D9EDAF4#32
  | 52 => 0x3A3B3926#32
  | 53 => 0x3E849248#32
  | 54 => 0x3F247617#32
  | 55 => 0x3DC88FBA#32
  | 56 => 0x392DBD04#32
  | 57 => 0x3E625B80#32
  | 58 => 0x3F283E72#32
  | 59 => 0x3DF8FE91#32
  | 60 => 0x370FBC56#32
  | 61 => 0x3E3E62A5#32
  | 62 => 0x3F2A51BF#32
  | 63 => 0x3E18541E#32
  | 64 => 0x3E1DF842#32
  | 65 => 0x3F2A80CA#32
  | 66 => 0x3E3803DC#32
  | 67 => 0x3638295E#32
  | 68 => 0x3E016EBF#32
  | 69 => 0x3F28C4D0#32
  | 70 => 0x3E5B602C#32
  | 71 => 0x38EEB379#32
  | 72 => 0x3DD11D6E#32
  | 73 => 0x3F254AB9#32
  | 74 => 0x3E80D874#32
  | 75 => 0x3A157C40#32
  | 76 => 0x3DA62F95#32
  | 77 => 0x3F2042CF#32
  | 78 => 0x3E951A78#32
  | 79 => 0x3AD404FE#32
  | 80 => 0x3D819330#32
  | 81 => 0x3F19DD59#32
  | 82 => 0x3EAA1591#32
  | 83 => 0x3B657801#32
  | 84 => 0x3D458F02#32
  | 85 => 0x3F124AA1#32
  | 86 => 0x3EBF692F#32
  | 87 => 0x3BD3EBD7#32
  | 88 => 0x3D12978B#32
  | 89 => 0x3F09BAEE#32
  | 90 => 0x3ED4B4C0#32
  | 91 => 0x3C304E67#32
  | 92 => 0x3CD27CF4#32
  | 93 => 0x3F005E88#32
  | 94 => 0x3EE997B5#32
  | 95 => 0x3C8836BD#32
  | 96 => 0x3C91049D#32
  | 97 => 0x3EECCB71#32
  | 98 => 0x3EFDB17C#32
  | 99 => 0x3CC72C95#32
  | 100 => 0x3C3D8617#32
  | 101 => 0x3ED8018D#32
  | 102 => 0x3F0850C3#32
  | 103 => 0x3D0B85DF#32
  | 104 => 0x3BE6D4F7#32
  | 105 => 0x3EC2BFF7#32
  | 106 => 0x3F1103A1#32
  | 107 => 0x3D3CEB9D#32
  | 108 => 0x3B7EC186#32
  | 109 => 0x3EAD673E#32
  | 110 => 0x3F18C10F#32
  | 111 => 0x3D78C908#32
  | 112 => 0x3AF28E16#32
  | 113 => 0x3E9857F3#32
  | 114 => 0x3F1F58C6#32
  | 115 => 0x3DA00FD0#32
  | 116 => 0x3A348993#32
  | 117 => 0x3E83F2A6#32
  | 118 => 0x3F249A7C#32
  | 119 => 0x3DC9F873#32
  | 120 => 0x3923B7B6#32
  | 121 => 0x3E612FD1#32
  | 122 => 0x3F2855EA#32
  | 123 => 0x3DFA9F2E#32
  | 124 => 0x36F46DB6#32
  | 125 => 0x3E3D5096#32
  | 126 => 0x3F2A5AC8#32
  | 127 => 0x3E194261#32
  | _ => 0#32

noncomputable abbrev lit3t0_7 (i : Nat) : BitVec 32 := match i % 128 with
  | 0 => 0x3E1D0522#32
  | 1 => 0x3F2A7A26#32
  | 2 => 0x3E391160#32
  | 3 => 0x36660344#32
  | 4 => 0x3E0099E4#32
  | 5 => 0x3F28AF7F#32
  | 6 => 0x3E5C8840#32
  | 7 => 0x38FEF875#32
  | 8 => 0x3DCFAC3D#32
  | 9 => 0x3F25283F#32
  | 10 => 0x3E8176C1#32
  | 11 => 0x3A1B62A7#32
  | 12 => 0x3DA4F2E2#32
  | 13 => 0x3F2014AD#32
  | 14 => 0x3E95C004#32
  | 15 => 0x3AD9E896#32
  | 16 => 0x3D8086F6#32
  | 17 => 0x3F19A513#32
  | 18 => 0x3EAABF57#32
  | 19 => 0x3B6A62BF#32
  | 20 => 0x3D43CF73#32
  | 21 => 0x3F1209B7#32
  | 22 => 0x3EC0142B#32
  | 23 => 0x3BD79E10#32
  | 24 => 0x3D1128D5#32
  | 25 => 0x3F0972E4#32
  | 26 => 0x3ED55DED#32
  | 27 => 0x3C32E621#32
  | 28 => 0x3CD03121#32
  | 29 => 0x3F0010E0#32
  | 30 => 0x3EEA3C0F#32
  | 31 => 0x3C89F200#32
  | 32 => 0x3C8F3A4B#32
  | 33 => 0x3EEC27E7#32
  | 34 => 0x3EFE4DFF#32
  | 35 => 0x3CC96756#32
  | 36 => 0x3C3AD447#32
  | 37 => 0x3ED758D0#32
  | 38 => 0x3F089996#32
  | 39 => 0x3D0CEB0B#32
  | 40 => 0x3BE2F69C#32
  | 41 => 0x3EC2150B#32
  | 42 => 0x3F114583#32
  | 43 => 0x3D3EA0A1#32
  | 44 => 0x3B798E9C#32
  | 45 => 0x3EACBD27#32
  | 46 => 0x3F18FA7F#32
  | 47 => 0x3D7AD5EF#32
  | 48 => 0x3AEC3A57#32
  | 49 => 0x3E97B1B6#32
  | 50 => 0x3F1F8841#32
  | 51 => 0x3DA1463B#32
  | 52 => 0x3A2E033D#32
  | 53 => 0x3E835347#32
  | 54 => 0x3F24BE80#32
  | 55 => 0x3DCB62DC#32
  | 56 => 0x391A16FD#32
  | 57 => 0x3E6004D9#32
  | 58 => 0x3F286CF5#32
  | 59 => 0x3DFC419B#32
  | 60 => 0x36CDE980#32
  | 61 => 0x3E3C3F6C#32
  | 62 => 0x3F2A6357#32
  | 63 => 0x3E1A319C#32
  | 64 => 0x3E1C12FC#32
  | 65 => 0x3F2A7306#32
  | 66 => 0x3E3A1FCF#32
  | 67 => 0x368D73D6#32
  | 68 => 0x3DFF8BE7#32
  | 69 => 0x3F2899C0#32
  | 70 => 0x3E5DB10E#32
  | 71 => 0x3907FB43#32
  | 72 => 0x3DCE3CC0#32
  | 73 => 0x3F250562#32
  | 74 => 0x3E821554#32
  | 75 => 0x3A217048#32
  | 76 => 0x3DA3B7C3#32
  | 77 => 0x3F1FE635#32
  | 78 => 0x3E9665BD#32
  | 79 => 0x3ADFE7D7#32
  | 80 => 0x3D7EF85F#32
  | 81 => 0x3F196C81#32
  | 82 => 0x3EAB6933#32
  | 83 => 0x3B6F5F59#32
  | 84 => 0x3D42128A#32
  | 85 => 0x3F11C88F#32
  | 86 => 0x3EC0BF24#32
  | 87 => 0x3BDB5B39#32
  | 88 => 0x3D0FBC84#32
  | 89 => 0x3F092AA7#32
  | 90 => 0x3ED60700#32
  | 91 => 0x3C358453#32
  | 92 => 0x3CCDE999#32
  | 93 => 0x3EFF8621#32
  | 94 => 0x3EEAE036#32
  | 95 => 0x3C8BB101#32
  | 96 => 0x3C8D73C3#32
  | 97 => 0x3EEB8429#32
  | 98 => 0x3EFEEA36#32
  | 99 => 0x3CCBA656#32
  | 100 => 0x3C382908#32
  | 101 => 0x3ED6AFF6#32
  | 102 => 0x3F08E237#32
  | 103 => 0x3D0E5297#32
  | 104 => 0x3BDF2362#32
  | 105 => 0x3EC16A19#32
  | 106 => 0x3F118728#32
  | 107 => 0x3D405844#32
  | 108 => 0x3B746DED#32
  | 109 => 0x3EAC1323#32
  | 110 => 0x3F1933A5#32
  | 111 => 0x3D7CE5B6#32
  | 112 => 0x3AE60302#32
  | 113 => 0x3E970BA3#32
  | 114 => 0x3F1FB766#32
  | 115 => 0x3DA27E36#32
  | 116 => 0x3A27A5A5#32
  | 117 => 0x3E82B42C#32
  | 118 => 0x3F24E222#32
  | 119 => 0x3DCCCEF5#32
  | 120 => 0x3910D8D8#32
  | 121 => 0x3E5EDA97#32
  | 122 => 0x3F288392#32
  | 123 => 0x3DFDE5D8#32
  | 124 => 0x36ABABAB#32
  | 125 => 0x3E3B2F29#32
  | 126 => 0x3F2A6B6C#32
  | 127 => 0x3E1B21D0#32
  | _ => 0#32

noncomputable abbrev lit3t0_8 (i : Nat) : BitVec 32 := match i % 128 with
  | 0 => 0x3E1B21D0#32
  | 1 => 0x3F2A6B6C#32
  | 2 => 0x3E3B2F29#32
  | 3 => 0x36ABABAB#32
  | 4 => 0x3DFDE5D8#32
  | 5 => 0x3F288392#32
  | 6 => 0x3E5EDA97#32
  | 7 => 0x3910D8D8#32
  | 8 => 0x3DCCCEF5#32
  | 9 => 0x3F24E222#32
  | 10 => 0x3E82B42C#32
  | 11 => 0x3A27A5A5#32
  | 12 => 0x3DA27E36#32
  | 13 => 0x3F1FB766#32
  | 14 => 0x3E970BA3#32
  | 15 => 0x3AE60302#32
  | 16 => 0x3D7CE5B6#32
  | 17 => 0x3F1933A5#32
  | 18 => 0x3EAC1323#32
  | 19 => 0x3B746DED#32
  | 20 => 0x3D405844#32
  | 21 => 0x3F118728#32
  | 22 => 0x3EC16A19#32
  | 23 => 0x3BDF2362#32
  | 24 => 0x3D0E5297#32
  | 25 => 0x3F08E237#32
  | 26 => 0x3ED6AFF6#32
  | 27 => 0x3C382908#32
  | 28 => 0x3CCBA656#32
  | 29 => 0x3EFEEA36#32
  | 30 => 0x3EEB8429#32
  | 31 => 0x3C8D73C3#32
  | 32 => 0x3C8BB101#32
  | 33 => 0x3EEAE036#32
  | 34 => 0x3EFF8621#32
  | 35 => 0x3CCDE999#32
  | 36 => 0x3C358453#32
  | 37 => 0x3ED60700#32
  | 38 => 0x3F092AA7#32
  | 39 => 0x3D0FBC84#32
  | 40 => 0x3BDB5B39#32
  | 41 => 0x3EC0BF24#32
  | 42 => 0x3F11C88F#32
  | 43 => 0x3D42128A#32
  | 44 => 0x3B6F5F59#32
  | 45 => 0x3EAB6933#32
  | 46 => 0x3F196C81#32
  | 47 => 0x3D7EF85F#32
  | 48 => 0x3ADFE7D7#32
  | 49 => 0x3E9665BD#32
  | 50 => 0x3F1FE635#32
  | 51 => 0x3DA3B7C3#32
  | 52 => 0x3A217048#32
  | 53 => 0x3E821554#32
  | 54 => 0x3F250562#32
  | 55 => 0x3DCE3CC0#32
  | 56 => 0x3907FB43#32
  | 57 => 0x3E5DB10E#32
  | 58 => 0x3F2899C0#32
  | 59 => 0x3DFF8BE7#32
  | 60 => 0x368D73D6#32
  | 61 => 0x3E3A1FCF#32
  | 62 => 0x3F2A7306#32
  | 63 => 0x3E1C12FC#32
  | 64 => 0x3E1A319C#32
  | 65 => 0x3F2A6357#32
  | 66 => 0x3E3C3F6C#32
  | 67 => 0x36CDE980#32
  | 68 => 0x3DFC419B#32
  | 69 => 0x3F286CF5#32
  | 70 => 0x3E6004D9#32
  | 71 => 0x391A16FD#32
  | 72 => 0x3DCB62DC#32
  | 73 => 0x3F24BE80#32
  | 74 => 0x3E835347#32
  | 75 => 0x3A2E033D#32
  | 76 => 0x3DA1463B#32
  | 77 => 0x3F1F8841#32
  | 78 => 0x3E97B1B6#32
  | 79 => 0x3AEC3A57#32
  | 80 => 0x3D7AD5EF#32
  | 81 => 0x3F18FA7F#32
  | 82 => 0x3EACBD27#32
  | 83 => 0x3B798E9C#32
  | 84 => 0x3D3EA0A1#32
  | 85 => 0x3F114583#32
  | 86 => 0x3EC2150B#32
  | 87 => 0x3BE2F69C#32
  | 88 => 0x3D0CEB0B#32
  | 89 => 0x3F089996#32
  | 90 => 0x3ED758D0#32
  | 91 => 0x3C3AD447#32
  | 92 => 0x3CC96756#32
  | 93 => 0x3EFE4DFF#32
  | 94 => 0x3EEC27E7#32
  | 95 => 0x3C8F3A4B#32
  | 96 => 0x3C89F200#32
  | 97 => 0x3EEA3C0F#32
  | 98 => 0x3F0010E0#32
  | 99 => 0x3CD03121#32
  | 100 => 0x3C32E621#32
  | 101 => 0x3ED55DED#32
  | 102 => 0x3F0972E4#32
  | 103 => 0x3D1128D5#32
  | 104 => 0x3BD79E10#32
  | 105 => 0x3EC0142B#32
  | 106 => 0x3F1209B7#32
  | 107 => 0x3D43CF73#32
  | 108 => 0x3B6A62BF#32
  | 109 => 0x3EAABF57#32
  | 110 => 0x3F19A513#32
  | 111 => 0x3D8086F6#32
  | 112 => 0x3AD9E896#32
  | 113 => 0x3E95C004#32
  | 114 => 0x3F2014AD#32
  | 115 => 0x3DA4F2E2#32
  | 116 => 0x3A1B62A7#32
  | 117 => 0x3E8176C1#32
  | 118 => 0x3F25283F#32
  | 119 => 0x3DCFAC3D#32
  | 120 => 0x38FEF875#32
  | 121 => 0x3E5C8840#32
  | 122 => 0x3F28AF7F#32
  | 123 => 0x3E0099E4#32
  | 124 => 0x36660344#32
  | 125 => 0x3E391160#32
  | 126 => 0x3F2A7A26#32
  | 127 => 0x3E1D0522#32
  | _ => 0#32

noncomputable abbrev lit3t0_9 (i : Nat) : BitVec 32 := match i % 128 with
  | 0 => 0x3E194261#32
  | 1 => 0x3F2A5AC8#32
  | 2 => 0x3E3D5096#32
  | 3 => 0x36F46DB6#32
  | 4 => 0x3DFA9F2E#32
  | 5 => 0x3F2855EA#32
  | 6 => 0x3E612FD1#32
  | 7 => 0x3923B7B6#32
  | 8 => 0x3DC9F873#32
  | 9 => 0x3F249A7C#32
  | 10 => 0x3E83F2A6#32
  | 11 => 0x3A348993#32
  | 12 => 0x3DA00FD0#32
  | 13 => 0x3F1F58C6#32
  | 14 => 0x3E9857F3#32
  | 15 => 0x3AF28E16#32
  | 16 => 0x3D78C908#32
  | 17 => 0x3F18C10F#32
  | 18 => 0x3EAD673E#32
  | 19 => 0x3B7EC186#32
  | 20 => 0x3D3CEB9D#32
  | 21 => 0x3F1103A1#32
  | 22 => 0x3EC2BFF7#32
  | 23 => 0x3BE6D4F7#32
  | 24 => 0x3D0B85DF#32
  | 25 => 0x3F0850C3#32
  | 26 => 0x3ED8018D#32
  | 27 => 0x3C3D8617#32
  | 28 => 0x3CC72C95#32
  | 29 => 0x3EFDB17C#32
  | 30 => 0x3EECCB71#32
  | 31 => 0x3C91049D#32
  | 32 => 0x3C8836BD#32
  | 33 => 0x3EE997B5#32
  | 34 => 0x3F005E88#32
  | 35 => 0x3CD27CF4#32
  | 36 => 0x3C304E67#32
  | 37 => 0x3ED4B4C0#32
  | 38 => 0x3F09BAEE#32
  | 39 => 0x3D12978B#32
  | 40 => 0x3BD3EBD7#32
  | 41 => 0x3EBF692F#32
  | 42 => 0x3F124AA1#32
  | 43 => 0x3D458F02#32
  | 44 => 0x3B657801#32
  | 45 => 0x3EAA1591#32
  | 46 => 0x3F19DD59#32
  | 47 => 0x3D819330#32
  | 48 => 0x3AD404FE#32
  | 49 => 0x3E951A78#32
  | 50 => 0x3F2042CF#32
  | 51 => 0x3DA62F95#32
  | 52 => 0x3A157C40#32
  | 53 => 0x3E80D874#32
  | 54 => 0x3F254AB9#32
  | 55 => 0x3DD11D6E#32
  | 56 => 0x38EEB379#32
  | 57 => 0x3E5B602C#32
  | 58 => 0x3F28C4D0#32
  | 59 => 0x3E016EBF#32
  | 60 => 0x3638295E#32
  | 61 => 0x3E3803DC#32
  | 62 => 0x3F2A80CA#32
  | 63 => 0x3E1DF842#32
  | 64 => 0x3E18541E#32
  | 65 => 0x3F2A51BF#32
  | 66 => 0x3E3E62A5#32
  | 67 => 0x370FBC56#32
  | 68 => 0x3DF8FE91#32
  | 69 => 0x3F283E72#32
  | 70 => 0x3E625B80#32
  | 71 => 0x392DBD04#32
  | 72 => 0x3DC88FBA#32
  | 73 => 0x3F247617#32
  | 74 => 0x3E849248#32
  | 75 => 0x3A3B3926#32
  | 76 => 0x3D9EDAF4#32
  | 77 => 0x3F1F28F5#32
  | 78 => 0x3E98FE5B#32
  | 79 => 0x3AF8FE80#32
  | 80 => 0x3D76BEFF#32
  | 81 => 0x3F188756#32
  | 82 => 0x3EAE1167#32
  | 83 => 0x3B820366#32
  | 84 => 0x3D3B3938#32
  | 85 => 0x3F10C181#32
  | 86 => 0x3EC36ADE#32
  | 87 => 0x3BEABE82#32
  | 88 => 0x3D0A2310#32
  | 89 => 0x3F0807BF#32
  | 90 => 0x3ED8AA2D#32
  | 91 => 0x3C403E81#32
  | 92 => 0x3CC4F60D#32
  | 93 => 0x3EFD14B0#32
  | 94 => 0x3EED6EC4#32
  | 95 => 0x3C92D2BC#32
  | 96 => 0x3C867F33#32
  | 97 => 0x3EE8F328#32
  | 98 => 0x3F00AC09#32
  | 99 => 0x3CD4CD16#32
  | 100 => 0x3C2DBD20#32
  | 101 => 0x3ED40B79#32
  | 102 => 0x3F0A02C5#32
  | 103 => 0x3D1408A9#32
  | 104 => 0x3BD0447E#32
  | 105 => 0x3EBEBE31#32
  | 106 => 0x3F128B4B#32
  | 107 => 0x3D475139#32
  | 108 => 0x3B609EFD#32
  | 109 => 0x3EA96BE1#32
  | 110 => 0x3F1A1555#32
  | 111 => 0x3D82A0DF#32
  | 112 => 0x3ACE3CCF#32
  | 113 => 0x3E94751B#32
  | 114 => 0x3F207099#32
  | 115 => 0x3DA76DDB#32
  | 116 => 0x3A0FBC93#32
  | 117 => 0x3E803A6E#32
  | 118 => 0x3F256CCF#32
  | 119 => 0x3DD29053#32
  | 120 => 0x38DF238B#32
  | 121 => 0x3E5A38D6#32
  | 122 => 0x3F28D9B0#32
  | 123 => 0x3E024484#32
  | 124 => 0x3610D939#32
  | 125 => 0x3E36F746#32
  | 126 => 0x3F2A86F3#32
  | 127 => 0x3E1EEC5C#32
  | _ => 0#32

noncomputable abbrev lit3t0_10 (i : Nat) : BitVec 32 := match i % 128 with
  | 0 => 0x3E1766D2#32
  | 1 => 0x3F2A483D#32
  | 2 => 0x3E3F759A#32
  | 3 => 0x3727A561#32
  | 4 => 0x3DF75FC3#32
  | 5 => 0x3F28268D#32
  | 6 => 0x3E6387E2#32
  | 7 => 0x393828EC#32
  | 8 => 0x3DC728AF#32
  | 9 => 0x3F245150#32
  | 10 => 0x3E85322B#32
  | 11 => 0x3A421277#32
  | 12 => 0x3D9DA7A7#32
  | 13 => 0x3F1EF8CF#32
  | 14 => 0x3E99A4EC#32
  | 15 => 0x3AFF8BD5#32
  | 16 => 0x3D74B7D3#32
  | 17 => 0x3F184D53#32
  | 18 => 0x3EAEBBA2#32
  | 19 => 0x3B84AF46#32
  | 20 => 0x3D39896E#32
  | 21 => 0x3F107F24#32
  | 22 => 0x3EC415BD#32
  | 23 => 0x3BEEB34F#32
  | 24 => 0x3D08C29D#32
  | 25 => 0x3F07BE89#32
  | 26 => 0x3ED952AD#32
  | 27 => 0x3C42FD8D#32
  | 28 => 0x3CC2C3BC#32
  | 29 => 0x3EFC7799#32
  | 30 => 0x3EEE11E0#32
  | 31 => 0x3C94A4AD#32
  | 32 => 0x3C84CB5F#32
  | 33 => 0x3EE84E6B#32
  | 34 => 0x3F00F963#32
  | 35 => 0x3CD7218A#32
  | 36 => 0x3C2B3241#32
  | 37 => 0x3ED36218#32
  | 38 => 0x3F0A4A68#32
  | 39 => 0x3D157C30#32
  | 40 => 0x3BCCA7F6#32
  | 41 => 0x3EBE1332#32
  | 42 => 0x3F12CBB6#32
  | 43 => 0x3D49161A#32
  | 44 => 0x3B5BD793#32
  | 45 => 0x3EA8C248#32
  | 46 => 0x3F1A4D04#32
  | 47 => 0x3D83B002#32
  | 48 => 0x3AC88FC9#32
  | 49 => 0x3E93CFEC#32
  | 50 => 0x3F209E0B#32
  | 51 => 0x3DA8ADB7#32
  | 52 => 0x3A0A231F#32
  | 53 => 0x3E7F395D#32
  | 54 => 0x3F258E82#32
  | 55 => 0x3DD404EE#32
  | 56 => 0x38D044A5#32
  | 57 => 0x3E59123F#32
  | 58 => 0x3F28EE21#32
  | 59 => 0x3E031B34#32
  | 60 => 0x35DF242E#32
  | 61 => 0x3E35EB9F#32
  | 62 => 0x3F2A8CA0#32
  | 63 => 0x3E1FE172#32
  | 64 => 0x3E167A7D#32
  | 65 => 0x3F2A3E42#32
  | 66 => 0x3E408971#32
  | 67 => 0x3742122D#32
  | 68 => 0x3DF5C2C3#32
  | 69 => 0x3F280E3A#32
  | 70 => 0x3E64B4F6#32
  | 71 => 0x3942FD6F#32
  | 72 => 0x3DC5C352#32
  | 73 => 0x3F242C28#32
  | 74 => 0x3E85D250#32
  | 75 => 0x3A491607#32
  | 76 => 0x3D9C75E6#32
  | 77 => 0x3F1EC855#32
  | 78 => 0x3E9A4BA7#32
  | 79 => 0x3B031B2B#32
  | 80 => 0x3D72B381#32
  | 81 => 0x3F181308#32
  | 82 => 0x3EAF65EE#32
  | 83 => 0x3B876475#32
  | 84 => 0x3D37DC3F#32
  | 85 => 0x3F103C8A#32
  | 86 => 0x3EC4C096#32
  | 87 => 0x3BF2B36C#32
  | 88 => 0x3D076484#32
  | 89 => 0x3F077524#32
  | 90 => 0x3ED9FB0E#32
  | 91 => 0x3C45C343#32
  | 92 => 0x3CC0959D#32
  | 93 => 0x3EFBDA3A#32
  | 94 => 0x3EEEB4C5#32
  | 95 => 0x3C967A74#32
  | 96 => 0x3C831B3D#32
  | 97 => 0x3EE7A97C#32
  | 98 => 0x3F014695#32
  | 99 => 0x3CD97A54#32
  | 100 => 0x3C28ADC5#32
  | 101 => 0x3ED2B89F#32
  | 102 => 0x3F0A91D7#32
  | 103 => 0x3D16F224#32
  | 104 => 0x3BC9162D#32
  | 105 => 0x3EBD6832#32
  | 106 => 0x3F130BE0#32
  | 107 => 0x3D4ADDA7#32
  | 108 => 0x3B5721A3#32
  | 109 => 0x3EA818C7#32
  | 110 => 0x3F1A8468#32
  | 111 => 0x3D84C09C#32
  | 112 => 0x3AC2FDAA#32
  | 113 => 0x3E932AEE#32
  | 114 => 0x3F20CB25#32
  | 115 => 0x3DA9EF2A#32
  | 116 => 0x3A04AF63#32
  | 117 => 0x3E7DFE6E#32
  | 118 => 0x3F25AFD1#32
  | 119 => 0x3DD57B40#32
  | 120 => 0x38C212C1#32
  | 121 => 0x3E57EC67#32
  | 122 => 0x3F290222#32
  | 123 => 0x3E03F2CF#32
  | 124 => 0x35A7A66F#32
  | 125 => 0x3E34E0E8#32
  | 126 => 0x3F2A91D0#32
  | 127 => 0x3E20D783#32
  | _ => 0#32

noncomputable abbrev lit3t0_11 (i : Nat) : BitVec 32 := match i % 128 with
  | 0 => 0x3E158F1F#32
  | 1 => 0x3F2A33CF#32
  | 2 => 0x3E419E29#32
  | 3 => 0x375F22E8#32
  | 4 => 0x3DF4278F#32
  | 5 => 0x3F27F57B#32
  | 6 => 0x3E65E2BC#32
  | 7 => 0x394E3C92#32
  | 8 => 0x3DC45FA1#32
  | 9 => 0x3F2406A0#32
  | 10 => 0x3E8672B5#32
  | 11 => 0x3A504457#32
  | 12 => 0x3D9B45B3#32
  | 13 => 0x3F1E9786#32
  | 14 => 0x3E9AF28A#32
  | 15 => 0x3B067F21#32
  | 16 => 0x3D70B207#32
  | 17 => 0x3F17D874#32
  | 18 => 0x3EB0104A#32
  | 19 => 0x3B8A2301#32
  | 20 => 0x3D3631A7#32
  | 21 => 0x3F0FF9B4#32
  | 22 => 0x3EC56B67#32
  | 23 => 0x3BF6BEEA#32
  | 24 => 0x3D0608C1#32
  | 25 => 0x3F072B8E#32
  | 26 => 0x3EDAA34F#32
  | 27 => 0x3C488FAA#32
  | 28 => 0x3CBE6BAD#32
  | 29 => 0x3EFB3C92#32
  | 30 => 0x3EEF5772#32
  | 31 => 0x3C985414#32
  | 32 => 0x3C816EC8#32
  | 33 => 0x3EE7045D#32
  | 34 => 0x3F01939F#32
  | 35 => 0x3CDBD779#32
  | 36 => 0x3C262FA2#32
  | 37 => 0x3ED20F0D#32
  | 38 => 0x3F0AD913#32
  | 39 => 0x3D186A84#32
  | 40 => 0x3BC58F15#32
  | 41 => 0x3EBCBD32#32
  | 42 => 0x3F134BCA#32
  | 43 => 0x3D4CA7E2#32
  | 44 => 0x3B527D0D#32
  | 45 => 0x3EA76F5E#32
  | 46 => 0x3F1ABB7F#32
  | 47 => 0x3D85D2AC#32
  | 48 => 0x3ABD8634#32
  | 49 => 0x3E92861F#32
  | 50 => 0x3F20F7E7#32
  | 51 => 0x3DAB3234#32
  | 52 => 0x39FEC1BE#32
  | 53 => 0x3E7CC411#32
  | 54 => 0x3F25D0BA#32
  | 55 => 0x3DD6F349#32
  | 56 => 0x38B489DA#32
  | 57 => 0x3E56C752#32
  | 58 => 0x3F2915B2#32
  | 59 => 0x3E04CB56#32
  | 60 => 0x35746F6B#32
  | 61 => 0x3E33D723#32
  | 62 => 0x3F2A9684#32
  | 63 => 0x3E21CE8F#32
  | 64 => 0x3E14A4B7#32
  | 65 => 0x3F2A28E3#32
  | 66 => 0x3E42B3C1#32
  | 67 => 0x377EF7C3#32
  | 68 => 0x3DF28E27#32
  | 69 => 0x3F27DC50#32
  | 70 => 0x3E671131#32
  | 71 => 0x3959E856#32
  | 72 => 0x3DC2FD9C#32
  | 73 => 0x3F23E0B8#32
  | 74 => 0x3E87135A#32
  | 75 => 0x3A579DE8#32
  | 76 => 0x3D9A170A#32
  | 77 => 0x3F1E6663#32
  | 78 => 0x3E9B9994#32
  | 79 => 0x3B09F1ED#32
  | 80 => 0x3D6EB364#32
  | 81 => 0x3F179D99#32
  | 82 => 0x3EB0BAB6#32
  | 83 => 0x3B8CEAFC#32
  | 84 => 0x3D3489A5#32
  | 85 => 0x3F0FB6A3#32
  | 86 => 0x3EC6162F#32
  | 87 => 0x3BFAD5D9#32
  | 88 => 0x3D04AF55#32
  | 89 => 0x3F06E1C8#32
  | 90 => 0x3EDB4B6F#32
  | 91 => 0x3C4B62CC#32
  | 92 => 0x3CBC45E6#32
  | 93 => 0x3EFA9EA3#32
  | 94 => 0x3EEFF9E5#32
  | 95 => 0x3C9A3192#32
  | 96 => 0x3C7F8BF8#32
  | 97 => 0x3EE65F0F#32
  | 98 => 0x3F01E080#32
  | 99 => 0x3CDE38FD#32
  | 100 => 0x3C23B7D0#32
  | 101 => 0x3ED16565#32
  | 102 => 0x3F0B2019#32
  | 103 => 0x3D19E555#32
  | 104 => 0x3BC2129C#32
  | 105 => 0x3EBC1234#32
  | 106 => 0x3F138B74#32
  | 107 => 0x3D4E74CE#32
  | 108 => 0x3B4DE9B1#32
  | 109 => 0x3EA6C60E#32
  | 110 => 0x3F1AF249#32
  | 111 => 0x3D86E635#32
  | 112 => 0x3AB82925#32
  | 113 => 0x3E91E183#32
  | 114 => 0x3F21244F#32
  | 115 => 0x3DAC76D6#32
  | 116 => 0x39F46E23#32
  | 117 => 0x3E7B8A46#32
  | 118 => 0x3F25F13F#32
  | 119 => 0x3DD86D0B#32
  | 120 => 0x38A7A5E8#32
  | 121 => 0x3E55A2FF#32
  | 122 => 0x3F2928D1#32
  | 123 => 0x3E05A4CA#32
  | 124 => 0x352BAD04#32
  | 125 => 0x3E32CE52#32
  | 126 => 0x3F2A9ABB#32
  | 127 => 0x3E22C699#32
  | _ => 0#32

noncomputable abbrev lit3t0_12 (i : Nat) : BitVec 32 := match i % 128 with
  | 0 => 0x3E13BB44#32
  | 1 => 0x3F2A1D80#32
  | 2 => 0x3E43CA37#32
  | 3 => 0x3790D877#32
  | 4 => 0x3DF0F68A#32
  | 5 => 0x3F27C2B9#32
  | 6 => 0x3E684055#32
  | 7 => 0x396602C0#32
  | 8 => 0x3DC19D41#32
  | 9 => 0x3F23BA70#32
  | 10 => 0x3E87B43E#32
  | 11 => 0x3A5F233A#32
  | 12 => 0x3D98E9EC#32
  | 13 => 0x3F1E34EC#32
  | 14 => 0x3E9C40C5#32
  | 15 => 0x3B0D73B0#32
  | 16 => 0x3D6CB795#32
  | 17 => 0x3F176276#32
  | 18 => 0x3EB1652F#32
  | 19 => 0x3B8FBC75#32
  | 20 => 0x3D32E436#32
  | 21 => 0x3F0F7356#32
  | 22 => 0x3EC6C0ED#32
  | 23 => 0x3BFEF849#32
  | 24 => 0x3D03583C#32
  | 25 => 0x3F0697D3#32
  | 26 => 0x3EDBF36D#32
  | 27 => 0x3C4E3CB0#32
  | 28 => 0x3CBA2446#32
  | 29 => 0x3EFA006E#32
  | 30 => 0x3EF09C1F#32
  | 31 => 0x3C9C12F2#32
  | 32 => 0x3C7C41AC#32
  | 33 => 0x3EE5B993#32
  | 34 => 0x3F022D39#32
  | 35 => 0x3CE09EE3#32
  | 36 => 0x3C214648#32
  | 37 => 0x3ED0BBA6#32
  | 38 => 0x3F0B66EA#32
  | 39 => 0x3D1B6297#32
  | 40 => 0x3BBEA0B3#32
  | 41 => 0x3EBB6737#32
  | 42 => 0x3F13CADC#32
  | 43 => 0x3D50446B#32
  | 44 => 0x3B49676E#32
  | 45 => 0x3EA61CD8#32
  | 46 => 0x3F1B28C6#32
  | 47 => 0x3D87FB37#32
  | 48 => 0x3AB2E63C#32
  | 49 => 0x3E913D18#32
  | 50 => 0x3F21505F#32
  | 51 => 0x3DADBD12#32
  | 52 => 0x39EA62F5#32
  | 53 => 0x3E7A5110#32
  | 54 => 0x3F26115F#32
  | 55 => 0x3DD9E886#32
  | 56 => 0x389B62E7#32
  | 57 => 0x3E547F71#32
  | 58 => 0x3F293B7E#32
  | 59 => 0x3E067F2A#32
  | 60 => 0x34E60554#32
  | 61 => 0x3E31C675#32
  | 62 => 0x3F2A9E74#32
  | 63 => 0x3E23BF9F#32
  | 64 => 0x3E12D2C6#32
  | 65 => 0x3F2A11A5#32
  | 66 => 0x3E44E18A#32
  | 67 => 0x37A3B74D#32
  | 68 => 0x3DEF60B6#32
  | 69 => 0x3F27A8B7#32
  | 70 => 0x3E697024#32
  | 71 => 0x39728DD1#32
  | 72 => 0x3DC03E8F#32
  | 73 => 0x3F2393C9#32
  | 74 => 0x3E88555F#32
  | 75 => 0x3A66D4CD#32
  | 76 => 0x3D97BE57#32
  | 77 => 0x3F1E0323#32
  | 78 => 0x3E9CE81C#32
  | 79 => 0x3B110489#32
  | 80 => 0x3D6ABE97#32
  | 81 => 0x3F17270C#32
  | 82 => 0x3EB20FB7#32
  | 83 => 0x3B92977C#32
  | 84 => 0x3D31415A#32
  | 85 => 0x3F0F2FCD#32
  | 86 => 0x3EC76BA1#32
  | 87 => 0x3C019325#32
  | 88 => 0x3D020374#32
  | 89 => 0x3F064DAF#32
  | 90 => 0x3EDC9B49#32
  | 91 => 0x3C511D5F#32
  | 92 => 0x3CB806C8#32
  | 93 => 0x3EF961F2#32
  | 94 => 0x3EF13E1E#32
  | 95 => 0x3C9DF838#32
  | 96 => 0x3C78FEA3#32
  | 97 => 0x3EE513E9#32
  | 98 => 0x3F0279C8#32
  | 99 => 0x3CE30930#32
  | 100 => 0x3C1EDB01#32
  | 101 => 0x3ED011D2#32
  | 102 => 0x3F0BAD86#32
  | 103 => 0x3D1CE24D#32
  | 104 => 0x3BBB394A#32
  | 105 => 0x3EBABC3D#32
  | 106 => 0x3F140A03#32
  | 107 => 0x3D5216BC#32
  | 108 => 0x3B44F625#32
  | 109 => 0x3EA573BC#32
  | 110 => 0x3F1B5EF5#32
  | 111 => 0x3D8911B4#32
  | 112 => 0x3AADBD3B#32
  | 113 => 0x3E9098E0#32
  | 114 => 0x3F217C15#32
  | 115 => 0x3DAF04E8#32
  | 116 => 0x39E09F30#32
  | 117 => 0x3E79186F#32
  | 118 => 0x3F263119#32
  | 119 => 0x3DDB65BC#32
  | 120 => 0x388FBCD0#32
  | 121 => 0x3E535CA9#32
  | 122 => 0x3F294DBA#32
  | 123 => 0x3E075A78#32
  | 124 => 0x3490DABD#32
  | 125 => 0x3E30BF8F#32
  | 126 => 0x3F2AA1AF#32
  | 127 => 0x3E24B9A3#32
  | _ => 0#32

noncomputable abbrev lit3t0_13 (i : Nat) : BitVec 32 := match i % 128 with
  | 0 => 0x3E11EB3C#32
  | 1 => 0x3F2A0552#32
  | 2 => 0x3E45F9B9#32
  | 3 => 0x37B8287A#32
  | 4 => 0x3DEDCCAB#32
  | 5 => 0x3F278E4A#32
  | 6 => 0x3E6AA09F#32
  | 7 => 0x397F8B8E#32
  | 8 => 0x3DBEE187#32
  | 9 => 0x3F236CC3#32
  | 10 => 0x3E88F6BE#32
  | 11 => 0x3A6EB324#32
  | 12 => 0x3D96944A#32
  | 13 => 0x3F1DD106#32
  | 14 => 0x3E9D8F98#32
  | 15 => 0x3B14A499#32
  | 16 => 0x3D68C86B#32
  | 17 => 0x3F16EB5B#32
  | 18 => 0x3EB2BA4C#32
  | 19 => 0x3B957C21#32
  | 20 => 0x3D2FA10D#32
  | 21 => 0x3F0EEC0A#32
  | 22 => 0x3EC8164A#32
  | 23 => 0x3C03AFF7#32
  | 24 => 0x3D00B0FC#32
  | 25 => 0x3F06035C#32
  | 26 => 0x3EDD4301#32
  | 27 => 0x3C5404DF#32
  | 28 => 0x3CB5ED68#32
  | 29 => 0x3EF8C332#32
  | 30 => 0x3EF1DFE1#32
  | 31 => 0x3C9FE168#32
  | 32 => 0x3C75C2D4#32
  | 33 => 0x3EE46E12#32
  | 34 => 0x3F02C62D#32
  | 35 => 0x3CE577E7#32
  | 36 => 0x3C1C75F3#32
  | 37 => 0x3ECF67E8#32
  | 38 => 0x3F0BF3ED#32
  | 39 => 0x3D1E6478#32
  | 40 => 0x3BB7DC50#32
  | 41 => 0x3EBA1146#32
  | 42 => 0x3F1448E8#32
  | 43 => 0x3D53EBC3#32
  | 44 => 0x3B4095B5#32
  | 45 => 0x3EA4CABC#32
  | 46 => 0x3F1B94D7#32
  | 47 => 0x3D8A29AB#32
  | 48 => 0x3AA8ADE0#32
  | 49 => 0x3E8FF4DB#32
  | 50 => 0x3F21A770#32
  | 51 => 0x3DB04E59#32
  | 52 => 0x39D721D5#32
  | 53 => 0x3E77E066#32
  | 54 => 0x3F26506D#32
  | 55 => 0x3DDCE4AD#32
  | 56 => 0x3884AF9D#32
  | 57 => 0x3E523AA9#32
  | 58 => 0x3F295F83#32
  | 59 => 0x3E0836B4#32
  | 60 => 0x3427A88A#32
  | 61 => 0x3E2FB9A1#32
  | 62 => 0x3F2AA46C#32
  | 63 => 0x3E25B4A4#32
  | 64 => 0x3E1104A6#32
  | 65 => 0x3F29F88A#32
  | 66 => 0x3E4712C1#32
  | 67 => 0x37CE3C17#32
  | 68 => 0x3DEC3A67#32
  | 69 => 0x3F277372#32
  | 70 => 0x3E6BD1C3#32
  | 71 => 0x39867EFC#32
  | 72 => 0x3DBD8625#32
  | 73 => 0x3F23455F#32
  | 74 => 0x3E89985A#32
  | 75 => 0x3A76BEBE#32
  | 76 => 0x3D956BC5#32
  | 77 => 0x3F1D9E97#32
  | 78 => 0x3E9E3739#32
  | 79 => 0x3B185400#32
  | 80 => 0x3D66D50C#32
  | 81 => 0x3F16AF64#32
  | 82 => 0x3EB364ED#32
  | 83 => 0x3B986A75#32
  | 84 => 0x3D2E034F#32
  | 85 => 0x3F0EA80D#32
  | 86 => 0x3EC8C0E7#32
  | 87 => 0x3C05D2A1#32
  | 88 => 0x3CFEC1A2#32
  | 89 => 0x3F05B8DB#32
  | 90 => 0x3EDDEA96#32
  | 91 => 0x3C56F339#32
  | 92 => 0x3CB3D823#32
  | 93 => 0x3EF8242D#32
  | 94 => 0x3EF28169#32
  | 95 => 0x3CA1CE85#32
  | 96 => 0x3C728E38#32
  | 97 => 0x3EE3C80E#32
  | 98 => 0x3F031268#32
  | 99 => 0x3CE7EB0D#32
  | 100 => 0x3C1A1717#32
  | 101 => 0x3ECEBDEB#32
  | 102 => 0x3F0C3A1D#32
  | 103 => 0x3D1FE91B#32
  | 104 => 0x3BB489B6#32
  | 105 => 0x3EB96654#32
  | 106 => 0x3F14878B#32
  | 107 => 0x3D55C382#32
  | 108 => 0x3B3C45FD#32
  | 109 => 0x3EA421D9#32
  | 110 => 0x3F1BCA6A#32
  | 111 => 0x3D8B431F#32
  | 112 => 0x3AA3B7EA#32
  | 113 => 0x3E8F510B#32
  | 114 => 0x3F21D272#32
  | 115 => 0x3DB19967#32
  | 116 => 0x39CDE9E2#32
  | 117 => 0x3E76A8F6#32
  | 118 => 0x3F266F5A#32
  | 119 => 0x3DDE655B#32
  | 120 => 0x38746E90#32
  | 121 => 0x3E511972#32
  | 122 => 0x3F2970DA#32
  | 123 => 0x3E0913DE#32
  | 124 => 0x33ABAFB6#32
  | 125 => 0x3E2EB4AC#32
  | 126 => 0x3F2AA6AB#32
  | 127 => 0x3E26B0A4#32
  | _ => 0#32

noncomputable abbrev lit3t0_14 (i : Nat) : BitVec 32 := match i % 128 with
  | 0 => 0x3E101F04#32
  | 1 => 0x3F29EB4B#32
  | 2 => 0x3E482CA2#32
  | 3 => 0x37E6023C#32
  | 4 => 0x3DEAA9EB#32
  | 5 => 0x3F275830#32
  | 6 => 0x3E6D0390#32
  | 7 => 0x398D738A#32
  | 8 => 0x3DBC2C6A#32
  | 9 => 0x3F231D9C#32
  | 10 => 0x3E8A3A31#32
  | 11 => 0x3A7EF81C#32
  | 12 => 0x3D9444C6#32
  | 13 => 0x3F1D6BD6#32
  | 14 => 0x3E9EDEFD#32
  | 15 => 0x3B1C12DE#32
  | 16 => 0x3D64E479#32
  | 17 => 0x3F167326#32
  | 18 => 0x3EB40F9A#32
  | 19 => 0x3B9B6287#32
  | 20 => 0x3D2C681C#32
  | 21 => 0x3F0E63D6#32
  | 22 => 0x3EC96B78#32
  | 23 => 0x3C07FB2C#32
  | 24 => 0x3CFC25E3#32
  | 25 => 0x3F056E2C#32
  | 26 => 0x3EDE9206#32
  | 27 => 0x3C59E876#32
  | 28 => 0x3CB1C6F3#32
  | 29 => 0x3EF784E4#32
  | 30 => 0x3EF322B3#32
  | 31 => 0x3CA3BF94#32
  | 32 => 0x3C6F60C7#32
  | 33 => 0x3EE321DF#32
  | 34 => 0x3F035E78#32
  | 35 => 0x3CEA62A5#32
  | 36 => 0x3C17BE63#32
  | 37 => 0x3ECE13DA#32
  | 38 => 0x3F0C8016#32
  | 39 => 0x3D217038#32
  | 40 => 0x3BB1416B#32
  | 41 => 0x3EB8BB65#32
  | 42 => 0x3F14C5EB#32
  | 43 => 0x3D579DFC#32
  | 44 => 0x3B3806DF#32
  | 45 => 0x3EA37912#32
  | 46 => 0x3F1BFFAE#32
  | 47 => 0x3D8C5E10#32
  | 48 => 0x3A9EDB1B#32
  | 49 => 0x3E8EAD70#32
  | 50 => 0x3F21FD18#32
  | 51 => 0x3DB2E613#32
  | 52 => 0x39C4F654#32
  | 53 => 0x3E757220#32
  | 54 => 0x3F268DE0#32
  | 55 => 0x3DDFE7C7#32
  | 56 => 0x38609F97#32
  | 57 => 0x3E4FF906#32
  | 58 => 0x3F2981BE#32
  | 59 => 0x3E09F1F7#32
  | 60 => 0x3310DDC5#32
  | 61 => 0x3E2DB0B2#32
  | 62 => 0x3F2AA86A#32
  | 63 => 0x3E27ADA4#32
  | 64 => 0x3E0F3A55#32
  | 65 => 0x3F29DD96#32
  | 66 => 0x3E494759#32
  | 67 => 0x37FF8B00#32
  | 68 => 0x3DE91B34#32
  | 69 => 0x3F273C84#32
  | 70 => 0x3E6E3602#32
  | 71 => 0x3994A472#32
  | 72 => 0x3DBAD455#32
  | 73 => 0x3F22F57B#32
  | 74 => 0x3E8ADC44#32
  | 75 => 0x3A83AFE0#32
  | 76 => 0x3D931F4C#32
  | 77 => 0x3F1D38C3#32
  | 78 => 0x3E9F86E4#32
  | 79 => 0x3B1FE153#32
  | 80 => 0x3D62F6B1#32
  | 81 => 0x3F1636A3#32
  | 82 => 0x3EB4BA51#32
  | 83 => 0x3B9E6468#32
  | 84 => 0x3D2ACF73#32
  | 85 => 0x3F0E1F65#32
  | 86 => 0x3ECA15FB#32
  | 87 => 0x3C0A299F#32
  | 88 => 0x3CF98EB7#32
  | 89 => 0x3F052350#32
  | 90 => 0x3EDF3950#32
  | 91 => 0x3C5CE49D#32
  | 92 => 0x3CAFB9D5#32
  | 93 => 0x3EF6E559#32
  | 94 => 0x3EF3C3C0#32
  | 95 => 0x3CA5B49A#32
  | 96 => 0x3C6C3A78#32
  | 97 => 0x3EE27B85#32
  | 98 => 0x3F03AA5E#32
  | 99 => 0x3CECDEB4#32
  | 100 => 0x3C156BD1#32
  | 101 => 0x3ECD69B7#32
  | 102 => 0x3F0CC5D8#32
  | 103 => 0x3D22F9D0#32
  | 104 => 0x3BAE0360#32
  | 105 => 0x3EB8107D#32
  | 106 => 0x3F150408#32
  | 107 => 0x3D597B31#32
  | 108 => 0x3B33D839#32
  | 109 => 0x3EA2D069#32
  | 110 => 0x3F1C34A4#32
  | 111 => 0x3D8D7A7F#32
  | 112 => 0x3A9A1730#32
  | 113 => 0x3E8E0A0B#32
  | 114 => 0x3F222764#32
  | 115 => 0x3DB4345C#32
  | 116 => 0x39BC462B#32
  | 117 => 0x3E743BE6#32
  | 118 => 0x3F26AC00#32
  | 119 => 0x3DE16BF1#32
  | 120 => 0x384DEA43#32
  | 121 => 0x3E4ED966#32
  | 122 => 0x3F29922F#32
  | 123 => 0x3E0AD0FF#32
  | 124 => 0x322BB51A#32
  | 125 => 0x3E2CADB5#32
  | 126 => 0x3F2AA9AA#32
  | 127 => 0x3E28ABA2#32
  | _ => 0#32

noncomputable abbrev lit3t0_15 (i : Nat) : BitVec 32 := match i % 128 with
  | 0 => 0x3E0E5698#32
  | 1 => 0x3F29CF6B#32
  | 2 => 0x3E4A5E7A#32
  | 3 => 0x38542CDE#32
  | 4 => 0x3DE78E41#32
  | 5 => 0x3F27206F#32
  | 6 => 0x3E6F4215#32
  | 7 => 0x39EA1C10#32
  | 8 => 0x3DB97DE4#32
  | 9 => 0x3F22CCFE#32
  | 10 => 0x3E8B3A93#32
  | 11 => 0x3ACBF89F#32
  | 12 => 0x3D91FB57#32
  | 13 => 0x3F1D055F#32
  | 14 => 0x3E9F8B2E#32
  | 15 => 0x3B759F3F#32
  | 16 => 0x3D610BB1#32
  | 17 => 0x3F15F9DB#32
  | 18 => 0x3EB42233#32
  | 19 => 0x3BF2283B#32
  | 20 => 0x3D293951#32
  | 21 => 0x3F0DDABB#32
  | 22 => 0x3EC88EF8#32
  | 23 => 0x3C528D06#32
  | 24 => 0x3CF6FC1A#32
  | 25 => 0x3F04D846#32
  | 26 => 0x3EDC60D5#32
  | 27 => 0x3CA7EDC9#32
  | 28 => 0x3CADB0C6#32
  | 29 => 0x3EF6458B#32
  | 30 => 0x3EEF2722#32
  | 31 => 0x3CFB8465#32
  | 32 => 0x3C691B44#32
  | 33 => 0x3EE1D502#32
  | 34 => 0x3F00389B#32
  | 35 => 0x3D33876E#32
  | 36 => 0x3C131F58#32
  | 37 => 0x3ECCBF81#32
  | 38 => 0x3F07E734#32
  | 39 => 0x3D76C8DA#32
  | 40 => 0x3BAACF84#32
  | 41 => 0x3EB7659B#32
  | 42 => 0x3F0E6708#32
  | 43 => 0x3DA4845B#32
  | 44 => 0x3B2FB9EB#32
  | 45 => 0x3EA227DE#32
  | 46 => 0x3F137FC3#32
  | 47 => 0x3DD5E4A4#32
  | 48 => 0x3A956BEA#32
  | 49 => 0x3E8D66DC#32
  | 50 => 0x3F16F90F#32
  | 51 => 0x3E082334#32
  | 52 => 0x39B3D865#32
  | 53 => 0x3E73064A#32
  | 54 => 0x3F189A9A#32
  | 55 => 0x3E2A3564#32
  | 56 => 0x383C4687#32
  | 57 => 0x3E4DBA93#32
  | 58 => 0x3F182C0D#32
  | 59 => 0x3E518973#32
  | 60 => 0x30ABBFE2#32
  | 61 => 0x3E2BABB5#32
  | 62 => 0x3F157516#32
  | 63 => 0x3E7E7FF1#32
  | 64 => 0x3E0D73CD#32
  | 65 => 0x3F105353#32
  | 66 => 0x3E988231#32
  | 67 => 0x396A1B97#32
  | 68 => 0x3DE60312#32
  | 69 => 0x3F0904CE#32
  | 70 => 0x3EB38001#32
  | 71 => 0x3AF59F01#32
  | 72 => 0x3DB82916#32
  | 73 => 0x3EFFC417#32
  | 74 => 0x3ECEE76F#32
  | 75 => 0x3BD28CE2#32
  | 76 => 0x3D90D8E4#32
  | 77 => 0x3EEA8722#32
  | 78 => 0x3EE96683#32
  | 79 => 0x3C7B8446#32
  | 80 => 0x3D5F2377#32
  | 81 => 0x3ED303C5#32
  | 82 => 0x3F00D5A0#32
  | 83 => 0x3CF6C8C1#32
  | 84 => 0x3D27A5B6#32
  | 85 => 0x3EB9EB08#32
  | 86 => 0x3F0B31D7#32
  | 87 => 0x3D55E492#32
  | 88 => 0x3CF46E08#32
  | 89 => 0x3E9FEDF5#32
  | 90 => 0x3F131EEA#32
  | 91 => 0x3DAA3558#32
  | 92 => 0x3CABABC0#32
  | 93 => 0x3E85BD96#32
  | 94 => 0x3F17F3DB#32
  | 95 => 0x3DFE7FE1#32
  | 96 => 0x3C660323#32
  | 97 => 0x3E5815E5#32
  | 98 => 0x3F1907AD#32
  | 99 => 0x3E356B35#32
  | 100 => 0x3C10D8F0#32
  | 101 => 0x3E270E27#32
  | 102 => 0x3F15B164#32
  | 103 => 0x3E791EBB#32
  | 104 => 0x3BA7A5C7#32
  | 105 => 0x3DF38C0D#32
  | 106 => 0x3F0D4802#32
  | 107 => 0x3EA5EE62#32
  | 108 => 0x3B2BABD6#32
  | 109 => 0x3DA33F27#32
  | 110 => 0x3EFE4514#32
  | 111 => 0x3ED793CA#32
  | 112 => 0x3A90D909#32
  | 113 => 0x3D3FF385#32
  | 114 => 0x3ED53000#32
  | 115 => 0x3F09205B#32
  | 116 => 0x39ABAC01#32
  | 117 => 0x3CB20008#32
  | 118 => 0x3E9DFECC#32
  | 119 => 0x3F2B5B24#32
  | 120 => 0x382BAC57#32
  | 121 => 0x3BB960A9#32
  | 122 => 0x3E2EBF00#32
  | 123 => 0x3F52DAD0#32
  | 124 => 0x1DCE52C7#32
  | 125 => 0x2A2CF02D#32
  | 126 => 0x3580D955#32
  | 127 => 0x3F7FFFF0#32
  | _ => 0#32

noncomputable abbrev lit3t (i : Nat) : BitVec 32 := match i / 128 with
  | 0 => lit3t0_0 i
  | 1 => lit3t0_1 i
  | 2 => lit3t0_2 i
  | 3 => lit3t0_3 i
  | 4 => lit3t0_4 i
  | 5 => lit3t0_5 i
  | 6 => lit3t0_6 i
  | 7 => lit3t0_7 i
  | 8 => lit3t0_8 i
  | 9 => lit3t0_9 i
  | 10 => lit3t0_10 i
  | 11 => lit3t0_11 i
  | 12 => lit3t0_12 i
  | 13 => lit3t0_13 i
  | 14 => lit3t0_14 i
  | 15 => lit3t0_15 i
  | _ => 0#32

noncomputable abbrev lit3 : Fin 2048 → BitVec 32 := fun ⟨i, _⟩ => lit3t i

def fn_part1 {F : FTy → Type} [FloatOps F] (main_c_0 : IVec S512x4 32) (main_cst_1 : FVec F S512x4 .f32) (main_v11 : FVec F S8x512x35x4 .f32) (main_v13 : IVec S512x4 1) (main_v14 : IVec S512x4 32) : IVec S8x512x512x3 1 :=
  let main_v15 : IVec S512x4 32 := addi main_c_0 main_v14
  let main_v16 : IVec S512x4 32 := select main_v13 main_v15 main_c_0
  let main_v17 : IVec S512x4x1 32 := broadcastInDim S512x4x1 ![0, 1] bcast_S512x4_S512x4x1_0_1 main_v16
  let main_v18 : FVec F S8x512x512x4x4 .f32 := (fun x i => Host.gather gather_S8x512x35x4_S512x4x1_S8x512x512x4x4_014_2_n_n_2_2_851214 x i) main_v11 main_v17
  let main_v19 : FVec F S512x4x1 .f32 := broadcastInDim S512x4x1 ![0, 1] bcast_S512x4_S512x4x1_0_1 main_cst_1
  let main_v20 : FVec F S1x1x512x4x1 .f32 := broadcastInDim S1x1x512x4x1 ![2, 3, 4] bcast_S512x4x1_S1x1x512x4x1_2_3_4 main_v19
  let main_v21 : FVec F S8x512x512x4x4 .f32 := broadcastInDim S8x512x512x4x4 ![0, 1, 2, 3, 4] bcast_S1x1x512x4x1_S8x512x512x4x4_0_1_2_3_4 main_v20
  let main_v22 : FVec F S8x512x512x4x4 .f32 := mulf main_v21 main_v18
  let main_cst_7 : FVec F S_ .f32 := constant S_ .f32 0x00000000#32
  let main_v23 : FVec F S8x512x512x4 .f32 := (fun x v => Host.reduceAdd x v reducesTo_S8x512x512x4x4_S8x512x512x4_d3 h_S_) main_v22 main_cst_7
  let main_v24 : FVec F S8x512x512x3 .f32 := (extractStridedSlice S8x512x512x3 ![0, 0, 0, 0] · slices_S8x512x512x4_S8x512x512x3_0_0_0_0) main_v23
  let main_cst_8 : FVec F S_ .f32 := constant S_ .f32 0x00000000#32
  let main_v25 : FVec F S8x512x512x3 .f32 := broadcastInDim S8x512x512x3 ![] bcast_S_S8x512x512x3 main_cst_8
  let main_v26 : IVec S8x512x512x3 1 := cmpf .une main_v24 main_v25
  let main_v27 : FVec F S8x512x512x1 .f32 := (extractStridedSlice S8x512x512x1 ![0, 0, 0, 3] · slices_S8x512x512x4_S8x512x512x1_0_0_0_3) main_v23
  let main_v28 : FVec F S8x512x512 .f32 := shapeCast S8x512x512 main_v27 shapeCasts_S8x512x512x1_S8x512x512
  let main_v29 : FVec F S8x512x512x1 .f32 := broadcastInDim S8x512x512x1 ![0, 1, 2] bcast_S8x512x512_S8x512x512x1_0_1_2 main_v28
  let main_cst_9 : FVec F S_ .f32 := constant S_ .f32 0x00000000#32
  let main_v30 : FVec F S8x512x512x1 .f32 := broadcastInDim S8x512x512x1 ![] bcast_S_S8x512x512x1 main_cst_9
  let main_v31 : IVec S8x512x512x1 1 := cmpf .une main_v29 main_v30
  let main_v32 : IVec S8x512x512x3 1 := broadcastInDim S8x512x512x3 ![0, 1, 2, 3] bcast_S8x512x512x1_S8x512x512x3_0_1_2_3 main_v31
  let main_v33 : IVec S8x512x512x3 1 := ori main_v26 main_v32
  main_v33

def fn {F : FTy → Type} [FloatOps F] (main_arg0 : FVec F S8x35x35x4 .f32) : IVec S8x512x512x3 1 :=
  let main_c : IVec S512x4 32 := fun i => lit0 (S512x4.rowMajor i)
  let main_cst : FVec F S512x4 .f32 := fun i => FloatOps.ofBits .f32 (lit1 (S512x4.rowMajor i))
  let main_c_0 : IVec S512x4 32 := fun i => lit2 (S512x4.rowMajor i)
  let main_cst_1 : FVec F S512x4 .f32 := fun i => FloatOps.ofBits .f32 (lit3 (S512x4.rowMajor i))
  let main_c_2 : IVec S_ 32 := constantI S_ 32 0#32
  let main_v0 : IVec S512x4 32 := broadcastInDim S512x4 ![] bcast_S_S512x4 main_c_2
  let main_v1 : IVec S512x4 1 := cmpi .slt main_c main_v0
  let main_c_3 : IVec S_ 32 := constantI S_ 32 35#32
  let main_v2 : IVec S512x4 32 := broadcastInDim S512x4 ![] bcast_S_S512x4 main_c_3
  let main_v3 : IVec S512x4 32 := addi main_c main_v2
  let main_v4 : IVec S512x4 32 := select main_v1 main_v3 main_c
  let main_v5 : IVec S512x4x1 32 := broadcastInDim S512x4x1 ![0, 1] bcast_S512x4_S512x4x1_0_1 main_v4
  let main_v6 : FVec F S8x512x4x35x4 .f32 := (fun x i => Host.gather gather_S8x35x35x4_S512x4x1_S8x512x4x35x4_034_1_n_n_1_2_81354 x i) main_arg0 main_v5
  let main_v7 : FVec F S512x4x1x1 .f32 := broadcastInDim S512x4x1x1 ![0, 1] bcast_S512x4_S512x4x1x1_0_1 main_cst
  let main_v8 : FVec F S1x512x4x1x1 .f32 := broadcastInDim S1x512x4x1x1 ![1, 2, 3, 4] bcast_S512x4x1x1_S1x512x4x1x1_1_2_3_4 main_v7
  let main_v9 : FVec F S8x512x4x35x4 .f32 := broadcastInDim S8x512x4x35x4 ![0, 1, 2, 3, 4] bcast_S1x512x4x1x1_S8x512x4x35x4_0_1_2_3_4 main_v8
  let main_v10 : FVec F S8x512x4x35x4 .f32 := mulf main_v9 main_v6
  let main_cst_4 : FVec F S_ .f32 := constant S_ .f32 0x00000000#32
  let main_v11 : FVec F S8x512x35x4 .f32 := (fun x v => Host.reduceAdd x v reducesTo_S8x512x4x35x4_S8x512x35x4_d2 h_S_) main_v10 main_cst_4
  let main_c_5 : IVec S_ 32 := constantI S_ 32 0#32
  let main_v12 : IVec S512x4 32 := broadcastInDim S512x4 ![] bcast_S_S512x4 main_c_5
  let main_v13 : IVec S512x4 1 := cmpi .slt main_c_0 main_v12
  let main_c_6 : IVec S_ 32 := constantI S_ 32 35#32
  let main_v14 : IVec S512x4 32 := broadcastInDim S512x4 ![] bcast_S_S512x4 main_c_6
  fn_part1 (F := F) main_c_0 main_cst_1 main_v11 main_v13 main_v14
-- ==== Pre_weights_positive.lean ====
abbrev S8x35x35x4 : Shape := ⟨4, ![8, 35, 35, 4]⟩
abbrev S8x35x35x1 : Shape := ⟨4, ![8, 35, 35, 1]⟩
abbrev S8x35x35 : Shape := ⟨3, ![8, 35, 35]⟩
abbrev S_ : Shape := ⟨0, ![]⟩

class Facts : Prop where
  slices_S8x35x35x4_S8x35x35x1_0_0_0_3 : S8x35x35x4.Slices ![0, 0, 0, 3] S8x35x35x1
  shapeCasts_S8x35x35x1_S8x35x35 : S8x35x35x1.ShapeCasts S8x35x35
  bcast_S_S8x35x35 : S_.BroadcastsInDim S8x35x35 (![] : Fin 0 → Fin S8x35x35.rank)

variable [Facts]

def fn {F : FTy → Type} [FloatOps F] (main_arg0 : FVec F S8x35x35x4 .f32) : IVec S8x35x35 1 :=
  let main_v0 : FVec F S8x35x35x1 .f32 := (extractStridedSlice S8x35x35x1 ![0, 0, 0, 3] · slices_S8x35x35x4_S8x35x35x1_0_0_0_3) main_arg0
  let main_v1 : FVec F S8x35x35 .f32 := shapeCast S8x35x35 main_v0 shapeCasts_S8x35x35x1_S8x35x35
  let main_cst : FVec F S_ .f32 := constant S_ .f32 0x00000000#32
  let main_v2 : FVec F S8x35x35 .f32 := broadcastInDim S8x35x35 ![] bcast_S_S8x35x35 main_cst
  let main_v3 : IVec S8x35x35 1 := cmpf .ogt main_v1 main_v2
  main_v3
-- ==== Kernel.lean ====
abbrev S8x35x35x4 : Shape := ⟨4, ![8, 35, 35, 4]⟩
abbrev S512x35 : Shape := ⟨2, ![512, 35]⟩
abbrev S35x512 : Shape := ⟨2, ![35, 512]⟩
abbrev S8x4x35x35 : Shape := ⟨4, ![8, 4, 35, 35]⟩
abbrev S8x3x512x512 : Shape := ⟨4, ![8, 3, 512, 512]⟩
abbrev S8x512x512x3 : Shape := ⟨4, ![8, 512, 512, 3]⟩
abbrev S2x4x35x35 : Shape := ⟨4, ![2, 4, 35, 35]⟩
abbrev S2x3x512x512 : Shape := ⟨4, ![2, 3, 512, 512]⟩
abbrev S1x1x35x35 : Shape := ⟨4, ![1, 1, 35, 35]⟩
abbrev S35x35 : Shape := ⟨2, ![35, 35]⟩
abbrev S512x512 : Shape := ⟨2, ![512, 512]⟩
abbrev S1x1x512x512 : Shape := ⟨4, ![1, 1, 512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8x35x35x4, .f32⟩
  | .hbm, ⟨1, _⟩ => ⟨S512x35, .f32⟩
  | .hbm, ⟨2, _⟩ => ⟨S35x512, .f32⟩
  | .hbm, ⟨3, _⟩ => ⟨S8x4x35x35, .f32⟩
  | .hbm, ⟨4, _⟩ => ⟨S8x3x512x512, .f32⟩
  | .hbm, ⟨5, _⟩ => ⟨S8x512x512x3, .f32⟩
  | .local _ .vmem, ⟨0, _⟩ => ⟨S2x4x35x35, .f32⟩
  | .local _ .vmem, ⟨1, _⟩ => ⟨S2x4x35x35, .f32⟩
  | .local _ .vmem, ⟨2, _⟩ => ⟨S512x35, .f32⟩
  | .local _ .vmem, ⟨3, _⟩ => ⟨S35x512, .f32⟩
  | .local _ .vmem, ⟨4, _⟩ => ⟨S2x3x512x512, .f32⟩
  | .local _ .vmem, ⟨5, _⟩ => ⟨S2x3x512x512, .f32⟩
  | _, _ => ⟨S8x35x35x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x4x35x35 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x35 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S35x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x35x35x4 : Shape := ⟨4, ![8, 35, 35, 4]⟩
abbrev S512x4 : Shape := ⟨2, ![512, 4]⟩
abbrev S_ : Shape := ⟨0, ![]⟩
abbrev S512x4x1 : Shape := ⟨3, ![512, 4, 1]⟩
abbrev S8x512x4x35x4 : Shape := ⟨5, ![8, 512, 4, 35, 4]⟩
abbrev S512x8x35x4 : Shape := ⟨4, ![512, 8, 35, 4]⟩
abbrev S8x512x35x4 : Shape := ⟨4, ![8, 512, 35, 4]⟩
abbrev S8x512x512x4x4 : Shape := ⟨5, ![8, 512, 512, 4, 4]⟩
abbrev S512x8x512x4 : Shape := ⟨4, ![512, 8, 512, 4]⟩
abbrev S8x512x512x4 : Shape := ⟨4, ![8, 512, 512, 4]⟩
abbrev S8x512x512x3 : Shape := ⟨4, ![8, 512, 512, 3]⟩
abbrev S8x512x512x1 : Shape := ⟨4, ![8, 512, 512, 1]⟩
abbrev S8x512x512 : Shape := ⟨3, ![8, 512, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x35x35x4, .f32⟩
  | .hbm, ⟨1, _⟩ => ⟨S512x4, .f32⟩
  | .hbm, ⟨2, _⟩ => ⟨S512x4, .f32⟩
  | .hbm, ⟨3, _⟩ => ⟨S512x4, .i32⟩
  | .hbm, ⟨4, _⟩ => ⟨S512x4, .i32⟩
  | .hbm, ⟨5, _⟩ => ⟨S_, .i32⟩
  | .hbm, ⟨6, _⟩ => ⟨S512x4, .i32⟩
  | .hbm, ⟨7, _⟩ => ⟨S512x4, .i1⟩
  | .hbm, ⟨8, _⟩ => ⟨S_, .i32⟩
  | .hbm, ⟨9, _⟩ => ⟨S512x4, .i32⟩
  | .hbm, ⟨10, _⟩ => ⟨S512x4, .i32⟩
  | .hbm, ⟨11, _⟩ => ⟨S512x4, .i32⟩
  | .hbm, ⟨12, _⟩ => ⟨S512x4x1, .i32⟩
  | .hbm, ⟨13, _⟩ => ⟨S8x512x4x35x4, .f32⟩
  | .hbm, ⟨14, _⟩ => ⟨S512x8x35x4, .f32⟩
  | .hbm, ⟨15, _⟩ => ⟨S8x512x35x4, .f32⟩
  | .hbm, ⟨16, _⟩ => ⟨S_, .i32⟩
  | .hbm, ⟨17, _⟩ => ⟨S512x4, .i32⟩
  | .hbm, ⟨18, _⟩ => ⟨S512x4, .i1⟩
  | .hbm, ⟨19, _⟩ => ⟨S_, .i32⟩
  | .hbm, ⟨20, _⟩ => ⟨S512x4, .i32⟩
  | .hbm, ⟨21, _⟩ => ⟨S512x4, .i32⟩
  | .hbm, ⟨22, _⟩ => ⟨S512x4, .i32⟩
  | .hbm, ⟨23, _⟩ => ⟨S512x4x1, .i32⟩
  | .hbm, ⟨24, _⟩ => ⟨S8x512x512x4x4, .f32⟩
  | .hbm, ⟨25, _⟩ => ⟨S512x8x512x4, .f32⟩
  | .hbm, ⟨26, _⟩ => ⟨S8x512x512x4, .f32⟩
  | .hbm, ⟨27, _⟩ => ⟨S8x512x512x3, .f32⟩
  | .hbm, ⟨28, _⟩ => ⟨S8x512x512x1, .f32⟩
  | .hbm, ⟨29, _⟩ => ⟨S8x512x512, .f32⟩
  | .hbm, ⟨30, _⟩ => ⟨S8x512x512x1, .f32⟩
  | .hbm, ⟨31, _⟩ => ⟨S8x512x512x3, .f32⟩
  | .hbm, ⟨32, _⟩ => ⟨S8x512x512x3, .f32⟩
  | _, _ => ⟨S8x35x35x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_4 : Ref sig .tc := ⟨.hbm, 16, rfl⟩
abbrev main_v9 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.KernelBlock.lean ====
/- The kernel's output block read at an index. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Cert.KernelIdeal Cert.KernelIdeal.Gen

/-- The two dense products of channel `d` of batch element `b` of a block, at `(u, v)`. -/
def prods (x0 : Vec Ideal S2x4x35x35 .f32) (x1 : Vec Ideal S512x35 .f32) (x2 : Vec Ideal S35x512 .f32)
    (b : Fin 2) (d : Fin 4) (u v : Fin 512) : EReal :=
  ∑ y : Fin 35, (∑ x : Fin 35, x1 (ix2 u x) * x0 (ix4 b d x y)) * x2 (ix2 y v)

/-- The two dense products of one loaded channel, as the body computes them. -/
def chanProd (v0 : Vec Ideal S512x35 .f32) (v1 : Vec Ideal S35x512 .f32) (c : Vec Ideal S1x1x35x35 .f32) : FVec Ideal S512x512 .f32 :=
  matmul (φ₁ := .f32) (φ₂ := .f32) dot_S512x35_S35x512_S512x512_1_0_0_1_n_n none (matmul (φ₁ := .f32) (φ₂ := .f32) dot_S512x35_S35x35_S512x35_1_0_0_1_n_n none v0 (shapeCast (α := Ideal .f32) S35x35 c shapeCasts_S1x1x35x35_S35x35) (constant S512x35 .f32 0x00000000#32)) v1 (constant S512x512 .f32 0x00000000#32)

/-- What the body stores of a channel `c` and the weight channel `w`. -/
def stored (v0 : Vec Ideal S512x35 .f32) (v1 : Vec Ideal S35x512 .f32) (c w : Vec Ideal S1x1x35x35 .f32) : FVec Ideal S1x1x512x512 .f32 :=
  shapeCast S1x1x512x512 (mulf (chanProd v0 v1 c) (divf (broadcast S512x512 (Scalar.ofBits .f32 0x3F800000#32)) (chanProd v0 v1 w))) shapeCasts_S512x512_S1x1x512x512

/-- The products of a loaded channel at an index. -/
theorem chanProd_at (v0 : Vec Ideal S512x35 .f32) (v1 : Vec Ideal S35x512 .f32) (c : Vec Ideal S1x1x35x35 .f32) (u v : Fin 512) :
    chanProd v0 v1 c (ix2 u v)
      = ∑ y : Fin 35, (∑ x : Fin 35, v0 (ix2 u x) * c (ix4 (0 : Fin 1) (0 : Fin 1) x y)) * v1 (ix2 y v) := by
  unfold chanProd
  pointwise

/-- The stored block at an index. -/
theorem stored_at (v0 : Vec Ideal S512x35 .f32) (v1 : Vec Ideal S35x512 .f32) (c w : Vec Ideal S1x1x35x35 .f32) (u v : Fin 512) :
    stored v0 v1 c w (ix4 (0 : Fin 1) (0 : Fin 1) u v) = chanProd v0 v1 c (ix2 u v) * Ideal.div 1 (chanProd v0 v1 w (ix2 u v)) := by
  unfold stored
  pointwise

/-- A loaded channel of a block, its two products at an index. -/
theorem loaded_at (x0 : Vec Ideal S2x4x35x35 .f32) (x1 : Vec Ideal S512x35 .f32) (x2 : Vec Ideal S35x512 .f32)
    (c : Vec Ideal S1x1x35x35 .f32) (b : Fin 2) (d : Fin 4) (u v : Fin 512)
    (hc : ∀ x y : Fin 35, c (ix4 (0 : Fin 1) (0 : Fin 1) x y) = x0 (ix4 b d x y)) :
    chanProd (View.ld x1 r0_0) (View.ld x2 r0_1) c (ix2 u v) = prods x0 x1 x2 b d u v := by
  rw [chanProd_at]
  unfold prods
  refine Finset.sum_congr rfl fun y _ => ?_
  refine congrArg₂ (· * ·) (Finset.sum_congr rfl fun x _ => ?_) ?_
  · rw [hc]; pointwise
  · pointwise

/-- The output block at an index: the products of its channel times the reciprocal of the weight's. -/
theorem out_at (x0 : Vec Ideal S2x4x35x35 .f32) (x1 : Vec Ideal S512x35 .f32) (x2 : Vec Ideal S35x512 .f32)
    (b : Fin 2) (d : Fin 3) (u v : Fin 512) :
    out0_3 x0 x1 x2 (ix4 b d u v)
      = prods x0 x1 x2 b ⟨d.val, by omega⟩ u v * Ideal.div 1 (prods x0 x1 x2 b 3 u v) := by
  have key : ∀ (x : S1x1x512x512.Idx) (c w : Vec Ideal S1x1x35x35 .f32), u.val = (x 2).val → v.val = (x 3).val →
      (∀ p q : Fin 35, c (ix4 (0 : Fin 1) (0 : Fin 1) p q) = x0 (ix4 b ⟨d.val, by omega⟩ p q)) →
      (∀ p q : Fin 35, w (ix4 (0 : Fin 1) (0 : Fin 1) p q) = x0 (ix4 b 3 p q)) →
      stored (View.ld x1 r0_0) (View.ld x2 r0_1) c w x
        = prods x0 x1 x2 b ⟨d.val, by omega⟩ u v * Ideal.div 1 (prods x0 x1 x2 b 3 u v) := by
    intro x c w hu hv hc hw
    have hx : x = ix4 (0 : Fin 1) (0 : Fin 1) u v := by
      rw [eq_ix4 x]
      refine (ix4_inj _ _ _ _ _ _ _ _).mpr ⟨Subsingleton.elim _ _, Subsingleton.elim _ _, Fin.ext hu.symm, Fin.ext hv.symm⟩
    rw [hx, stored_at, loaded_at x0 x1 x2 c b _ u v hc, loaded_at x0 x1 x2 w b 3 u v hw]
  unfold out0_3
  canon_tiles x h
  · obtain rfl : b = 1 := Fin.ext (by simp only [ix4_0] at h0; omega)
    obtain rfl : d = 2 := Fin.ext (by simp only [ix4_1] at h1; omega)
    exact key x (View.ld x0 r0_14) (View.ld x0 r0_9) h2 h3 (fun p q => by pointwise) (fun p q => by pointwise)
  · obtain rfl : b = 1 := Fin.ext (by simp only [ix4_0] at h0; omega)
    obtain rfl : d = 1 := Fin.ext (by simp only [ix4_1] at h1; omega)
    exact key x (View.ld x0 r0_12) (View.ld x0 r0_9) h2 h3 (fun p q => by pointwise) (fun p q => by pointwise)
  · obtain rfl : b = 1 := Fin.ext (by simp only [ix4_0] at h0; omega)
    obtain rfl : d = 0 := Fin.ext (by simp only [ix4_1] at h1; omega)
    exact key x (View.ld x0 r0_10) (View.ld x0 r0_9) h2 h3 (fun p q => by pointwise) (fun p q => by pointwise)
  · obtain rfl : b = 0 := Fin.ext (by simp only [ix4_0] at h0; omega)
    obtain rfl : d = 2 := Fin.ext (by simp only [ix4_1] at h1; omega)
    exact key x (View.ld x0 r0_7) (View.ld x0 r0_2) h2 h3 (fun p q => by pointwise) (fun p q => by pointwise)
  · obtain rfl : b = 0 := Fin.ext (by simp only [ix4_0] at h0; omega)
    obtain rfl : d = 1 := Fin.ext (by simp only [ix4_1] at h1; omega)
    exact key x (View.ld x0 r0_5) (View.ld x0 r0_2) h2 h3 (fun p q => by pointwise) (fun p q => by pointwise)
  · obtain rfl : b = 0 := Fin.ext (by simp only [ix4_0] at h0; omega)
    obtain rfl : d = 0 := Fin.ext (by simp only [ix4_1] at h1; omega)
    exact key x (View.ld x0 r0_3) (View.ld x0 r0_2) h2 h3 (fun p q => by pointwise) (fun p q => by pointwise)

end Cert.Proof
-- ==== Proof.TablesU.lean ====
/- The kernel's dense basis table along u against the reference's four values and four indices per sample. -/
module

public import proofs.«01_k».proof.KernelIdeal
public import proofs.«01_k».proof.ReferenceIdeal
public import Idealize.ShloMosaic.Lib.Decide

@[expose] public section

noncomputable section

namespace Cert.Proof

open Idealize.ShloMosaic

/-- The four control points that sample `u` touches are the consecutive ones from `u / 16` on. -/
theorem index_u : ∀ (u : Fin 512) (i : Fin 4),
    Cert.ReferenceIdeal.lit2 ⟨u.val * 4 + i.val, by omega⟩ = BitVec.ofNat 32 (u.val / 16 + i.val) := by
  decide +kernel

/-- The dense table holds the reference's four values at the sample's four control points and zero elsewhere. -/
theorem dense_u : ∀ (u : Fin 512) (x : Fin 35),
    Cert.KernelIdeal.lit0 ⟨u.val * 35 + x.val, by omega⟩
      = if h : u.val / 16 ≤ x.val ∧ x.val < u.val / 16 + 4 then
          Cert.ReferenceIdeal.lit0 ⟨u.val * 4 + (x.val - u.val / 16), by omega⟩
        else 0#32 := by
  decide +kernel

/-- The reference's four values are the words of positive numbers: the sign is clear, the word is not zero, and the
    exponent is not the one of the infinities. -/
theorem word_u : ∀ (u : Fin 512) (i : Fin 4),
    0 < (Cert.ReferenceIdeal.lit0 ⟨u.val * 4 + i.val, by omega⟩).toNat
      ∧ (Cert.ReferenceIdeal.lit0 ⟨u.val * 4 + i.val, by omega⟩).toNat < 0x7F800000 := by
  decide +kernel

end Cert.Proof
-- ==== Proof.TablesV.lean ====
/- The kernel's dense basis table along v against the reference's four values and four indices per sample. -/
module

public import proofs.«01_k».proof.KernelIdeal
public import proofs.«01_k».proof.ReferenceIdeal
public import Idealize.ShloMosaic.Lib.Decide

@[expose] public section

noncomputable section

namespace Cert.Proof

open Idealize.ShloMosaic

/-- The four control points that sample `v` touches are the consecutive ones from `v / 16` on. -/
theorem index_v : ∀ (v : Fin 512) (i : Fin 4),
    Cert.ReferenceIdeal.lit3 ⟨v.val * 4 + i.val, by omega⟩ = BitVec.ofNat 32 (v.val / 16 + i.val) := by
  decide +kernel

/-- The dense table holds the reference's four values at the sample's four control points and zero elsewhere. -/
theorem dense_v : ∀ (v : Fin 512) (x : Fin 35),
    Cert.KernelIdeal.lit1 ⟨x.val * 512 + v.val, by omega⟩
      = if h : v.val / 16 ≤ x.val ∧ x.val < v.val / 16 + 4 then
          Cert.ReferenceIdeal.lit1 ⟨v.val * 4 + (x.val - v.val / 16), by omega⟩
        else 0#32 := by
  decide +kernel

/-- The reference's four values are the words of positive numbers: the sign is clear, the word is not zero, and the
    exponent is not the one of the infinities. -/
theorem word_v : ∀ (v : Fin 512) (i : Fin 4),
    0 < (Cert.ReferenceIdeal.lit1 ⟨v.val * 4 + i.val, by omega⟩).toNat
      ∧ (Cert.ReferenceIdeal.lit1 ⟨v.val * 4 + i.val, by omega⟩).toNat < 0x7F800000 := by
  decide +kernel

end Cert.Proof
-- ==== Proof.Surface.lean ====
/- The surface: the tensor-product sums of the reference over the extended reals, and the dense sums that equal them. -/
module

public import proofs.«01_k».proof.Proof.TablesU
public import proofs.«01_k».proof.Proof.TablesV
public import Idealize.ShloMosaic.Lib.Pointwise

@[expose] public section

noncomputable section

namespace Cert.Proof

open Idealize.ShloMosaic

/-- Value `i` of the u basis at sample `u`. -/
def nu (u : Fin 512) (i : Fin 4) : EReal :=
  Ideal.ofBits .f32 (Cert.ReferenceIdeal.lit0 ⟨u.val * 4 + i.val, by omega⟩)

/-- Value `j` of the v basis at sample `v`. -/
def nv (v : Fin 512) (j : Fin 4) : EReal :=
  Ideal.ofBits .f32 (Cert.ReferenceIdeal.lit1 ⟨v.val * 4 + j.val, by omega⟩)

/-- The control point that value `i` at sample `u` belongs to. -/
def node (u : Fin 512) (i : Fin 4) : Fin 35 := ⟨u.val / 16 + i.val, by omega⟩

/-- Coordinate `d` of the surface (the weight, for `d = 3`) at the sample `(u, v)` of batch `b`. -/
def surf (X : (⟨4, ![8, 35, 35, 4]⟩ : Shape).Idx → EReal) (b : Fin 8) (u v : Fin 512) (d : Fin 4) : EReal :=
  ∑ j : Fin 4, (∑ i : Fin 4, X (ix4 b (node u i) (node v j) d) * nu u i) * nv v j

/-- The dense u table's entry at `(u, x)`. -/
def au (u : Fin 512) (x : Fin 35) : EReal :=
  Ideal.ofBits .f32 (Cert.KernelIdeal.lit0 ⟨u.val * 35 + x.val, by omega⟩)

/-- The dense v table's entry at `(x, v)`. -/
def av (x : Fin 35) (v : Fin 512) : EReal :=
  Ideal.ofBits .f32 (Cert.KernelIdeal.lit1 ⟨x.val * 512 + v.val, by omega⟩)

/-- A sum over the 35 control points of terms that vanish off the four touched ones is the sum over those four. -/
theorem sum_node (u : Fin 512) (g : Fin 35 → EReal)
    (h0 : ∀ x : Fin 35, ¬ (u.val / 16 ≤ x.val ∧ x.val < u.val / 16 + 4) → g x = 0) :
    ∑ x : Fin 35, g x = ∑ i : Fin 4, g (node u i) := by
  have hinj : Function.Injective (node u) := fun a b h => by
    have := congrArg Fin.val h
    simp only [node] at this
    exact Fin.ext (by omega)
  refine Eq.trans ?_ (Finset.sum_map Finset.univ ⟨node u, hinj⟩ g)
  refine (Finset.sum_subset (Finset.subset_univ _) fun x _ hx => h0 x fun hb => hx ?_).symm
  refine Finset.mem_map.mpr ⟨⟨x.val - u.val / 16, by omega⟩, Finset.mem_univ _, Fin.ext ?_⟩
  show u.val / 16 + (x.val - u.val / 16) = x.val
  omega

/-- A touched control point lies among the four from `u / 16` on. -/
theorem node_mem (u : Fin 512) (i : Fin 4) : u.val / 16 ≤ (node u i).val ∧ (node u i).val < u.val / 16 + 4 := by
  simp only [node]
  omega

/-- The dense u table holds the reference's values at the touched control points. -/
theorem au_node (u : Fin 512) (i : Fin 4) : au u (node u i) = nu u i := by
  unfold au nu
  rw [dense_u u (node u i), dif_pos (node_mem u i)]
  exact congrArg (fun k => Ideal.ofBits .f32 (Cert.ReferenceIdeal.lit0 k)) (Fin.ext (by simp only [node]; omega))

/-- The dense u table is zero elsewhere. -/
theorem au_zero (u : Fin 512) (x : Fin 35) (h : ¬ (u.val / 16 ≤ x.val ∧ x.val < u.val / 16 + 4)) : au u x = 0 := by
  unfold au
  rw [dense_u u x, dif_neg h]
  exact Ideal.ofBits_zero_f32

/-- The dense v table holds the reference's values at the touched control points. -/
theorem av_node (v : Fin 512) (j : Fin 4) : av (node v j) v = nv v j := by
  unfold av nv
  rw [dense_v v (node v j), dif_pos (node_mem v j)]
  exact congrArg (fun k => Ideal.ofBits .f32 (Cert.ReferenceIdeal.lit1 k)) (Fin.ext (by simp only [node]; omega))

/-- The dense v table is zero elsewhere. -/
theorem av_zero (v : Fin 512) (x : Fin 35) (h : ¬ (v.val / 16 ≤ x.val ∧ x.val < v.val / 16 + 4)) : av x v = 0 := by
  unfold av
  rw [dense_v v x, dif_neg h]
  exact Ideal.ofBits_zero_f32

/-- The kernel's two dense products are the surface: along u, then along v. -/
theorem dense_surf (X : (⟨4, ![8, 35, 35, 4]⟩ : Shape).Idx → EReal) (b : Fin 8) (u v : Fin 512) (d : Fin 4) :
    ∑ y : Fin 35, (∑ x : Fin 35, au u x * X (ix4 b x y d)) * av y v = surf X b u v d := by
  rw [sum_node v _ fun y hy => by rw [av_zero v y hy, mul_zero]]
  refine Finset.sum_congr rfl fun j _ => ?_
  rw [av_node, sum_node u _ fun x hx => by rw [au_zero u x hx, zero_mul]]
  congr 1
  refine Finset.sum_congr rfl fun i _ => ?_
  rw [au_node, mul_comm]

/-- Multiplying by the reciprocal is dividing, off `0 / 0`. -/
theorem mul_recip (x y : EReal) (h : x ≠ 0 ∨ y ≠ 0) : x * Ideal.div 1 y = Ideal.div x y := by
  unfold Ideal.div
  by_cases hy : y = 0
  · rw [if_pos hy, if_pos hy, if_pos zero_lt_one]
    rcases lt_trichotomy x 0 with hx | hx | hx
    · rw [if_neg (not_lt.mpr hx.le), EReal.mul_top_of_neg hx]
    · exact absurd hx (h.resolve_right (fun k => k hy))
    · rw [if_pos hx, EReal.mul_top_of_pos hx]
  · rw [if_neg hy, if_neg hy, one_mul]

end Cert.Proof
-- ==== Proof.KernelValue.lean ====
/- The value the kernel leaves: its result array read at an index, and the run that ends there. -/
module

public import proofs.«01_k».proof.Proof.KernelBlock
public import proofs.«01_k».proof.Proof.Surface
public import Idealize.ShloMosaic.Lib.Claim

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Where each window's block lies at a grid point: the input and the output move along the batch, the two tables
    stay. -/
theorem idx : ∀ t : Fin cfg0.N, (cfg0.win 0).index t = ![t.val, 0, 0, 0] ∧ (cfg0.win 1).index t = ![0, 0]
    ∧ (cfg0.win 2).index t = ![0, 0] ∧ (cfg0.win 3).index t = ![t.val, 0, 0, 0] := by decide +kernel

/-- The transposed input as the region finds it. -/
theorem entry_input (c : Dev nD) : V m c main_call0_v0
    = transpose S8x4x35x35 [0, 3, 1, 2] (m ((c : Thread nD τ).loc main_arg0) : Vec Ideal S8x35x35x4 .f32) transposes_S8x35x35x4_S8x4x35x35_0_3_1_2 := by
  unfold V V0 hostOps0
  simp only [List.flatten_cons, List.flatten_nil, List.append_nil]
  after_results
  rfl

/-- The dense u table as the region finds it. -/
theorem entry_u (c : Dev nD) : V m c main_call0_cst
    = fun i : S512x35.Idx => (FloatOps.ofBits .f32 (lit0 (S512x35.rowMajor i)) : Ideal .f32) := by
  unfold V V0 hostOps0
  simp only [List.flatten_cons, List.flatten_nil, List.append_nil]
  after_results
  rfl

/-- The dense v table as the region finds it. -/
theorem entry_v (c : Dev nD) : V m c main_call0_cst_0
    = fun i : S35x512.Idx => (FloatOps.ofBits .f32 (lit1 (S35x512.rowMajor i)) : Ideal .f32) := by
  unfold V V0 hostOps0
  simp only [List.flatten_cons, List.flatten_nil, List.append_nil]
  after_results
  rfl

/-- The block of the transposed input at a grid point, read off the input. -/
theorem block_input (c : Dev nD) (t : Fin cfg0.N) (b : Fin 2) (d : Fin 4) (x y : Fin 35) (B : Fin 8)
    (hB : B.val = t.val * 2 + b.val) :
    iblk m c 0 t (ix4 b d x y) = m ((c : Thread nD τ).loc main_arg0) (ix4 B x y d) := by
  have e : iblk m c 0 t (ix4 b d x y) = (V m c main_call0_v0 : Vec Ideal S8x4x35x35 .f32) (ix4 B d x y) := by
    blk_ext [iblk, idx t]
  rw [e, entry_input]
  pointwise

/-- The block of the dense u table. -/
theorem block_u (c : Dev nD) (t : Fin cfg0.N) (u : Fin 512) (x : Fin 35) :
    iblk m c 1 t (ix2 u x) = au u x := by
  have e : iblk m c 1 t (ix2 u x) = (V m c main_call0_cst : Vec Ideal S512x35 .f32) (ix2 u x) := by
    blk_ext [iblk, idx t]
  rw [e, entry_u]
  exact congrArg (fun k => Ideal.ofBits .f32 (lit0 k)) (Fin.ext (rowMajor_val2 _ 35 rfl))

/-- The block of the dense v table. -/
theorem block_v (c : Dev nD) (t : Fin cfg0.N) (x : Fin 35) (v : Fin 512) :
    iblk m c 2 t (ix2 x v) = av x v := by
  have e : iblk m c 2 t (ix2 x v) = (V m c main_call0_cst_0 : Vec Ideal S35x512 .f32) (ix2 x v) := by
    blk_ext [iblk, idx t]
  rw [e, entry_v]
  exact congrArg (fun k => Ideal.ofBits .f32 (lit1 k)) (Fin.ext (rowMajor_val2 _ 512 rfl))

/-- The two dense products over a grid point's blocks are the surface at the point's batch element. -/
theorem prods_surf (c : Dev nD) (t : Fin cfg0.N) (b : Fin 2) (d : Fin 4) (u v : Fin 512) (B : Fin 8)
    (hB : B.val = t.val * 2 + b.val) :
    prods (iblk m c 0 t) (iblk m c 1 t) (iblk m c 2 t) b d u v = surf (m ((c : Thread nD τ).loc main_arg0)) B u v d := by
  rw [← dense_surf]
  unfold prods
  refine Finset.sum_congr rfl fun y _ => congrArg₂ (· * ·) (Finset.sum_congr rfl fun x _ => ?_) (block_v m c t y v)
  exact congrArg₂ (· * ·) (block_u m c t u x) (block_input m c t b d x y B hB)

/-- The region's result array at an index. -/
def surfArr (c : Dev nD) : Buf (Elt Ideal) ((c : Thread nD τ).loc main_call0_v1) := fun i : S8x3x512x512.Idx =>
  surf (m ((c : Thread nD τ).loc main_arg0)) (i 0) (i 2) (i 3) ⟨(i 1).val, Nat.lt_trans (i 1).isLt (by decide)⟩
    * Ideal.div 1 (surf (m ((c : Thread nD τ).loc main_arg0)) (i 0) (i 2) (i 3) 3)

/-- After the run the region's result array is `surfArr`. -/
theorem final (c : Dev nD) : (dats m 0 c).arrAt 3 (cfgs 0).N = surfArr m c := by
  refine (dats m 0 c).arrAt_eq_of_covers 3 _ (by decide +kernel) fun t hf y => ?_
  obtain ⟨i0, i1, i2, i3⟩ := idx t
  blk_simp [i3]
  rw [after0_3]
  have ht : t.val < 4 := t.isLt
  have key : ∀ (b : Fin 2) (d : Fin 3) (u v : Fin 512),
      out0_3 (iblk m c 0 t) (iblk m c 1 t) (iblk m c 2 t) (ix4 b d u v)
        = (surfArr m c : Vec Ideal S8x3x512x512 .f32) (ix4 (⟨t.val * 2 + b.val, by omega⟩ : Fin 8) d u v) := by
    intro b d u v
    rw [out_at, prods_surf m c t b _ u v ⟨t.val * 2 + b.val, by omega⟩ rfl,
      prods_surf m c t b _ u v ⟨t.val * 2 + b.val, by omega⟩ rfl]
    rfl
  have hy := eq_ix4 (n0 := 2) (n1 := 3) (n2 := 512) (n3 := 512) y
  refine (congrArg (out0_3 (iblk m c 0 t) (iblk m c 1 t) (iblk m c 2 t)) hy).trans ((key _ _ _ _).trans ?_)
  blk_ext [i3]

/-- What the line after the region leaves in the program's result. -/
theorem tail_at (c : Dev nD) : Pipeline.afterTail₀ cfgs (dats m) 0 (V0 m) [hostOps1] c main_v0
    = (transpose S8x512x512x3 [0, 2, 3, 1] (surfArr m c : Vec Ideal S8x3x512x512 .f32) transposes_S8x3x512x512_S8x512x512x3_0_2_3_1) := by
  unfold Pipeline.afterTail₀
  unfold hostOps1
  simp only [List.flatten_cons, List.flatten_nil, List.append_nil]
  after_results
  have h : Pipeline.withArrays (cfgs 0).spec c (V0 m c) (fun w => (dats m 0 c).arrAt w (cfgs 0).N)
      (Proc.devRef .tc main_call0_v1) = surfArr m c :=
    (Pipeline.withArrays_arr (cfgs 0).spec launch0.win.arr_inj c (V0 m c) (fun w => (dats m 0 c).arrAt w (cfgs 0).N) 3).trans
      (final m c)
  exact congrArg (fun x : Vec Ideal S8x3x512x512 .f32 => transpose S8x512x512x3 [0, 2, 3, 1] x transposes_S8x3x512x512_S8x512x512x3_0_2_3_1) h

/-- The kernel's result array. -/
def kernelOut (c : Dev nD) : Buf (Elt Ideal) ((c : Thread nD τ).loc main_v0) :=
  (transpose S8x512x512x3 [0, 2, 3, 1] (surfArr m c : Vec Ideal S8x3x512x512 .f32) transposes_S8x3x512x512_S8x512x512x3_0_2_3_1)

/-- The kernel's result at an index: a coordinate of the surface times the reciprocal of its weight. -/
theorem kernelOut_at (c : Dev nD) (b : Fin 8) (u v : Fin 512) (d : Fin 3) :
    (kernelOut m c : Vec Ideal S8x512x512x3 .f32) (ix4 b u v d)
      = surf (m ((c : Thread nD τ).loc main_arg0)) b u v ⟨d.val, by omega⟩
        * Ideal.div 1 (surf (m ((c : Thread nD τ).loc main_arg0)) b u v 3) := by
  have e : (kernelOut m c : Vec Ideal S8x512x512x3 .f32) (ix4 b u v d) = (surfArr m c : Vec Ideal S8x3x512x512 .f32) (ix4 b d u v) := by
    unfold kernelOut
    pointwise
  exact e

/-- The kernel's run: its result array ends at `kernelOut` and its argument is unchanged. -/
theorem kernel_run : θ_run defs (onTc (τ := τ) (main (F := Ideal))) ⟨m, fun _ => 0, ρ⟩ fun r => ∀ c : Dev nD,
    r.2.mem ((c.tc : Thread nD τ).loc main_v0) = kernelOut m c
      ∧ r.2.mem ((c.tc : Thread nD τ).loc main_arg0) = m ((c.tc : Thread nD τ).loc main_arg0) :=
  (θ_run defs _ _).mono (fun _ h c =>
      ⟨((h c).2 main_v0 (Pipeline.mem_restRefs_of main_v0 (by decide) (by decide))).trans (tail_at m c),
        ((h c).2 main_arg0 (Pipeline.mem_restRefs_of main_arg0 (by decide) (by decide))).trans (W_main_arg0 m (dats m) c)⟩)
    (run_main m ρ)

end Cert.Proof
-- ==== Proof.Gather.lean ====
/- The two gathers of the reference read at an index: rows of control points along u, then along v. -/
module

public import Idealize.ShloMosaic.Lib.Pointwise

@[expose] public section

noncomputable section

namespace Cert.Proof

open Idealize.ShloMosaic

variable {α : Type}

/-- The dimension numbers of the gather along u. -/
abbrev uDims (wf : GatherDims.WF ⟨4, ![8, 35, 35, 4]⟩ ⟨3, ![512, 4, 1]⟩ ⟨5, ![8, 512, 4, 35, 4]⟩ [0, 3, 4] [1] [] [1] [] 2 ![8, 1, 35, 4]) :
    GatherDims ⟨4, ![8, 35, 35, 4]⟩ ⟨3, ![512, 4, 1]⟩ ⟨5, ![8, 512, 4, 35, 4]⟩ where
  offsetDims := [0, 3, 4]
  collapsedSliceDims := [1]
  operandBatchingDims := []
  startIndicesBatchingDims := []
  startIndexMap := [1]
  indexVectorDim := 2
  sliceSizes := ![8, 1, 35, 4]
  wf := wf

/-- Where the index table holds `n` at `(u, i)`, the gather along u reads row `n` of the operand. -/
theorem gather_u (wf) (x : (⟨4, ![8, 35, 35, 4]⟩ : Shape).Idx → α) (idx : IVec ⟨3, ![512, 4, 1]⟩ 32)
    (b : Fin 8) (u : Fin 512) (i : Fin 4) (y : Fin 35) (d : Fin 4) (n : Fin 35)
    (hn : idx (ix3 u i (0 : Fin 1)) = BitVec.ofNat 32 n.val) :
    Host.gather (uDims wf) x idx (ix5 b u i y d) = x (ix4 b n y d) := by
  unfold Host.gather
  refine congrArg x (funext fun a => Fin.ext ?_)
  show (uDims wf).start (ix5 b u i y d) idx a + (uDims wf).batchCoord (ix5 b u i y d) a
      + (uDims wf).offCoord (ix5 b u i y d) a = _
  rw [GatherDims.batchCoord_eq_zero _ _ _ List.not_mem_nil]
  have hc : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hc with rfl | rfl | rfl | rfl
  · unfold GatherDims.start
    rw [dif_neg (show ¬ (0 : Fin 4) ∈ ([1] : List (Fin 4)) by decide)]
    show 0 + 0 + b.val = b.val
    omega
  · rw [GatherDims.offCoord_eq_zero _ _ _ (fun h => ((GatherDims.mem_sKept _ _).mp h).1 (List.mem_singleton.mpr rfl))]
    unfold GatherDims.start
    rw [dif_pos (List.mem_singleton.mpr rfl)]
    have hs : (uDims wf).siIdx (ix5 b u i y d) ⟨List.idxOf (1 : Fin 4) (uDims wf).startIndexMap,
        List.idxOf_lt_length_iff.2 (List.mem_singleton.mpr rfl)⟩ = ix3 u i (0 : Fin 1) := by
      funext c; refine Fin.ext ?_
      match c with
      | ⟨0, _⟩ => rfl
      | ⟨1, _⟩ => rfl
      | ⟨2, _⟩ => rfl
    show min (idx ((uDims wf).siIdx (ix5 b u i y d) ⟨List.idxOf (1 : Fin 4) (uDims wf).startIndexMap, _⟩)).toInt.toNat (35 - 1) + 0 + 0 = n.val
    rw [hs, hn]
    have hN := n.isLt
    rw [BitVec.toInt_eq_toNat_of_lt (by simp [BitVec.toNat_ofNat]; omega), BitVec.toNat_ofNat,
      Nat.mod_eq_of_lt (by omega)]
    simp
    omega
  · unfold GatherDims.start
    rw [dif_neg (show ¬ (2 : Fin 4) ∈ ([1] : List (Fin 4)) by decide)]
    show 0 + 0 + y.val = y.val
    omega
  · unfold GatherDims.start
    rw [dif_neg (show ¬ (3 : Fin 4) ∈ ([1] : List (Fin 4)) by decide)]
    show 0 + 0 + d.val = d.val
    omega

/-- The dimension numbers of the gather along v. -/
abbrev vDims (wf : GatherDims.WF ⟨4, ![8, 512, 35, 4]⟩ ⟨3, ![512, 4, 1]⟩ ⟨5, ![8, 512, 512, 4, 4]⟩ [0, 1, 4] [2] [] [2] [] 2 ![8, 512, 1, 4]) :
    GatherDims ⟨4, ![8, 512, 35, 4]⟩ ⟨3, ![512, 4, 1]⟩ ⟨5, ![8, 512, 512, 4, 4]⟩ where
  offsetDims := [0, 1, 4]
  collapsedSliceDims := [2]
  operandBatchingDims := []
  startIndicesBatchingDims := []
  startIndexMap := [2]
  indexVectorDim := 2
  sliceSizes := ![8, 512, 1, 4]
  wf := wf

/-- Where the index table holds `n` at `(v, j)`, the gather along v reads column `n` of the operand. -/
theorem gather_v (wf) (x : (⟨4, ![8, 512, 35, 4]⟩ : Shape).Idx → α) (idx : IVec ⟨3, ![512, 4, 1]⟩ 32)
    (b : Fin 8) (u v : Fin 512) (j : Fin 4) (d : Fin 4) (n : Fin 35)
    (hn : idx (ix3 v j (0 : Fin 1)) = BitVec.ofNat 32 n.val) :
    Host.gather (vDims wf) x idx (ix5 b u v j d) = x (ix4 b u n d) := by
  unfold Host.gather
  refine congrArg x (funext fun a => Fin.ext ?_)
  show (vDims wf).start (ix5 b u v j d) idx a + (vDims wf).batchCoord (ix5 b u v j d) a
      + (vDims wf).offCoord (ix5 b u v j d) a = _
  rw [GatherDims.batchCoord_eq_zero _ _ _ List.not_mem_nil]
  have hc : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hc with rfl | rfl | rfl | rfl
  · unfold GatherDims.start
    rw [dif_neg (show ¬ (0 : Fin 4) ∈ ([2] : List (Fin 4)) by decide)]
    show 0 + 0 + b.val = b.val
    omega
  · unfold GatherDims.start
    rw [dif_neg (show ¬ (1 : Fin 4) ∈ ([2] : List (Fin 4)) by decide)]
    show 0 + 0 + u.val = u.val
    omega
  · rw [GatherDims.offCoord_eq_zero _ _ _ (fun h => ((GatherDims.mem_sKept _ _).mp h).1 (List.mem_singleton.mpr rfl))]
    unfold GatherDims.start
    rw [dif_pos (List.mem_singleton.mpr rfl)]
    have hs : (vDims wf).siIdx (ix5 b u v j d) ⟨List.idxOf (2 : Fin 4) (vDims wf).startIndexMap,
        List.idxOf_lt_length_iff.2 (List.mem_singleton.mpr rfl)⟩ = ix3 v j (0 : Fin 1) := by
      funext c; refine Fin.ext ?_
      match c with
      | ⟨0, _⟩ => rfl
      | ⟨1, _⟩ => rfl
      | ⟨2, _⟩ => rfl
    show min (idx ((vDims wf).siIdx (ix5 b u v j d) ⟨List.idxOf (2 : Fin 4) (vDims wf).startIndexMap, _⟩)).toInt.toNat (35 - 1) + 0 + 0 = n.val
    rw [hs, hn]
    have hN := n.isLt
    rw [BitVec.toInt_eq_toNat_of_lt (by simp [BitVec.toNat_ofNat]; omega), BitVec.toNat_ofNat,
      Nat.mod_eq_of_lt (by omega)]
    simp
    omega
  · unfold GatherDims.start
    rw [dif_neg (show ¬ (3 : Fin 4) ∈ ([2] : List (Fin 4)) by decide)]
    show 0 + 0 + d.val = d.val
    omega

end Cert.Proof
-- ==== Proof.RefValue.lean ====
/- The reference's result read at an index. -/
module

public import proofs.«01_k».proof.Proof.Surface
public import proofs.«01_k».proof.Proof.Gather
public import proofs.«01_k».proof.Proof.Gen.ReferenceIdeal

@[expose] public section

noncomputable section

namespace Cert.Proof

open Idealize.ShloMosaic Cert.ReferenceIdeal Cert.ReferenceIdeal.Gen

/-- A control point's number is not negative, so the reference's wrapping of negative indices keeps it. -/
theorem wrap_keep : ∀ n : Fin 35,
    Scalar.select (IntOp.cmpi CmpIPredicate.slt (BitVec.ofNat 32 n.val) 0#32) (IntOp.addi (BitVec.ofNat 32 n.val) 35#32)
      (BitVec.ofNat 32 n.val) = BitVec.ofNat 32 n.val := by
  decide +kernel

/-- Where entry `(u, i)` of a `[512, 4]` table stands in the row-major order. -/
theorem row_major_4 (u : Fin 512) (i : Fin 4) :
    (⟨2, ![512, 4]⟩ : Shape).rowMajor (ix2 u i) = ⟨u.val * 4 + i.val, by show _ < 2048; omega⟩ :=
  Fin.ext (rowMajor_val2 _ 4 rfl)

/-- An index table of the reference, its negative entries wrapped, as a gather takes it. -/
def wrapped (t : Fin 2048 → BitVec 32) : IVec S512x4x1 32 :=
  broadcastInDim S512x4x1 ![0, 1] bcast_S512x4_S512x4x1_0_1 (select (cmpi .slt ((fun i => t (S512x4.rowMajor i))) (broadcastInDim S512x4 ![] bcast_S_S512x4 (constantI S_ 32 0#32))) (addi ((fun i => t (S512x4.rowMajor i))) (broadcastInDim S512x4 ![] bcast_S_S512x4 (constantI S_ 32 35#32))) ((fun i => t (S512x4.rowMajor i))))

/-- Entry `(u, i)` of a wrapped index table is the control point it holds there. -/
theorem wrapped_at (t : Fin 2048 → BitVec 32) (u : Fin 512) (i : Fin 4)
    (h : t ⟨u.val * 4 + i.val, by omega⟩ = BitVec.ofNat 32 (node u i).val) :
    wrapped t (ix3 u i (0 : Fin 1)) = BitVec.ofNat 32 (node u i).val := by
  unfold wrapped
  pointwise
  rw [row_major_4]
  exact (congrArg (fun w => Scalar.select (IntOp.cmpi CmpIPredicate.slt w 0#32) (IntOp.addi w 35#32) w) h).trans
    (wrap_keep (node u i))

/-- The reference's first contraction: control points gathered and summed along u. -/
def refT (X : FVec Ideal S8x35x35x4 .f32) : FVec Ideal S8x512x35x4 .f32 :=
  transpose S8x512x35x4 [1, 0, 2, 3] (Host.dotGeneral dot_S8x512x4x35x4_S512x4_S512x8x35x4_2_1_034_n_1_0 none (Host.gather gather_S8x35x35x4_S512x4x1_S8x512x4x35x4_034_1_n_n_1_2_81354 X (wrapped lit2)) ((fun i => FloatOps.ofBits (F := Ideal) .f32 (lit0 (S512x4.rowMajor i))))) transposes_S512x8x35x4_S8x512x35x4_1_0_2_3

/-- The reference's second contraction: the first one's result gathered and summed along v. -/
def refS (X : FVec Ideal S8x35x35x4 .f32) : FVec Ideal S8x512x512x4 .f32 :=
  transpose S8x512x512x4 [1, 2, 0, 3] (Host.dotGeneral dot_S8x512x512x4x4_S512x4_S512x8x512x4_3_1_014_n_2_0 none (Host.gather gather_S8x512x35x4_S512x4x1_S8x512x512x4x4_014_2_n_n_2_2_851214 (refT X) (wrapped lit3)) ((fun i => FloatOps.ofBits (F := Ideal) .f32 (lit1 (S512x4.rowMajor i))))) transposes_S512x8x512x4_S8x512x512x4_1_2_0_3

/-- The reference's result: the coordinates divided by the weight. -/
def refOut (X : FVec Ideal S8x35x35x4 .f32) : FVec Ideal S8x512x512x3 .f32 :=
  Host.divf (extractStridedSlice S8x512x512x3 ![0, 0, 0, 0] (refS X) slices_S8x512x512x4_S8x512x512x3_0_0_0_0) (broadcastInDim S8x512x512x3 ![0, 1, 2, 3] bcast_S8x512x512x1_S8x512x512x3_0_1_2_3 (broadcastInDim S8x512x512x1 ![0, 1, 2] bcast_S8x512x512_S8x512x512x1_0_1_2 (shapeCast _ (extractStridedSlice S8x512x512x1 ![0, 0, 0, 3] (refS X) slices_S8x512x512x4_S8x512x512x1_0_0_0_3) shapeCasts_S8x512x512x1_S8x512x512)))

/-- The first contraction at an index. -/
theorem refT_at (X : FVec Ideal S8x35x35x4 .f32) (b : Fin 8) (u : Fin 512) (y : Fin 35) (d : Fin 4) :
    refT X (ix4 b u y d) = ∑ i : Fin 4, X (ix4 b (node u i) y d) * nu u i := by
  unfold refT
  pointwise
  refine Finset.sum_congr rfl fun i _ => ?_
  rw [row_major_4]
  exact congrArg₂ _ (gather_u _ X _ b u i y d (node u i) (wrapped_at lit2 u i (index_u u i))) rfl

/-- The second contraction at an index is the surface. -/
theorem refS_at (X : FVec Ideal S8x35x35x4 .f32) (b : Fin 8) (u v : Fin 512) (d : Fin 4) :
    refS X (ix4 b u v d) = surf X b u v d := by
  unfold refS surf
  pointwise
  refine Finset.sum_congr rfl fun j _ => ?_
  rw [row_major_4, ← refT_at]
  exact congrArg₂ _ (gather_v _ (refT X) _ b u v j d (node v j) (wrapped_at lit3 v j (index_v v j))) rfl

/-- The reference's result at an index: a coordinate of the surface over its weight. -/
theorem refOut_at (X : FVec Ideal S8x35x35x4 .f32) (b : Fin 8) (u v : Fin 512) (d : Fin 3) :
    refOut X (ix4 b u v d) = Ideal.div (surf X b u v ⟨d.val, by omega⟩) (surf X b u v 3) := by
  unfold refOut
  pointwise
  rw [← refS_at, ← refS_at]

end Cert.Proof
-- ==== Proof.TablesMask.lean ====
/- The mask's four literal tables are the reference's. -/
module

public import proofs.«01_k».proof.On_quotient_defined
public import proofs.«01_k».proof.ReferenceIdeal

@[expose] public section

noncomputable section

namespace Cert.Proof

open Idealize.ShloMosaic

/-- The mask's u indices are the reference's. -/
theorem mask_index_u : Cert.On_quotient_defined.lit0 = Cert.ReferenceIdeal.lit2 := rfl

/-- The mask's u values are the reference's. -/
theorem mask_value_u : Cert.On_quotient_defined.lit1 = Cert.ReferenceIdeal.lit0 := rfl

/-- The mask's v indices are the reference's. -/
theorem mask_index_v : Cert.On_quotient_defined.lit2 = Cert.ReferenceIdeal.lit3 := rfl

/-- The mask's v values are the reference's. -/
theorem mask_value_v : Cert.On_quotient_defined.lit3 = Cert.ReferenceIdeal.lit1 := rfl

end Cert.Proof
-- ==== Proof.MaskValue.lean ====
/- The mask read at an index: it holds exactly where the numerator or the weight is not zero. -/
module

public import proofs.«01_k».proof.Proof.TablesMask
public import proofs.«01_k».proof.Proof.RefValue
public import proofs.«01_k».proof.Proof.Gen.On_quotient_defined

@[expose] public section

noncomputable section

namespace Cert.Proof

open Idealize.ShloMosaic Cert.On_quotient_defined Cert.On_quotient_defined.Gen

/-- The mask's first sum: control points gathered, scaled and summed along u. -/
def maskT (X : FVec Ideal S8x35x35x4 .f32) : FVec Ideal S8x512x35x4 .f32 :=
  Host.reduceAdd (mulf (broadcastInDim S8x512x4x35x4 ![0, 1, 2, 3, 4] bcast_S1x512x4x1x1_S8x512x4x35x4_0_1_2_3_4 (broadcastInDim S1x512x4x1x1 ![1, 2, 3, 4] bcast_S512x4x1x1_S1x512x4x1x1_1_2_3_4 (broadcastInDim S512x4x1x1 ![0, 1] bcast_S512x4_S512x4x1x1_0_1 (fun i => FloatOps.ofBits (F := Ideal) .f32 (lit1 (S512x4.rowMajor i)))))) (Host.gather gather_S8x35x35x4_S512x4x1_S8x512x4x35x4_034_1_n_n_1_2_81354 X (wrapped lit0))) (constant S_ .f32 0x00000000#32) reducesTo_S8x512x4x35x4_S8x512x35x4_d2 h_S_

/-- The mask's second sum: the first one's result gathered, scaled and summed along v. -/
def maskS (X : FVec Ideal S8x35x35x4 .f32) : FVec Ideal S8x512x512x4 .f32 :=
  Host.reduceAdd (mulf (broadcastInDim S8x512x512x4x4 ![0, 1, 2, 3, 4] bcast_S1x1x512x4x1_S8x512x512x4x4_0_1_2_3_4 (broadcastInDim S1x1x512x4x1 ![2, 3, 4] bcast_S512x4x1_S1x1x512x4x1_2_3_4 (broadcastInDim S512x4x1 ![0, 1] bcast_S512x4_S512x4x1_0_1 (fun i => FloatOps.ofBits (F := Ideal) .f32 (lit3 (S512x4.rowMajor i)))))) (Host.gather gather_S8x512x35x4_S512x4x1_S8x512x512x4x4_014_2_n_n_2_2_851214 (maskT X) (wrapped lit2))) (constant S_ .f32 0x00000000#32) reducesTo_S8x512x512x4x4_S8x512x512x4_d3 h_S_

/-- The mask from its second sum: a coordinate or the weight is not zero. -/
def maskOut (X : FVec Ideal S8x35x35x4 .f32) : IVec S8x512x512x3 1 :=
  ori (cmpf .une (extractStridedSlice S8x512x512x3 ![0, 0, 0, 0] (maskS X) slices_S8x512x512x4_S8x512x512x3_0_0_0_0) (broadcastInDim S8x512x512x3 ![] bcast_S_S8x512x512x3 (constant S_ .f32 0x00000000#32)))
    (broadcastInDim S8x512x512x3 ![0, 1, 2, 3] bcast_S8x512x512x1_S8x512x512x3_0_1_2_3 (cmpf .une (broadcastInDim S8x512x512x1 ![0, 1, 2] bcast_S8x512x512_S8x512x512x1_0_1_2 (shapeCast S8x512x512 (extractStridedSlice S8x512x512x1 ![0, 0, 0, 3] (maskS X) slices_S8x512x512x4_S8x512x512x1_0_0_0_3) shapeCasts_S8x512x512x1_S8x512x512)) (broadcastInDim S8x512x512x1 ![] bcast_S_S8x512x512x1 (constant S_ .f32 0x00000000#32))))

/-- The printed mask is `maskOut`. -/
theorem mask_fn (X : FVec Ideal S8x35x35x4 .f32) : Cert.On_quotient_defined.fn X = maskOut X := by
  rfl

/-- The first sum at an index. -/
theorem maskT_at (X : FVec Ideal S8x35x35x4 .f32) (b : Fin 8) (u : Fin 512) (y : Fin 35) (d : Fin 4) :
    maskT X (ix4 b u y d) = ∑ i : Fin 4, X (ix4 b (node u i) y d) * nu u i := by
  unfold maskT
  pointwise
  refine Finset.sum_congr rfl fun i _ => ?_
  rw [row_major_4, mul_comm]
  exact congrArg₂ _ (gather_u _ X _ b u i y d (node u i) (wrapped_at lit0 u i ((congrFun mask_index_u _).trans (index_u u i))))
    (congrArg (Ideal.ofBits .f32) (congrFun mask_value_u _))

/-- The second sum at an index is the surface. -/
theorem maskS_at (X : FVec Ideal S8x35x35x4 .f32) (b : Fin 8) (u v : Fin 512) (d : Fin 4) :
    maskS X (ix4 b u v d) = surf X b u v d := by
  unfold maskS surf
  pointwise
  refine Finset.sum_congr rfl fun j _ => ?_
  rw [row_major_4, ← maskT_at, mul_comm]
  exact congrArg₂ _ (gather_v _ (maskT X) _ b u v j d (node v j) (wrapped_at lit2 v j ((congrFun mask_index_v _).trans (index_v v j))))
    (congrArg (Ideal.ofBits .f32) (congrFun mask_value_v _))

/-- Two one-bit tests joined by "or" hold when one of them does. -/
theorem or_bits (p q : Prop) [Decidable p] [Decidable q] (h : IntOp.ori (BitVec.ofBool (decide p)) (BitVec.ofBool (decide q)) = 1#1) :
    p ∨ q := by
  by_cases hp : p
  · exact Or.inl hp
  · by_cases hq : q
    · exact Or.inr hq
    · rw [decide_eq_false hp, decide_eq_false hq] at h
      exact absurd h (by decide)

/-- Where the mask holds, the coordinate or the weight is not zero. -/
theorem mask_at (X : FVec Ideal S8x35x35x4 .f32) (b : Fin 8) (u v : Fin 512) (d : Fin 3)
    (h : Cert.On_quotient_defined.fn X (ix4 b u v d) = 1#1) :
    surf X b u v ⟨d.val, by omega⟩ ≠ 0 ∨ surf X b u v 3 ≠ 0 := by
  rw [mask_fn] at h
  unfold maskOut at h
  pointwise at h
  rw [maskS_at, maskS_at] at h
  exact or_bits _ _ h

end Cert.Proof
-- ==== Proof.Positive.lean ====
/- Where every control point's weight is positive the surface's weight is positive. -/
module

public import proofs.«01_k».proof.Proof.Surface
public import proofs.«01_k».proof.Proof.Gen.Pre_weights_positive

@[expose] public section

noncomputable section

namespace Cert.Proof

open Idealize.ShloMosaic

/-- A word of the f32 format between zero and infinity denotes a positive number. -/
theorem ofBits_pos (w : BitVec 32) (h0 : 0 < w.toNat) (h1 : w.toNat < 0x7F800000) : 0 < Ideal.ofBits .f32 w := by
  show 0 < Ideal.ieee 8 23 w
  have hs : (w.extractLsb' (8 + 23) 1 == 1#1) = false := by
    rw [beq_eq_false_iff_ne]
    intro e
    have e' := congrArg BitVec.toNat e
    simp only [BitVec.extractLsb'_toNat, Nat.shiftRight_eq_div_pow] at e'
    have : w.toNat / 2 ^ (8 + 23) = 0 := Nat.div_eq_of_lt (by omega)
    rw [this] at e'
    exact absurd e' (by decide)
  have hx : (w.extractLsb' 23 8).toNat = w.toNat / 2 ^ 23 := by
    simp only [BitVec.extractLsb'_toNat, Nat.shiftRight_eq_div_pow]
    omega
  have hf : (w.extractLsb' 0 23).toNat = w.toNat % 2 ^ 23 := by
    simp only [BitVec.extractLsb'_toNat, Nat.shiftRight_zero]
  unfold Ideal.ieee
  simp only [hs, hx, hf, Bool.false_eq_true, if_false, one_mul]
  rw [if_neg (by omega)]
  by_cases hz : w.toNat / 2 ^ 23 = 0
  · have hn : 0 < w.toNat % 2 ^ 23 := by omega
    rw [if_pos hz, EReal.coe_pos]
    exact mul_pos (Nat.cast_pos.mpr hn) (zpow_pos two_pos _)
  · rw [if_neg hz, EReal.coe_pos]
    exact mul_pos (Nat.cast_pos.mpr (by omega)) (zpow_pos two_pos _)

/-- Every value of the u basis is positive. -/
theorem nu_pos (u : Fin 512) (i : Fin 4) : 0 < nu u i := ofBits_pos _ (word_u u i).1 (word_u u i).2

/-- Every value of the v basis is positive. -/
theorem nv_pos (v : Fin 512) (j : Fin 4) : 0 < nv v j := ofBits_pos _ (word_v v j).1 (word_v v j).2

/-- A sum of four positive extended reals is positive. -/
theorem sum_pos_4 (f : Fin 4 → EReal) (h : ∀ i, 0 < f i) : 0 < ∑ i : Fin 4, f i := by
  rw [Fin.sum_univ_castSucc]
  exact lt_of_lt_of_le (h _) (le_add_of_nonneg_left (Finset.sum_nonneg fun i _ => (h _).le))

/-- The surface's weight is positive where every control point's is. -/
theorem surf_pos (X : (⟨4, ![8, 35, 35, 4]⟩ : Shape).Idx → EReal) (h : ∀ b x y, 0 < X (ix4 b x y 3))
    (b : Fin 8) (u v : Fin 512) : 0 < surf X b u v 3 :=
  sum_pos_4 _ fun j => EReal.mul_pos (sum_pos_4 _ fun i => EReal.mul_pos (h _ _ _) (nu_pos u i)) (nv_pos v j)

/-- What the precondition states: every weight is positive. -/
theorem weights_pos (X : FVec Ideal Cert.Pre_weights_positive.S8x35x35x4 .f32)
    (h : Cert.Pre_weights_positive.fn X = fun _ => 1#1) (b : Fin 8) (x y : Fin 35) : 0 < X (ix4 b x y 3) := by
  have h' := congrFun h (ix3 b x y)
  unfold Cert.Pre_weights_positive.fn at h'
  pointwise at h'
  by_contra hn
  rw [decide_eq_false hn] at h'
  exact absurd h' (by decide)

end Cert.Proof
-- ==== Proof.lean ====
/- The certificate: the frames, the unchanged idealization, and the kernel's value against the reference's, where the
   quotient is defined and, under positive weights, everywhere. -/
module

public import proofs.«01_k».proof.Proof.Gen.ReferenceIdeal.Run
public import proofs.«01_k».proof.Defs
public import proofs.«01_k».proof.Proof.Gen.On_quotient_defined
public import proofs.«01_k».proof.Proof.Gen.Pre_weights_positive
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.RefValue
public import proofs.«01_k».proof.Proof.MaskValue
public import proofs.«01_k».proof.Proof.Positive
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's run: its result array ends at `refOut` of its argument, which is unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v23)
            = refOut (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  Cert.ReferenceIdeal.Value.run (F := Ideal) m ρ

/-- Where the coordinate or the weight of the surface is not zero, the kernel's result is the reference's. -/
theorem value_eq (m : (ℓ : Loc Cert.KernelIdeal.nD Cert.KernelIdeal.τ Cert.KernelIdeal.sig) → Buf (Elt Ideal) ℓ)
    (c : Dev Cert.KernelIdeal.nD) (X : FVec Ideal Cert.ReferenceIdeal.S8x35x35x4 .f32)
    (hX : X = m ((c.tc : Thread Cert.KernelIdeal.nD Cert.KernelIdeal.τ).loc Cert.KernelIdeal.main_arg0))
    (b : Fin 8) (u v : Fin 512) (d : Fin 3)
    (h : surf X b u v ⟨d.val, by omega⟩ ≠ 0 ∨ surf X b u v 3 ≠ 0) :
    refOut X (ix4 b u v d) = (kernelOut m c : Vec Ideal Cert.KernelIdeal.S8x512x512x3 .f32) (ix4 b u v d) := by
  rw [refOut_at, kernelOut_at, ← mul_recip _ _ h, hX]

/-- Where the mask holds, the kernel's result is the reference's. -/
theorem masked_eq (m : (ℓ : Loc Cert.KernelIdeal.nD Cert.KernelIdeal.τ Cert.KernelIdeal.sig) → Buf (Elt Ideal) ℓ)
    (c : Dev Cert.KernelIdeal.nD) (X : FVec Ideal Cert.ReferenceIdeal.S8x35x35x4 .f32)
    (hX : X = m ((c.tc : Thread Cert.KernelIdeal.nD Cert.KernelIdeal.τ).loc Cert.KernelIdeal.main_arg0))
    (b : Fin 8) (u v : Fin 512) (d : Fin 3)
    (h : Cert.On_quotient_defined.fn (F := Ideal)
      (m ((c.tc : Thread Cert.KernelIdeal.nD Cert.KernelIdeal.τ).loc Cert.KernelIdeal.main_arg0)) (ix4 b u v d) = 1#1) :
    refOut X (ix4 b u v d) = (kernelOut m c : Vec Ideal Cert.KernelIdeal.S8x512x512x3 .f32) (ix4 b u v d) := by
  rw [← hX] at h
  exact value_eq m c X hX b u v d (mask_at X b u v d h)

/-- The kernel runs to the end and leaves its argument and the semaphores as they were. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does its idealization under the precondition. -/
theorem frame_kernel_ideal_pre : Cert.quiescent_KernelIdeal_pre_weights_positive :=
  fun m ρ _ => Cert.KernelIdeal.Gen.frame m ρ

/-- So does the reference. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩) (ref_run m ρ)

/-- So does the reference under the precondition. -/
theorem frame_ref_pre : Cert.quiescent_ReferenceIdeal_pre_weights_positive := fun m ρ _ =>
  (θ_run Cert.ReferenceIdeal.defs _ _).mono (fun r h => ⟨fun c => (h c).2,
      Idealize.ShloMosaic.sem_eq_zero_of_no_sems (by decide) r.2⟩) (ref_run m ρ)

/-- Idealizing the kernel rewrote nothing. -/
theorem preserves_kernel : Cert.preserves_Kernel_KernelIdeal := trivial

/-- Where the mask holds the kernel and the reference end at the same value. -/
theorem algebraic_on : Cert.algebraic_KernelIdeal_ReferenceIdeal_on_quotient_defined := by
  intro m ρ m' ρ' _ hagree
  refine ⟨fun c => kernelOut m c, ?_, ?_⟩
  · exact (θ_run Cert.KernelIdeal.defs _ _).mono (fun _ h c => ⟨fun i _ => congrFun (h c).1 i, (h c).2⟩) (kernel_run m ρ)
  · refine (θ_run Cert.ReferenceIdeal.defs _ _).mono (fun _ h c => ⟨fun i hi => (congrFun (h c).1 i).trans ?_, (h c).2⟩)
      (ref_run m' ρ')
    have hi' := eq_ix4 (n0 := 8) (n1 := 512) (n2 := 512) (n3 := 3) i
    rw [hi'] at hi ⊢
    exact masked_eq m c _ (hagree c) _ _ _ _ hi

/-- Where every weight is positive the kernel and the reference end at the same array. -/
theorem algebraic_pre : Cert.algebraic_KernelIdeal_ReferenceIdeal_pre_weights_positive := by
  intro m ρ m' ρ' hpre hagree
  refine ⟨fun c => kernelOut m c, ?_, ?_⟩
  · exact kernel_run m ρ
  · refine (θ_run Cert.ReferenceIdeal.defs _ _).mono (fun _ h c => ⟨(h c).1.trans (funext fun i => ?_), (h c).2⟩)
      (ref_run m' ρ')
    have hi' := eq_ix4 (n0 := 8) (n1 := 512) (n2 := 512) (n3 := 3) i
    rw [hi']
    refine value_eq m c _ (hagree c) _ _ _ _ (Or.inr (ne_of_gt (surf_pos _ ?_ _ _ _)))
    rw [hagree c]
    exact weights_pos _ (hpre c)

/-- The claim. -/
theorem claim : Cert.Claim :=
  ⟨Cert.Kernel.Gen.facts, Cert.KernelIdeal.Gen.facts, Cert.ReferenceIdeal.Gen.facts, Cert.Pre_weights_positive.Gen.facts,
    Cert.On_quotient_defined.Gen.facts, frame_kernel, frame_kernel_ideal, frame_kernel_ideal_pre, frame_ref, frame_ref_pre,
    preserves_kernel, algebraic_on, algebraic_pre⟩

end Cert.Proof

end
